-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1RefIdeal (m : (ℓ : Loc Cert.Attn1RefIdeal.nD Cert.Attn1RefIdeal.τ Cert.Attn1RefIdeal.sig) → Buf (Elt Ideal) ℓ) : Prop :=
  True

def Pre_Attn4 (m : (ℓ : Loc Cert.Attn4.nD Cert.Attn4.τ Cert.Attn4.sig) → Buf (Elt Bits) ℓ) : Prop :=
  True

def Pre_Attn4Ideal (m : (ℓ : Loc Cert.Attn4Ideal.nD Cert.Attn4Ideal.τ Cert.Attn4Ideal.sig) → Buf (Elt Ideal) ℓ) : Prop :=
  True

def Pre_Attn4RefIdeal (m : (ℓ : Loc Cert.Attn4RefIdeal.nD Cert.Attn4RefIdeal.τ Cert.Attn4RefIdeal.sig) → Buf (Elt Ideal) ℓ) : Prop :=
  True

def Pre_Attn16 (m : (ℓ : Loc Cert.Attn16.nD Cert.Attn16.τ Cert.Attn16.sig) → Buf (Elt Bits) ℓ) : Prop :=
  True

def Pre_Attn16Ideal (m : (ℓ : Loc Cert.Attn16Ideal.nD Cert.Attn16Ideal.τ Cert.Attn16Ideal.sig) → Buf (Elt Ideal) ℓ) : Prop :=
  True

def Pre_Attn16RefIdeal (m : (ℓ : Loc Cert.Attn16RefIdeal.nD Cert.Attn16RefIdeal.τ Cert.Attn16RefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_Attn1RefIdeal [hAttn1RefIdeal : Cert.Attn1RefIdeal.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0))
      ∧ r.2.sem = fun _ => 0)

def quiescent_Attn4 [hAttn4 : Cert.Attn4.Facts] : Prop :=
  ∀ (m : (ℓ : Loc Cert.Attn4.nD Cert.Attn4.τ Cert.Attn4.sig) → Buf (Elt Bits) ℓ) (g : Dev Cert.Attn4.nD → PrngReg), Pre_Attn4 m →
    θ_run (Cert.Attn4.defs (F := Bits)) (onTc (τ := Cert.Attn4.τ) (Cert.Attn4.main (F := Bits))) ⟨m, fun _ => 0, g⟩ (fun r => (∀ c : Dev Cert.Attn4.nD,
      r.2.mem ((c.tc : Thread Cert.Attn4.nD Cert.Attn4.τ).loc Cert.Attn4.main_arg0) = m ((c.tc : Thread Cert.Attn4.nD Cert.Attn4.τ).loc Cert.Attn4.main_arg0))
      ∧ r.2.sem = fun _ => 0)

def quiescent_Attn4Ideal [hAttn4Ideal : Cert.Attn4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0))
      ∧ r.2.sem = fun _ => 0)

def quiescent_Attn4RefIdeal [hAttn4RefIdeal : Cert.Attn4RefIdeal.Facts] : Prop :=
  ∀ (m : (ℓ : Loc Cert.Attn4RefIdeal.nD Cert.Attn4RefIdeal.τ Cert.Attn4RefIdeal.sig) → Buf (Elt Ideal) ℓ) (g : Dev Cert.Attn4RefIdeal.nD → PrngReg), Pre_Attn4RefIdeal m →
    θ_run (Cert.Attn4RefIdeal.defs (F := Ideal)) (onTc (τ := Cert.Attn4RefIdeal.τ) (Cert.Attn4RefIdeal.main (F := Ideal))) ⟨m, fun _ => 0, g⟩ (fun r => (∀ c : Dev Cert.Attn4RefIdeal.nD,
      r.2.mem ((c.tc : Thread Cert.Attn4RefIdeal.nD Cert.Attn4RefIdeal.τ).loc Cert.Attn4RefIdeal.main_arg0) = m ((c.tc : Thread Cert.Attn4RefIdeal.nD Cert.Attn4RefIdeal.τ).loc Cert.Attn4RefIdeal.main_arg0))
      ∧ r.2.sem = fun _ => 0)

def quiescent_Attn16 [hAttn16 : Cert.Attn16.Facts] : Prop :=
  ∀ (m : (ℓ : Loc Cert.Attn16.nD Cert.Attn16.τ Cert.Attn16.sig) → Buf (Elt Bits) ℓ) (g : Dev Cert.Attn16.nD → PrngReg), Pre_Attn16 m →
    θ_run (Cert.Attn16.defs (F := Bits)) (onTc (τ := Cert.Attn16.τ) (Cert.Attn16.main (F := Bits))) ⟨m, fun _ => 0, g⟩ (fun r => (∀ c : Dev Cert.Attn16.nD,
      r.2.mem ((c.tc : Thread Cert.Attn16.nD Cert.Attn16.τ).loc Cert.Attn16.main_arg0) = m ((c.tc : Thread Cert.Attn16.nD Cert.Attn16.τ).loc Cert.Attn16.main_arg0))
      ∧ r.2.sem = fun _ => 0)

def quiescent_Attn16Ideal [hAttn16Ideal : Cert.Attn16Ideal.Facts] : Prop :=
  ∀ (m : (ℓ : Loc Cert.Attn16Ideal.nD Cert.Attn16Ideal.τ Cert.Attn16Ideal.sig) → Buf (Elt Ideal) ℓ) (g : Dev Cert.Attn16Ideal.nD → PrngReg), Pre_Attn16Ideal m →
    θ_run (Cert.Attn16Ideal.defs (F := Ideal)) (onTc (τ := Cert.Attn16Ideal.τ) (Cert.Attn16Ideal.main (F := Ideal))) ⟨m, fun _ => 0, g⟩ (fun r => (∀ c : Dev Cert.Attn16Ideal.nD,
      r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ r.2.sem = fun _ => 0)

def quiescent_Attn16RefIdeal [hAttn16RefIdeal : Cert.Attn16RefIdeal.Facts] : Prop :=
  ∀ (m : (ℓ : Loc Cert.Attn16RefIdeal.nD Cert.Attn16RefIdeal.τ Cert.Attn16RefIdeal.sig) → Buf (Elt Ideal) ℓ) (g : Dev Cert.Attn16RefIdeal.nD → PrngReg), Pre_Attn16RefIdeal m →
    θ_run (Cert.Attn16RefIdeal.defs (F := Ideal)) (onTc (τ := Cert.Attn16RefIdeal.τ) (Cert.Attn16RefIdeal.main (F := Ideal))) ⟨m, fun _ => 0, g⟩ (fun r => (∀ c : Dev Cert.Attn16RefIdeal.nD,
      r.2.mem ((c.tc : Thread Cert.Attn16RefIdeal.nD Cert.Attn16RefIdeal.τ).loc Cert.Attn16RefIdeal.main_arg0) = m ((c.tc : Thread Cert.Attn16RefIdeal.nD Cert.Attn16RefIdeal.τ).loc Cert.Attn16RefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v70_0)) (v1 : (c : Dev Cert.ProjIdeal.nD) → Buf (Elt Ideal) ((c.tc : Thread Cert.ProjIdeal.nD Cert.ProjIdeal.τ).loc Cert.ProjIdeal.main_v70_1)) (v2 : (c : Dev Cert.ProjIdeal.nD) → Buf (Elt Ideal) ((c.tc : Thread Cert.ProjIdeal.nD Cert.ProjIdeal.τ).loc Cert.ProjIdeal.main_v70_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v70_0) = v0 c
          ∧ r.2.mem ((c.tc : Thread Cert.ProjIdeal.nD Cert.ProjIdeal.τ).loc Cert.ProjIdeal.main_v70_1) = v1 c
          ∧ r.2.mem ((c.tc : Thread Cert.ProjIdeal.nD Cert.ProjIdeal.τ).loc Cert.ProjIdeal.main_v70_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v102) = v0 c
          ∧ r.2.mem ((c.tc : Thread Cert.ProjRefIdeal.nD Cert.ProjRefIdeal.τ).loc Cert.ProjRefIdeal.main_v112) = v1 c
          ∧ r.2.mem ((c.tc : Thread Cert.ProjRefIdeal.nD Cert.ProjRefIdeal.τ).loc Cert.ProjRefIdeal.main_v122) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Attn1_Attn1Ideal : Prop :=
  True

def algebraic_Attn1Ideal_Attn1RefIdeal [hAttn1Ideal : Cert.Attn1Ideal.Facts] [hAttn1RefIdeal : Cert.Attn1RefIdeal.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Attn1RefIdeal.nD Cert.Attn1RefIdeal.τ Cert.Attn1RefIdeal.sig) → Buf (Elt Ideal) ℓ) (g' : Dev Cert.Attn1RefIdeal.nD → PrngReg), Pre_Attn1Ideal m →
    (∀ c : Dev Cert.Attn1Ideal.nD,
      m' ((c.tc : Thread Cert.Attn1RefIdeal.nD Cert.Attn1RefIdeal.τ).loc Cert.Attn1RefIdeal.main_arg0) = m ((c.tc : Thread Cert.Attn1Ideal.nD Cert.Attn1Ideal.τ).loc Cert.Attn1Ideal.main_arg0)) →
    ∃ (v0 : (c : Dev Cert.Attn1Ideal.nD) → Buf (Elt Ideal) ((c.tc : Thread Cert.Attn1Ideal.nD Cert.Attn1Ideal.τ).loc Cert.Attn1Ideal.main_v0_0)) (v1 : (c : Dev Cert.Attn1Ideal.nD) → Buf (Elt Ideal) ((c.tc : Thread Cert.Attn1Ideal.nD Cert.Attn1Ideal.τ).loc Cert.Attn1Ideal.main_v0_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v0_0) = v0 c
          ∧ r.2.mem ((c.tc : Thread Cert.Attn1Ideal.nD Cert.Attn1Ideal.τ).loc Cert.Attn1Ideal.main_v0_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ θ_run (Cert.Attn1RefIdeal.defs (F := Ideal)) (onTc (τ := Cert.Attn1RefIdeal.τ) (Cert.Attn1RefIdeal.main (F := Ideal))) ⟨m', fun _ => 0, g'⟩ (fun r => ∀ c : Dev Cert.Attn1RefIdeal.nD,
          r.2.mem ((c.tc : Thread Cert.Attn1RefIdeal.nD Cert.Attn1RefIdeal.τ).loc Cert.Attn1RefIdeal.main_v37) = v0 c
          ∧ r.2.mem ((c.tc : Thread Cert.Attn1RefIdeal.nD Cert.Attn1RefIdeal.τ).loc Cert.Attn1RefIdeal.main_v35) = v1 c
          ∧ r.2.mem ((c.tc : Thread Cert.Attn1RefIdeal.nD Cert.Attn1RefIdeal.τ).loc Cert.Attn1RefIdeal.main_arg0) = m' ((c.tc : Thread Cert.Attn1RefIdeal.nD Cert.Attn1RefIdeal.τ).loc Cert.Attn1RefIdeal.main_arg0))

def preserves_Attn4_Attn4Ideal : Prop :=
  True

def algebraic_Attn4Ideal_Attn4RefIdeal [hAttn4Ideal : Cert.Attn4Ideal.Facts] [hAttn4RefIdeal : Cert.Attn4RefIdeal.Facts] : Prop :=
  ∀ (m : (ℓ : Loc Cert.Attn4Ideal.nD Cert.Attn4Ideal.τ Cert.Attn4Ideal.sig) → Buf (Elt Ideal) ℓ) (g : Dev Cert.Attn4Ideal.nD → PrngReg)
    (m' : (ℓ : Loc Cert.Attn4RefIdeal.nD Cert.Attn4RefIdeal.τ Cert.Attn4RefIdeal.sig) → Buf (Elt Ideal) ℓ) (g' : Dev Cert.Attn4RefIdeal.nD → PrngReg), Pre_Attn4Ideal m →
    (∀ c : Dev Cert.Attn4Ideal.nD,
      m' ((c.tc : Thread Cert.Attn4RefIdeal.nD Cert.Attn4RefIdeal.τ).loc Cert.Attn4RefIdeal.main_arg0) = m ((c.tc : Thread Cert.Attn4Ideal.nD Cert.Attn4Ideal.τ).loc Cert.Attn4Ideal.main_arg0)) →
    ∃ (v0 : (c : Dev Cert.Attn4Ideal.nD) → Buf (Elt Ideal) ((c.tc : Thread Cert.Attn4Ideal.nD Cert.Attn4Ideal.τ).loc Cert.Attn4Ideal.main_v0_0)) (v1 : (c : Dev Cert.Attn4Ideal.nD) → Buf (Elt Ideal) ((c.tc : Thread Cert.Attn4Ideal.nD Cert.Attn4Ideal.τ).loc Cert.Attn4Ideal.main_v0_1)),
      θ_run (Cert.Attn4Ideal.defs (F := Ideal)) (onTc (τ := Cert.Attn4Ideal.τ) (Cert.Attn4Ideal.main (F := Ideal))) ⟨m, fun _ => 0, g⟩ (fun r => ∀ c : Dev Cert.Attn4Ideal.nD,
          r.2.mem ((c.tc : Thread Cert.Attn4Ideal.nD Cert.Attn4Ideal.τ).loc Cert.Attn4Ideal.main_v0_0) = v0 c
          ∧ r.2.mem ((c.tc : Thread Cert.Attn4Ideal.nD Cert.Attn4Ideal.τ).loc Cert.Attn4Ideal.main_v0_1) = v1 c
          ∧ r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0))
      ∧ θ_run (Cert.Attn4RefIdeal.defs (F := Ideal)) (onTc (τ := Cert.Attn4RefIdeal.τ) (Cert.Attn4RefIdeal.main (F := Ideal))) ⟨m', fun _ => 0, g'⟩ (fun r => ∀ c : Dev Cert.Attn4RefIdeal.nD,
          r.2.mem ((c.tc : Thread Cert.Attn4RefIdeal.nD Cert.Attn4RefIdeal.τ).loc Cert.Attn4RefIdeal.main_v37) = v0 c
          ∧ r.2.mem ((c.tc : Thread Cert.Attn4RefIdeal.nD Cert.Attn4RefIdeal.τ).loc Cert.Attn4RefIdeal.main_v35) = v1 c
          ∧ r.2.mem ((c.tc : Thread Cert.Attn4RefIdeal.nD Cert.Attn4RefIdeal.τ).loc Cert.Attn4RefIdeal.main_arg0) = m' ((c.tc : Thread Cert.Attn4RefIdeal.nD Cert.Attn4RefIdeal.τ).loc Cert.Attn4RefIdeal.main_arg0))

def preserves_Attn16_Attn16Ideal : Prop :=
  True

def algebraic_Attn16Ideal_Attn16RefIdeal [hAttn16Ideal : Cert.Attn16Ideal.Facts] [hAttn16RefIdeal : Cert.Attn16RefIdeal.Facts] : Prop :=
  ∀ (m : (ℓ : Loc Cert.Attn16Ideal.nD Cert.Attn16Ideal.τ Cert.Attn16Ideal.sig) → Buf (Elt Ideal) ℓ) (g : Dev Cert.Attn16Ideal.nD → PrngReg)
    (m' : (ℓ : Loc Cert.Attn16RefIdeal.nD Cert.Attn16RefIdeal.τ Cert.Attn16RefIdeal.sig) → Buf (Elt Ideal) ℓ) (g' : Dev Cert.Attn16RefIdeal.nD → PrngReg), Pre_Attn16Ideal m →
    (∀ c : Dev Cert.Attn16Ideal.nD,
      m' ((c.tc : Thread Cert.Attn16RefIdeal.nD Cert.Attn16RefIdeal.τ).loc Cert.Attn16RefIdeal.main_arg0) = m ((c.tc : Thread Cert.Attn16Ideal.nD Cert.Attn16Ideal.τ).loc Cert.Attn16Ideal.main_arg0)) →
    ∃ (v0 : (c : Dev Cert.Attn16Ideal.nD) → Buf (Elt Ideal) ((c.tc : Thread Cert.Attn16Ideal.nD Cert.Attn16Ideal.τ).loc Cert.Attn16Ideal.main_v0_0)) (v1 : (c : Dev Cert.Attn16Ideal.nD) → Buf (Elt Ideal) ((c.tc : Thread Cert.Attn16Ideal.nD Cert.Attn16Ideal.τ).loc Cert.Attn16Ideal.main_v0_1)),
      θ_run (Cert.Attn16Ideal.defs (F := Ideal)) (onTc (τ := Cert.Attn16Ideal.τ) (Cert.Attn16Ideal.main (F := Ideal))) ⟨m, fun _ => 0, g⟩ (fun r => ∀ c : Dev Cert.Attn16Ideal.nD,
          r.2.mem ((c.tc : Thread Cert.Attn16Ideal.nD Cert.Attn16Ideal.τ).loc Cert.Attn16Ideal.main_v0_0) = v0 c
          ∧ r.2.mem ((c.tc : Thread Cert.Attn16Ideal.nD Cert.Attn16Ideal.τ).loc Cert.Attn16Ideal.main_v0_1) = v1 c
          ∧ r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ θ_run (Cert.Attn16RefIdeal.defs (F := Ideal)) (onTc (τ := Cert.Attn16RefIdeal.τ) (Cert.Attn16RefIdeal.main (F := Ideal))) ⟨m', fun _ => 0, g'⟩ (fun r => ∀ c : Dev Cert.Attn16RefIdeal.nD,
          r.2.mem ((c.tc : Thread Cert.Attn16RefIdeal.nD Cert.Attn16RefIdeal.τ).loc Cert.Attn16RefIdeal.main_v37) = v0 c
          ∧ r.2.mem ((c.tc : Thread Cert.Attn16RefIdeal.nD Cert.Attn16RefIdeal.τ).loc Cert.Attn16RefIdeal.main_v35) = v1 c
          ∧ r.2.mem ((c.tc : Thread Cert.Attn16RefIdeal.nD Cert.Attn16RefIdeal.τ).loc Cert.Attn16RefIdeal.main_arg0) = m' ((c.tc : Thread Cert.Attn16RefIdeal.nD Cert.Attn16RefIdeal.τ).loc Cert.Attn16RefIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def Claim : Prop :=
  ∃ (hProj : Cert.Proj.Facts) (hProjIdeal : Cert.ProjIdeal.Facts) (hProjRefIdeal : Cert.ProjRefIdeal.Facts) (hAttn1 : Cert.Attn1.Facts) (hAttn1Ideal : Cert.Attn1Ideal.Facts) (hAttn1RefIdeal : Cert.Attn1RefIdeal.Facts) (hAttn4 : Cert.Attn4.Facts) (hAttn4Ideal : Cert.Attn4Ideal.Facts) (hAttn4RefIdeal : Cert.Attn4RefIdeal.Facts) (hAttn16 : Cert.Attn16.Facts) (hAttn16Ideal : Cert.Attn16Ideal.Facts) (hAttn16RefIdeal : Cert.Attn16RefIdeal.Facts) (hFfn : Cert.Ffn.Facts) (hFfnIdeal : Cert.FfnIdeal.Facts) (hFfnRefIdeal : Cert.FfnRefIdeal.Facts),
    quiescent_Proj (hProj := hProj)
    ∧ quiescent_ProjIdeal (hProjIdeal := hProjIdeal)
    ∧ quiescent_ProjRefIdeal (hProjRefIdeal := hProjRefIdeal)
    ∧ quiescent_Attn1 (hAttn1 := hAttn1)
    ∧ quiescent_Attn1Ideal (hAttn1Ideal := hAttn1Ideal)
    ∧ quiescent_Attn1RefIdeal (hAttn1RefIdeal := hAttn1RefIdeal)
    ∧ quiescent_Attn4 (hAttn4 := hAttn4)
    ∧ quiescent_Attn4Ideal (hAttn4Ideal := hAttn4Ideal)
    ∧ quiescent_Attn4RefIdeal (hAttn4RefIdeal := hAttn4RefIdeal)
    ∧ quiescent_Attn16 (hAttn16 := hAttn16)
    ∧ quiescent_Attn16Ideal (hAttn16Ideal := hAttn16Ideal)
    ∧ quiescent_Attn16RefIdeal (hAttn16RefIdeal := hAttn16RefIdeal)
    ∧ quiescent_Ffn (hFfn := hFfn)
    ∧ quiescent_FfnIdeal (hFfnIdeal := hFfnIdeal)
    ∧ quiescent_FfnRefIdeal (hFfnRefIdeal := hFfnRefIdeal)
    ∧ preserves_Proj_ProjIdeal
    ∧ algebraic_ProjIdeal_ProjRefIdeal (hProjIdeal := hProjIdeal) (hProjRefIdeal := hProjRefIdeal)
    ∧ preserves_Attn1_Attn1Ideal
    ∧ algebraic_Attn1Ideal_Attn1RefIdeal (hAttn1Ideal := hAttn1Ideal) (hAttn1RefIdeal := hAttn1RefIdeal)
    ∧ preserves_Attn4_Attn4Ideal
    ∧ algebraic_Attn4Ideal_Attn4RefIdeal (hAttn4Ideal := hAttn4Ideal) (hAttn4RefIdeal := hAttn4RefIdeal)
    ∧ preserves_Attn16_Attn16Ideal
    ∧ algebraic_Attn16Ideal_Attn16RefIdeal (hAttn16Ideal := hAttn16Ideal) (hAttn16RefIdeal := hAttn16RefIdeal)
    ∧ preserves_Ffn_FfnIdeal
    ∧ algebraic_FfnIdeal_FfnRefIdeal (hFfnIdeal := hFfnIdeal) (hFfnRefIdeal := hFfnRefIdeal)
-- ==== Proj.lean ====
abbrev S4x4096x1024 : Shape := ⟨3, ![4, 4096, 1024]⟩
abbrev S1024 : Shape := ⟨1, ![1024]⟩
abbrev S1024x7168 : Shape := ⟨2, ![1024, 7168]⟩
abbrev S16384x1024 : Shape := ⟨2, ![16384, 1024]⟩
abbrev S8 : Shape := ⟨1, ![8]⟩
abbrev S_ : Shape := ⟨0, ![]⟩
abbrev S1024x1 : Shape := ⟨2, ![1024, 1]⟩
abbrev S1x8 : Shape := ⟨2, ![1, 8]⟩
abbrev S1024x8 : Shape := ⟨2, ![1024, 8]⟩
abbrev S1x1024x1x8 : Shape := ⟨4, ![1, 1024, 1, 8]⟩
abbrev S1x1024x16x8 : Shape := ⟨4, ![1, 1024, 16, 8]⟩
abbrev S1024x128 : Shape := ⟨2, ![1024, 128]⟩
abbrev S128 : Shape := ⟨1, ![128]⟩
abbrev S1x128 : Shape := ⟨2, ![1, 128]⟩
abbrev S4 : Shape := ⟨1, ![4]⟩
abbrev S4x1 : Shape := ⟨2, ![4, 1]⟩
abbrev S4x8 : Shape := ⟨2, ![4, 8]⟩
abbrev S1x4x1x8 : Shape := ⟨4, ![1, 4, 1, 8]⟩
abbrev S1x4x16x8 : Shape := ⟨4, ![1, 4, 16, 8]⟩
abbrev S4x128 : Shape := ⟨2, ![4, 128]⟩
abbrev S4x1x128 : Shape := ⟨3, ![4, 1, 128]⟩
abbrev S1x1024 : Shape := ⟨2, ![1, 1024]⟩
abbrev S4x1x4096x1536 : Shape := ⟨4, ![4, 1, 4096, 1536]⟩
abbrev S4x4x1024x1536 : Shape := ⟨4, ![4, 4, 1024, 1536]⟩
abbrev S4x16x256x1536 : Shape := ⟨4, ![4, 16, 256, 1536]⟩
abbrev S1024x1024 : Shape := ⟨2, ![1024, 1024]⟩
abbrev S1024x4608 : Shape := ⟨2, ![1024, 4608]⟩
abbrev S1x1x128 : Shape := ⟨3, ![1, 1, 128]⟩
abbrev S1x1x1024x1536 : Shape := ⟨4, ![1, 1, 1024, 1536]⟩
abbrev S1x4x256x1536 : Shape := ⟨4, ![1, 4, 256, 1536]⟩
abbrev S1x16x64x1536 : Shape := ⟨4, ![1, 16, 64, 1536]⟩
abbrev S8x1024x128 : Shape := ⟨3, ![8, 1024, 128]⟩
abbrev S2x1024x128 : Shape := ⟨3, ![2, 1024, 128]⟩
abbrev S1x1024x128 : Shape := ⟨3, ![1, 1024, 128]⟩
abbrev S1024x512 : Shape := ⟨2, ![1024, 512]⟩
abbrev S1x1x1024x128 : Shape := ⟨4, ![1, 1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 131
  | .vmem => 18
  | .smem => 0
  | _ => 0

abbrev hbmTy0_0 (i : Nat) : BufTy := match i % 128 with
  | 0 => ⟨S4x4096x1024, .f32⟩
  | 1 => ⟨S1024, .f32⟩
  | 2 => ⟨S1024x7168, .f32⟩
  | 3 => ⟨S16384x1024, .f32⟩
  | 4 => ⟨S1024, .i32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S1024, .f32⟩
  | 20 => ⟨S1024x1, .f32⟩
  | 21 => ⟨S1x8, .f32⟩
  | 22 => ⟨S1024x8, .f32⟩
  | 23 => ⟨S1024x8, .f32⟩
  | 24 => ⟨S1024x8, .f32⟩
  | 25 => ⟨S1024x8, .f32⟩
  | 26 => ⟨S1x1024x1x8, .f32⟩
  | 27 => ⟨S1x1024x16x8, .f32⟩
  | 28 => ⟨S1024x128, .f32⟩
  | 29 => ⟨S1024x8, .f32⟩
  | 30 => ⟨S1x1024x1x8, .f32⟩
  | 31 => ⟨S1x1024x16x8, .f32⟩
  | 32 => ⟨S1024x128, .f32⟩
  | 33 => ⟨S128, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S128, .i32⟩
  | 41 => ⟨S128, .i32⟩
  | 42 => ⟨S_, .i32⟩
  | 43 => ⟨S128, .i32⟩
  | 44 => ⟨S128, .i1⟩
  | 45 => ⟨S_, .i32⟩
  | 46 => ⟨S128, .i32⟩
  | 47 => ⟨S128, .i1⟩
  | 48 => ⟨S_, .i32⟩
  | 49 => ⟨S_, .i1⟩
  | 50 => ⟨S128, .i1⟩
  | 51 => ⟨S128, .i1⟩
  | 52 => ⟨S128, .i1⟩
  | 53 => ⟨S128, .i32⟩
  | 54 => ⟨S128, .i32⟩
  | 55 => ⟨S128, .i32⟩
  | 56 => ⟨S_, .i32⟩
  | 57 => ⟨S128, .i32⟩
  | 58 => ⟨S128, .i1⟩
  | 59 => ⟨S1x128, .i1⟩
  | 60 => ⟨S1024x128, .f32⟩
  | 61 => ⟨S1024x128, .i1⟩
  | 62 => ⟨S1024x128, .f32⟩
  | 63 => ⟨S4, .i32⟩
  | 64 => ⟨S_, .i32⟩
  | 65 => ⟨S4, .i32⟩
  | 66 => ⟨S4, .i32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S4, .f32⟩
  | 82 => ⟨S4x1, .f32⟩
  | 83 => ⟨S1x8, .f32⟩
  | 84 => ⟨S4x8, .f32⟩
  | 85 => ⟨S4x8, .f32⟩
  | 86 => ⟨S4x8, .f32⟩
  | 87 => ⟨S4x8, .f32⟩
  | 88 => ⟨S1x4x1x8, .f32⟩
  | 89 => ⟨S1x4x16x8, .f32⟩
  | 90 => ⟨S4x128, .f32⟩
  | 91 => ⟨S4x8, .f32⟩
  | 92 => ⟨S1x4x1x8, .f32⟩
  | 93 => ⟨S1x4x16x8, .f32⟩
  | 94 => ⟨S4x128, .f32⟩
  | 95 => ⟨S128, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S128, .i32⟩
  | 103 => ⟨S128, .i32⟩
  | 104 => ⟨S_, .i32⟩
  | 105 => ⟨S128, .i32⟩
  | 106 => ⟨S128, .i1⟩
  | 107 => ⟨S_, .i32⟩
  | 108 => ⟨S128, .i32⟩
  | 109 => ⟨S128, .i1⟩
  | 110 => ⟨S_, .i32⟩
  | 111 => ⟨S_, .i1⟩
  | 112 => ⟨S128, .i1⟩
  | 113 => ⟨S128, .i1⟩
  | 114 => ⟨S128, .i1⟩
  | 115 => ⟨S128, .i32⟩
  | 116 => ⟨S128, .i32⟩
  | 117 => ⟨S128, .i32⟩
  | 118 => ⟨S_, .i32⟩
  | 119 => ⟨S128, .i32⟩
  | 120 => ⟨S128, .i1⟩
  | 121 => ⟨S1x128, .i1⟩
  | 122 => ⟨S4x128, .f32⟩
  | 123 => ⟨S4x128, .i1⟩
  | 124 => ⟨S4x128, .f32⟩
  | 125 => ⟨S4x1x128, .f32⟩
  | 126 => ⟨S4x1x128, .f32⟩
  | 127 => ⟨S1x1024, .f32⟩
  | _ => ⟨S4x4096x1024, .f32⟩

abbrev hbmTy0_1 (i : Nat) : BufTy := match i % 128 with
  | 0 => ⟨S4x1x4096x1536, .bf16⟩
  | 1 => ⟨S4x4x1024x1536, .bf16⟩
  | 2 => ⟨S4x16x256x1536, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4608, .f32⟩
  | .local _ .vmem, ⟨4, _⟩ => ⟨S1024x128, .f32⟩
  | .local _ .vmem, ⟨5, _⟩ => ⟨S1024x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x1024x1536, .bf16⟩
  | .local _ .vmem, ⟨11, _⟩ => ⟨S1x1x1024x1536, .bf16⟩
  | .local _ .vmem, ⟨12, _⟩ => ⟨S1x4x256x1536, .bf16⟩
  | .local _ .vmem, ⟨13, _⟩ => ⟨S1x4x256x1536, .bf16⟩
  | .local _ .vmem, ⟨14, _⟩ => ⟨S1x16x64x1536, .bf16⟩
  | .local _ .vmem, ⟨15, _⟩ => ⟨S1x16x64x1536, .bf16⟩
  | .local _ .vmem, ⟨16, _⟩ => ⟨S8x1024x128, .f32⟩
  | .local _ .vmem, ⟨17, _⟩ => ⟨S2x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v27 : Ref sig .tc := ⟨.hbm, 55, rfl⟩
abbrev main_c_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call1_v0 : Ref sig .tc := ⟨.hbm, 61, rfl⟩
abbrev main_v32 : Ref sig .tc := ⟨.hbm, 62, rfl⟩
abbrev main_v33 : Ref sig .tc := ⟨.hbm, 63, rfl⟩
abbrev main_c_4 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_9 : Ref sig .tc := ⟨.hbm, 96, rfl⟩
abbrev main_call2_v0 : Ref sig .tc := ⟨.hbm, 97, rfl⟩
abbrev main_call2_c : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_c_1 : Ref sig .tc := ⟨.hbm, 104, rfl⟩
abbrev main_call2_v5 : Ref sig .tc := ⟨.hbm, 105, rfl⟩
abbrev main_call2_v6 : Ref sig .tc := ⟨.hbm, 106, rfl⟩
abbrev main_call2_c_2 : Ref sig .tc := ⟨.hbm, 107, rfl⟩
abbrev main_call2_v7 : Ref sig .tc := ⟨.hbm, 108, rfl⟩
abbrev main_call2_v8 : Ref sig .tc := ⟨.hbm, 109, rfl⟩
abbrev main_call2_c_3 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_v61 : Ref sig .tc := ⟨.hbm, 117, rfl⟩
abbrev main_c_10 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_call3_v0 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70_0 : Ref sig .tc := ⟨.hbm, 128, rfl⟩
abbrev main_v70_1 : Ref sig .tc := ⟨.hbm, 129, rfl⟩
abbrev main_v70_2 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_6 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x64x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S4x4096x1024 : Shape := ⟨3, ![4, 4096, 1024]⟩
abbrev S1024 : Shape := ⟨1, ![1024]⟩
abbrev S1024x7168 : Shape := ⟨2, ![1024, 7168]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7168 : Shape := ⟨3, ![4, 4096, 7168]⟩
abbrev S4096 : Shape := ⟨1, ![4096]⟩
abbrev S4x4096x1536 : Shape := ⟨3, ![4, 4096, 1536]⟩
abbrev S4x4096x24x64 : Shape := ⟨4, ![4, 4096, 24, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x24x8 : Shape := ⟨4, ![4, 4096, 24, 8]⟩
abbrev S4x4096x24x16 : Shape := ⟨4, ![4, 4096, 24, 16]⟩
abbrev S4x4096x24x48 : Shape := ⟨4, ![4, 4096, 24, 48]⟩
abbrev S4x4096x8x64 : Shape := ⟨4, ![4, 4096, 8, 64]⟩
abbrev S4x4096x1x8x64 : Shape := ⟨5, ![4, 4096, 1, 8, 64]⟩
abbrev S4x4096x3x8x64 : Shape := ⟨5, ![4, 4096, 3, 8, 64]⟩
abbrev S4x4096x1x1536 : Shape := ⟨4, ![4, 4096, 1, 1536]⟩
abbrev S4x1x4096x1536 : Shape := ⟨4, ![4, 1, 4096, 1536]⟩
abbrev S4x1024x4x1536 : Shape := ⟨4, ![4, 1024, 4, 1536]⟩
abbrev S4x4x1024x1536 : Shape := ⟨4, ![4, 4, 1024, 1536]⟩
abbrev S4x256x16x1536 : Shape := ⟨4, ![4, 256, 16, 1536]⟩
abbrev S4x16x256x1536 : Shape := ⟨4, ![4, 16, 256, 1536]⟩

abbrev nBuf : Space → Nat
  | .hbm => 138
  | .vmem => 0
  | .smem => 0
  | _ => 0

abbrev hbmTy0_0 (i : Nat) : BufTy := match i % 128 with
  | 0 => ⟨S4x4096x1024, .f32⟩
  | 1 => ⟨S1024, .f32⟩
  | 2 => ⟨S1024x7168, .f32⟩
  | 3 => ⟨S4x4096x1024, .f32⟩
  | 4 => ⟨S_, .f32⟩
  | 5 => ⟨S4x4096, .f32⟩
  | 6 => ⟨S4x4096x1, .f32⟩
  | 7 => ⟨S_, .f32⟩
  | 8 => ⟨S4x4096x1, .f32⟩
  | 9 => ⟨S4x4096x1, .f32⟩
  | 10 => ⟨S_, .f32⟩
  | 11 => ⟨S4x4096x1, .f32⟩
  | 12 => ⟨S4x4096x1, .f32⟩
  | 13 => ⟨S4x4096x1, .f32⟩
  | 14 => ⟨S4x4096x1024, .f32⟩
  | 15 => ⟨S4x4096x1024, .f32⟩
  | 16 => ⟨S1x1x1024, .f32⟩
  | 17 => ⟨S4x4096x1024, .f32⟩
  | 18 => ⟨S4x4096x1024, .f32⟩
  | 19 => ⟨S4x4096x7168, .f32⟩
  | 20 => ⟨S4096, .i32⟩
  | 21 => ⟨S4x4096x1536, .f32⟩
  | 22 => ⟨S4x4096x24x64, .f32⟩
  | 23 => ⟨S4x4096x1536, .f32⟩
  | 24 => ⟨S4x4096x24x64, .f32⟩
  | 25 => ⟨S4x4096x1536, .f32⟩
  | 26 => ⟨S4x4096x24x64, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S4096, .f32⟩
  | 42 => ⟨S4096x1, .f32⟩
  | 43 => ⟨S1x8, .f32⟩
  | 44 => ⟨S4096x8, .f32⟩
  | 45 => ⟨S4096x8, .f32⟩
  | 46 => ⟨S4096x8, .f32⟩
  | 47 => ⟨S4096x8, .f32⟩
  | 48 => ⟨S1x4096x1x8, .f32⟩
  | 49 => ⟨S4096x8, .f32⟩
  | 50 => ⟨S1x4096x1x8, .f32⟩
  | 51 => ⟨S4x4096x24x8, .f32⟩
  | 52 => ⟨S4x4096x24x8, .f32⟩
  | 53 => ⟨S4x4096x24x8, .f32⟩
  | 54 => ⟨S4x4096x24x8, .f32⟩
  | 55 => ⟨S4x4096x24x8, .f32⟩
  | 56 => ⟨S4x4096x24x8, .f32⟩
  | 57 => ⟨S4x4096x24x8, .f32⟩
  | 58 => ⟨S4x4096x24x8, .f32⟩
  | 59 => ⟨S4x4096x24x8, .f32⟩
  | 60 => ⟨S4x4096x24x8, .f32⟩
  | 61 => ⟨S4x4096x24x8, .f32⟩
  | 62 => ⟨S4x4096x24x8, .f32⟩
  | 63 => ⟨S4x4096x24x16, .f32⟩
  | 64 => ⟨S4x4096x24x48, .f32⟩
  | 65 => ⟨S4x4096x24x64, .f32⟩
  | 66 => ⟨S_, .f32⟩
  | 67 => ⟨S4x4096x24x64, .f32⟩
  | 68 => ⟨S4x4096x24x64, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S4096, .f32⟩
  | 84 => ⟨S4096x1, .f32⟩
  | 85 => ⟨S1x8, .f32⟩
  | 86 => ⟨S4096x8, .f32⟩
  | 87 => ⟨S4096x8, .f32⟩
  | 88 => ⟨S4096x8, .f32⟩
  | 89 => ⟨S4096x8, .f32⟩
  | 90 => ⟨S1x4096x1x8, .f32⟩
  | 91 => ⟨S4096x8, .f32⟩
  | 92 => ⟨S1x4096x1x8, .f32⟩
  | 93 => ⟨S4x4096x24x8, .f32⟩
  | 94 => ⟨S4x4096x24x8, .f32⟩
  | 95 => ⟨S4x4096x24x8, .f32⟩
  | 96 => ⟨S4x4096x24x8, .f32⟩
  | 97 => ⟨S4x4096x24x8, .f32⟩
  | 98 => ⟨S4x4096x24x8, .f32⟩
  | 99 => ⟨S4x4096x24x8, .f32⟩
  | 100 => ⟨S4x4096x24x8, .f32⟩
  | 101 => ⟨S4x4096x24x8, .f32⟩
  | 102 => ⟨S4x4096x24x8, .f32⟩
  | 103 => ⟨S4x4096x24x8, .f32⟩
  | 104 => ⟨S4x4096x24x8, .f32⟩
  | 105 => ⟨S4x4096x24x16, .f32⟩
  | 106 => ⟨S4x4096x24x48, .f32⟩
  | 107 => ⟨S4x4096x24x64, .f32⟩
  | 108 => ⟨S4x4096x8x64, .f32⟩
  | 109 => ⟨S4x4096x8x64, .f32⟩
  | 110 => ⟨S4x4096x8x64, .f32⟩
  | 111 => ⟨S4x4096x1x8x64, .f32⟩
  | 112 => ⟨S4x4096x1x8x64, .f32⟩
  | 113 => ⟨S4x4096x1x8x64, .f32⟩
  | 114 => ⟨S4x4096x3x8x64, .f32⟩
  | 115 => ⟨S4x4096x1x1536, .f32⟩
  | 116 => ⟨S4x1x4096x1536, .f32⟩
  | 117 => ⟨S4x1x4096x1536, .bf16⟩
  | 118 => ⟨S4x4096x8x64, .f32⟩
  | 119 => ⟨S4x4096x8x64, .f32⟩
  | 120 => ⟨S4x4096x8x64, .f32⟩
  | 121 => ⟨S4x4096x1x8x64, .f32⟩
  | 122 => ⟨S4x4096x1x8x64, .f32⟩
  | 123 => ⟨S4x4096x1x8x64, .f32⟩
  | 124 => ⟨S4x4096x3x8x64, .f32⟩
  | 125 => ⟨S4x1024x4x1536, .f32⟩
  | 126 => ⟨S4x4x1024x1536, .f32⟩
  | 127 => ⟨S4x4x1024x1536, .bf16⟩
  | _ => ⟨S4x4096x1024, .f32⟩

abbrev hbmTy0_1 (i : Nat) : BufTy := match i % 128 with
  | 0 => ⟨S4x4096x8x64, .f32⟩
  | 1 => ⟨S4x4096x8x64, .f32⟩
  | 2 => ⟨S4x4096x8x64, .f32⟩
  | 3 => ⟨S4x4096x1x8x64, .f32⟩
  | 4 => ⟨S4x4096x1x8x64, .f32⟩
  | 5 => ⟨S4x4096x1x8x64, .f32⟩
  | 6 => ⟨S4x4096x3x8x64, .f32⟩
  | 7 => ⟨S4x256x16x1536, .f32⟩
  | 8 => ⟨S4x16x256x1536, .f32⟩
  | 9 => ⟨S4x16x256x1536, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_cst_8 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_cst_10 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩

abbrev nD : Nat := 1
abbrev τ : Topo := Topo.v7x

variable {F : FTy → Type} [FloatOps F]
-- ==== Attn1.lean ====
abbrev S4x1x4096x1536 : Shape := ⟨4, ![4, 1, 4096, 1536]⟩
abbrev S4x1x4096x512 : Shape := ⟨4, ![4, 1, 4096, 512]⟩
abbrev S4x1x4096x128 : Shape := ⟨4, ![4, 1, 4096, 128]⟩
abbrev S1x1x4096x512 : Shape := ⟨4, ![1, 1, 4096, 512]⟩
abbrev S1x1x4096x128 : Shape := ⟨4, ![1, 1, 4096, 128]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S512x128 : Shape := ⟨2, ![512, 128]⟩
abbrev S1x1x128x512 : Shape := ⟨4, ![1, 1, 128, 512]⟩
abbrev S128x512 : Shape := ⟨2, ![128, 512]⟩
abbrev S1x1x128x128 : Shape := ⟨4, ![1, 1, 128, 128]⟩
abbrev S128 : Shape := ⟨1, ![128]⟩
abbrev S128x1 : Shape := ⟨2, ![128, 1]⟩
abbrev S1x1x256x512 : Shape := ⟨4, ![1, 1, 256, 512]⟩
abbrev S256x512 : Shape := ⟨2, ![256, 512]⟩
abbrev S512x256 : Shape := ⟨2, ![512, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x1x4096x1536, .bf16⟩
  | .hbm, ⟨1, _⟩ => ⟨S4x1x4096x512, .bf16⟩
  | .hbm, ⟨2, _⟩ => ⟨S4x1x4096x128, .f32⟩
  | .local _ .vmem, ⟨0, _⟩ => ⟨S1x1x4096x512, .bf16⟩
  | .local _ .vmem, ⟨1, _⟩ => ⟨S1x1x4096x512, .bf16⟩
  | .local _ .vmem, ⟨2, _⟩ => ⟨S1x1x4096x512, .bf16⟩
  | .local _ .vmem, ⟨3, _⟩ => ⟨S1x1x4096x512, .bf16⟩
  | .local _ .vmem, ⟨4, _⟩ => ⟨S1x1x4096x512, .bf16⟩
  | .local _ .vmem, ⟨5, _⟩ => ⟨S1x1x4096x512, .bf16⟩
  | .local _ .vmem, ⟨6, _⟩ => ⟨S1x1x4096x512, .bf16⟩
  | .local _ .vmem, ⟨7, _⟩ => ⟨S1x1x4096x512, .bf16⟩
  | .local _ .vmem, ⟨8, _⟩ => ⟨S1x1x4096x128, .f32⟩
  | .local _ .vmem, ⟨9, _⟩ => ⟨S1x1x4096x128, .f32⟩
  | _, _ => ⟨S4x1x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, arg1.toNat, c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Attn1RefIdeal.lean ====
abbrev S4x1x4096x1536 : Shape := ⟨4, ![4, 1, 4096, 1536]⟩
abbrev S4x1x4096x3x8x64 : Shape := ⟨6, ![4, 1, 4096, 3, 8, 64]⟩
abbrev S4x1x4096x1x8x64 : Shape := ⟨6, ![4, 1, 4096, 1, 8, 64]⟩
abbrev S4x1x4096x8x64 : Shape := ⟨5, ![4, 1, 4096, 8, 64]⟩
abbrev S4x1x8x4096x4096 : Shape := ⟨5, ![4, 1, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x1x8x4096 : Shape := ⟨4, ![4, 1, 8, 4096]⟩
abbrev S4x1x8x4096x1 : Shape := ⟨5, ![4, 1, 8, 4096, 1]⟩
abbrev S4x1x8x64x4096 : Shape := ⟨5, ![4, 1, 8, 64, 4096]⟩
abbrev S4x1x4096x8 : Shape := ⟨4, ![4, 1, 4096, 8]⟩
abbrev S4x1x4096x112 : Shape := ⟨4, ![4, 1, 4096, 112]⟩
abbrev S4x1x4096x128 : Shape := ⟨4, ![4, 1, 4096, 128]⟩
abbrev S4x1x4096x512 : Shape := ⟨4, ![4, 1, 4096, 512]⟩

abbrev nBuf : Space → Nat
  | .hbm => 49
  | .vmem => 0
  | .smem => 0
  | _ => 0

abbrev bufTy : (tb : Table) → Fin (tcTables nBuf tb) → BufTy
  | .hbm, ⟨0, _⟩ => ⟨S4x1x4096x1536, .bf16⟩
  | .hbm, ⟨1, _⟩ => ⟨S4x1x4096x1536, .f32⟩
  | .hbm, ⟨2, _⟩ => ⟨S4x1x4096x3x8x64, .f32⟩
  | .hbm, ⟨3, _⟩ => ⟨S4x1x4096x1x8x64, .f32⟩
  | .hbm, ⟨4, _⟩ => ⟨S4x1x4096x8x64, .f32⟩
  | .hbm, ⟨5, _⟩ => ⟨S4x1x4096x1x8x64, .f32⟩
  | .hbm, ⟨6, _⟩ => ⟨S4x1x4096x8x64, .f32⟩
  | .hbm, ⟨7, _⟩ => ⟨S4x1x4096x1x8x64, .f32⟩
  | .hbm, ⟨8, _⟩ => ⟨S4x1x4096x8x64, .f32⟩
  | .hbm, ⟨9, _⟩ => ⟨S4x1x8x4096x4096, .f32⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4x1x8x4096x4096, .i1⟩
  | .hbm, ⟨27, _⟩ => ⟨S4x1x8x4096x4096, .f32⟩
  | .hbm, ⟨28, _⟩ => ⟨S4x1x8x4096x4096, .f32⟩
  | .hbm, ⟨29, _⟩ => ⟨S_, .f32⟩
  | .hbm, ⟨30, _⟩ => ⟨S4x1x8x4096, .f32⟩
  | .hbm, ⟨31, _⟩ => ⟨S4x1x8x4096x1, .f32⟩
  | .hbm, ⟨32, _⟩ => ⟨S_, .f32⟩
  | .hbm, ⟨33, _⟩ => ⟨S4x1x8x4096x4096, .f32⟩
  | .hbm, ⟨34, _⟩ => ⟨S4x1x8x4096x4096, .f32⟩
  | .hbm, ⟨35, _⟩ => ⟨S4x1x8x4096x4096, .f32⟩
  | .hbm, ⟨36, _⟩ => ⟨S4x1x8x4096x4096, .f32⟩
  | .hbm, ⟨37, _⟩ => ⟨S_, .f32⟩
  | .hbm, ⟨38, _⟩ => ⟨S4x1x8x4096, .f32⟩
  | .hbm, ⟨39, _⟩ => ⟨S4x1x8x64x4096, .f32⟩
  | .hbm, ⟨40, _⟩ => ⟨S4x1x4096x8x64, .f32⟩
  | .hbm, ⟨41, _⟩ => ⟨S4x1x8x4096, .f32⟩
  | .hbm, ⟨42, _⟩ => ⟨S4x1x4096x8, .f32⟩
  | .hbm, ⟨43, _⟩ => ⟨S4x1x4096x8, .f32⟩
  | .hbm, ⟨44, _⟩ => ⟨S_, .f32⟩
  | .hbm, ⟨45, _⟩ => ⟨S4x1x4096x112, .f32⟩
  | .hbm, ⟨46, _⟩ => ⟨S4x1x4096x128, .f32⟩
  | .hbm, ⟨47, _⟩ => ⟨S4x1x4096x512, .f32⟩
  | .hbm, ⟨48, _⟩ => ⟨S4x1x4096x512, .bf16⟩
  | _, _ => ⟨S4x1x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Attn4.lean ====
abbrev S4x4x1024x1536 : Shape := ⟨4, ![4, 4, 1024, 1536]⟩
abbrev S4x4x1024x512 : Shape := ⟨4, ![4, 4, 1024, 512]⟩
abbrev S4x4x1024x128 : Shape := ⟨4, ![4, 4, 1024, 128]⟩
abbrev S1x2x1024x512 : Shape := ⟨4, ![1, 2, 1024, 512]⟩
abbrev S1x2x1024x128 : Shape := ⟨4, ![1, 2, 1024, 128]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S512x128 : Shape := ⟨2, ![512, 128]⟩
abbrev S1x1x128x512 : Shape := ⟨4, ![1, 1, 128, 512]⟩
abbrev S128x512 : Shape := ⟨2, ![128, 512]⟩
abbrev S1x1x128x128 : Shape := ⟨4, ![1, 1, 128, 128]⟩
abbrev S128 : Shape := ⟨1, ![128]⟩
abbrev S128x1 : Shape := ⟨2, ![128, 1]⟩
abbrev S1x1x256x512 : Shape := ⟨4, ![1, 1, 256, 512]⟩
abbrev S256x512 : Shape := ⟨2, ![256, 512]⟩
abbrev S512x256 : Shape := ⟨2, ![512, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x4x1024x1536, .bf16⟩
  | .hbm, ⟨1, _⟩ => ⟨S4x4x1024x512, .bf16⟩
  | .hbm, ⟨2, _⟩ => ⟨S4x4x1024x128, .f32⟩
  | .local _ .vmem, ⟨0, _⟩ => ⟨S1x2x1024x512, .bf16⟩
  | .local _ .vmem, ⟨1, _⟩ => ⟨S1x2x1024x512, .bf16⟩
  | .local _ .vmem, ⟨2, _⟩ => ⟨S1x2x1024x512, .bf16⟩
  | .local _ .vmem, ⟨3, _⟩ => ⟨S1x2x1024x512, .bf16⟩
  | .local _ .vmem, ⟨4, _⟩ => ⟨S1x2x1024x512, .bf16⟩
  | .local _ .vmem, ⟨5, _⟩ => ⟨S1x2x1024x512, .bf16⟩
  | .local _ .vmem, ⟨6, _⟩ => ⟨S1x2x1024x512, .bf16⟩
  | .local _ .vmem, ⟨7, _⟩ => ⟨S1x2x1024x512, .bf16⟩
  | .local _ .vmem, ⟨8, _⟩ => ⟨S1x2x1024x128, .f32⟩
  | .local _ .vmem, ⟨9, _⟩ => ⟨S1x2x1024x128, .f32⟩
  | _, _ => ⟨S4x4x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, arg1.toNat, c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Attn4RefIdeal.lean ====
abbrev S4x4x1024x1536 : Shape := ⟨4, ![4, 4, 1024, 1536]⟩
abbrev S4x4x1024x3x8x64 : Shape := ⟨6, ![4, 4, 1024, 3, 8, 64]⟩
abbrev S4x4x1024x1x8x64 : Shape := ⟨6, ![4, 4, 1024, 1, 8, 64]⟩
abbrev S4x4x1024x8x64 : Shape := ⟨5, ![4, 4, 1024, 8, 64]⟩
abbrev S4x4x8x1024x1024 : Shape := ⟨5, ![4, 4, 8, 1024, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S4x4x8x1024 : Shape := ⟨4, ![4, 4, 8, 1024]⟩
abbrev S4x4x8x1024x1 : Shape := ⟨5, ![4, 4, 8, 1024, 1]⟩
abbrev S4x4x8x64x1024 : Shape := ⟨5, ![4, 4, 8, 64, 1024]⟩
abbrev S4x4x1024x8 : Shape := ⟨4, ![4, 4, 1024, 8]⟩
abbrev S4x4x1024x112 : Shape := ⟨4, ![4, 4, 1024, 112]⟩
abbrev S4x4x1024x128 : Shape := ⟨4, ![4, 4, 1024, 128]⟩
abbrev S4x4x1024x512 : Shape := ⟨4, ![4, 4, 1024, 512]⟩

abbrev nBuf : Space → Nat
  | .hbm => 49
  | .vmem => 0
  | .smem => 0
  | _ => 0

abbrev bufTy : (tb : Table) → Fin (tcTables nBuf tb) → BufTy
  | .hbm, ⟨0, _⟩ => ⟨S4x4x1024x1536, .bf16⟩
  | .hbm, ⟨1, _⟩ => ⟨S4x4x1024x1536, .f32⟩
  | .hbm, ⟨2, _⟩ => ⟨S4x4x1024x3x8x64, .f32⟩
  | .hbm, ⟨3, _⟩ => ⟨S4x4x1024x1x8x64, .f32⟩
  | .hbm, ⟨4, _⟩ => ⟨S4x4x1024x8x64, .f32⟩
  | .hbm, ⟨5, _⟩ => ⟨S4x4x1024x1x8x64, .f32⟩
  | .hbm, ⟨6, _⟩ => ⟨S4x4x1024x8x64, .f32⟩
  | .hbm, ⟨7, _⟩ => ⟨S4x4x1024x1x8x64, .f32⟩
  | .hbm, ⟨8, _⟩ => ⟨S4x4x1024x8x64, .f32⟩
  | .hbm, ⟨9, _⟩ => ⟨S4x4x8x1024x1024, .f32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S1x1024, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i1⟩
  | .hbm, ⟨20, _⟩ => ⟨S_, .i32⟩
  | .hbm, ⟨21, _⟩ => ⟨S1024x1024, .i32⟩
  | .hbm, ⟨22, _⟩ => ⟨S1024x1024, .i1⟩
  | .hbm, ⟨23, _⟩ => ⟨S1024x1024, .i1⟩
  | .hbm, ⟨24, _⟩ => ⟨S_, .f32⟩
  | .hbm, ⟨25, _⟩ => ⟨S_, .f32⟩
  | .hbm, ⟨26, _⟩ => ⟨S4x4x8x1024x1024, .i1⟩
  | .hbm, ⟨27, _⟩ => ⟨S4x4x8x1024x1024, .f32⟩
  | .hbm, ⟨28, _⟩ => ⟨S4x4x8x1024x1024, .f32⟩
  | .hbm, ⟨29, _⟩ => ⟨S_, .f32⟩
  | .hbm, ⟨30, _⟩ => ⟨S4x4x8x1024, .f32⟩
  | .hbm, ⟨31, _⟩ => ⟨S4x4x8x1024x1, .f32⟩
  | .hbm, ⟨32, _⟩ => ⟨S_, .f32⟩
  | .hbm, ⟨33, _⟩ => ⟨S4x4x8x1024x1024, .f32⟩
  | .hbm, ⟨34, _⟩ => ⟨S4x4x8x1024x1024, .f32⟩
  | .hbm, ⟨35, _⟩ => ⟨S4x4x8x1024x1024, .f32⟩
  | .hbm, ⟨36, _⟩ => ⟨S4x4x8x1024x1024, .f32⟩
  | .hbm, ⟨37, _⟩ => ⟨S_, .f32⟩
  | .hbm, ⟨38, _⟩ => ⟨S4x4x8x1024, .f32⟩
  | .hbm, ⟨39, _⟩ => ⟨S4x4x8x64x1024, .f32⟩
  | .hbm, ⟨40, _⟩ => ⟨S4x4x1024x8x64, .f32⟩
  | .hbm, ⟨41, _⟩ => ⟨S4x4x8x1024, .f32⟩
  | .hbm, ⟨42, _⟩ => ⟨S4x4x1024x8, .f32⟩
  | .hbm, ⟨43, _⟩ => ⟨S4x4x1024x8, .f32⟩
  | .hbm, ⟨44, _⟩ => ⟨S_, .f32⟩
  | .hbm, ⟨45, _⟩ => ⟨S4x4x1024x112, .f32⟩
  | .hbm, ⟨46, _⟩ => ⟨S4x4x1024x128, .f32⟩
  | .hbm, ⟨47, _⟩ => ⟨S4x4x1024x512, .f32⟩
  | .hbm, ⟨48, _⟩ => ⟨S4x4x1024x512, .bf16⟩
  | _, _ => ⟨S4x4x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Attn16.lean ====
abbrev S4x16x256x1536 : Shape := ⟨4, ![4, 16, 256, 1536]⟩
abbrev S4x16x256x512 : Shape := ⟨4, ![4, 16, 256, 512]⟩
abbrev S4x16x256x128 : Shape := ⟨4, ![4, 16, 256, 128]⟩
abbrev S1x8x256x512 : Shape := ⟨4, ![1, 8, 256, 512]⟩
abbrev S1x8x256x128 : Shape := ⟨4, ![1, 8, 256, 128]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S512x128 : Shape := ⟨2, ![512, 128]⟩
abbrev S1x1x128x512 : Shape := ⟨4, ![1, 1, 128, 512]⟩
abbrev S128x512 : Shape := ⟨2, ![128, 512]⟩
abbrev S1x1x128x128 : Shape := ⟨4, ![1, 1, 128, 128]⟩
abbrev S128 : Shape := ⟨1, ![128]⟩
abbrev S128x1 : Shape := ⟨2, ![128, 1]⟩
abbrev S1x1x256x512 : Shape := ⟨4, ![1, 1, 256, 512]⟩
abbrev S256x512 : Shape := ⟨2, ![256, 512]⟩
abbrev S512x256 : Shape := ⟨2, ![512, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x16x256x1536, .bf16⟩
  | .hbm, ⟨1, _⟩ => ⟨S4x16x256x512, .bf16⟩
  | .hbm, ⟨2, _⟩ => ⟨S4x16x256x128, .f32⟩
  | .local _ .vmem, ⟨0, _⟩ => ⟨S1x8x256x512, .bf16⟩
  | .local _ .vmem, ⟨1, _⟩ => ⟨S1x8x256x512, .bf16⟩
  | .local _ .vmem, ⟨2, _⟩ => ⟨S1x8x256x512, .bf16⟩
  | .local _ .vmem, ⟨3, _⟩ => ⟨S1x8x256x512, .bf16⟩
  | .local _ .vmem, ⟨4, _⟩ => ⟨S1x8x256x512, .bf16⟩
  | .local _ .vmem, ⟨5, _⟩ => ⟨S1x8x256x512, .bf16⟩
  | .local _ .vmem, ⟨6, _⟩ => ⟨S1x8x256x512, .bf16⟩
  | .local _ .vmem, ⟨7, _⟩ => ⟨S1x8x256x512, .bf16⟩
  | .local _ .vmem, ⟨8, _⟩ => ⟨S1x8x256x128, .f32⟩
  | .local _ .vmem, ⟨9, _⟩ => ⟨S1x8x256x128, .f32⟩
  | _, _ => ⟨S4x16x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, arg1.toNat, c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Attn16RefIdeal.lean ====
abbrev S4x16x256x1536 : Shape := ⟨4, ![4, 16, 256, 1536]⟩
abbrev S4x16x256x3x8x64 : Shape := ⟨6, ![4, 16, 256, 3, 8, 64]⟩
abbrev S4x16x256x1x8x64 : Shape := ⟨6, ![4, 16, 256, 1, 8, 64]⟩
abbrev S4x16x256x8x64 : Shape := ⟨5, ![4, 16, 256, 8, 64]⟩
abbrev S4x16x8x256x256 : Shape := ⟨5, ![4, 16, 8, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x16x8x256 : Shape := ⟨4, ![4, 16, 8, 256]⟩
abbrev S4x16x8x256x1 : Shape := ⟨5, ![4, 16, 8, 256, 1]⟩
abbrev S4x16x8x64x256 : Shape := ⟨5, ![4, 16, 8, 64, 256]⟩
abbrev S4x16x256x8 : Shape := ⟨4, ![4, 16, 256, 8]⟩
abbrev S4x16x256x112 : Shape := ⟨4, ![4, 16, 256, 112]⟩
abbrev S4x16x256x128 : Shape := ⟨4, ![4, 16, 256, 128]⟩
abbrev S4x16x256x512 : Shape := ⟨4, ![4, 16, 256, 512]⟩

abbrev nBuf : Space → Nat
  | .hbm => 49
  | .vmem => 0
  | .smem => 0
  | _ => 0

abbrev bufTy : (tb : Table) → Fin (tcTables nBuf tb) → BufTy
  | .hbm, ⟨0, _⟩ => ⟨S4x16x256x1536, .bf16⟩
  | .hbm, ⟨1, _⟩ => ⟨S4x16x256x1536, .f32⟩
  | .hbm, ⟨2, _⟩ => ⟨S4x16x256x3x8x64, .f32⟩
  | .hbm, ⟨3, _⟩ => ⟨S4x16x256x1x8x64, .f32⟩
  | .hbm, ⟨4, _⟩ => ⟨S4x16x256x8x64, .f32⟩
  | .hbm, ⟨5, _⟩ => ⟨S4x16x256x1x8x64, .f32⟩
  | .hbm, ⟨6, _⟩ => ⟨S4x16x256x8x64, .f32⟩
  | .hbm, ⟨7, _⟩ => ⟨S4x16x256x1x8x64, .f32⟩
  | .hbm, ⟨8, _⟩ => ⟨S4x16x256x8x64, .f32⟩
  | .hbm, ⟨9, _⟩ => ⟨S4x16x8x256x256, .f32⟩
  | .hbm, ⟨10, _⟩ => ⟨S256, .i32⟩
  | .hbm, ⟨11, _⟩ => ⟨S256x1, .i32⟩
  | .hbm, ⟨12, _⟩ => ⟨S256, .i32⟩
  | .hbm, ⟨13, _⟩ => ⟨S1x256, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S256x256, .i1⟩
  | .hbm, ⟨24, _⟩ => ⟨S_, .f32⟩
  | .hbm, ⟨25, _⟩ => ⟨S_, .f32⟩
  | .hbm, ⟨26, _⟩ => ⟨S4x16x8x256x256, .i1⟩
  | .hbm, ⟨27, _⟩ => ⟨S4x16x8x256x256, .f32⟩
  | .hbm, ⟨28, _⟩ => ⟨S4x16x8x256x256, .f32⟩
  | .hbm, ⟨29, _⟩ => ⟨S_, .f32⟩
  | .hbm, ⟨30, _⟩ => ⟨S4x16x8x256, .f32⟩
  | .hbm, ⟨31, _⟩ => ⟨S4x16x8x256x1, .f32⟩
  | .hbm, ⟨32, _⟩ => ⟨S_, .f32⟩
  | .hbm, ⟨33, _⟩ => ⟨S4x16x8x256x256, .f32⟩
  | .hbm, ⟨34, _⟩ => ⟨S4x16x8x256x256, .f32⟩
  | .hbm, ⟨35, _⟩ => ⟨S4x16x8x256x256, .f32⟩
  | .hbm, ⟨36, _⟩ => ⟨S4x16x8x256x256, .f32⟩
  | .hbm, ⟨37, _⟩ => ⟨S_, .f32⟩
  | .hbm, ⟨38, _⟩ => ⟨S4x16x8x256, .f32⟩
  | .hbm, ⟨39, _⟩ => ⟨S4x16x8x64x256, .f32⟩
  | .hbm, ⟨40, _⟩ => ⟨S4x16x256x8x64, .f32⟩
  | .hbm, ⟨41, _⟩ => ⟨S4x16x8x256, .f32⟩
  | .hbm, ⟨42, _⟩ => ⟨S4x16x256x8, .f32⟩
  | .hbm, ⟨43, _⟩ => ⟨S4x16x256x8, .f32⟩
  | .hbm, ⟨44, _⟩ => ⟨S_, .f32⟩
  | .hbm, ⟨45, _⟩ => ⟨S4x16x256x112, .f32⟩
  | .hbm, ⟨46, _⟩ => ⟨S4x16x256x128, .f32⟩
  | .hbm, ⟨47, _⟩ => ⟨S4x16x256x512, .f32⟩
  | .hbm, ⟨48, _⟩ => ⟨S4x16x256x512, .bf16⟩
  | _, _ => ⟨S4x16x256x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .f32⟩
  | .local _ .vmem, ⟨4, _⟩ => ⟨S1024x2816, .f32⟩
  | .local _ .vmem, ⟨5, _⟩ => ⟨S2816x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.FfnRows.lean ====
module

public import proofs.«01_k».proof.Proof.Gen.FfnIdeal.Value
public import proofs.«01_k».proof.Proof.Gen.FfnRefIdeal.Run
public import Idealize.ShloMosaic.Lib.Pipeline.ValueKit

@[expose] public section

set_option maxRecDepth 16384

noncomputable section

namespace Cert.FfnPf

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- One row normalised by its root mean square and scaled by the gain `g`. -/
def norm (x g : Fin 1024 → EReal) (k : Fin 1024) : EReal :=
  x k * Ideal.rsqrt (Ideal.div (∑ l : Fin 1024, x l * x l) (Ideal.ofBits FTy.f32 1149239296#32)
    + Ideal.ofBits FTy.f32 897988541#32) * g k

/-- One lane of the gated hidden layer: `silu (n @ w_gate) * (n @ w_up)`, `n` a normalised row. -/
def hidden (n : Fin 1024 → EReal) (G U : Vec Ideal S1024x2816 .f32) (l : Fin 2816) : EReal :=
  (∑ k : Fin 1024, n k * G (ix2 k l)) * Ideal.logistic (∑ k : Fin 1024, n k * G (ix2 k l))
    * (∑ k : Fin 1024, n k * U (ix2 k l))

/-- The feed-forward block on one row of the residual, with the last norm. -/
def row (x g : Fin 1024 → EReal) (G U : Vec Ideal S1024x2816 .f32) (D : Vec Ideal S2816x1024 .f32) (g' : Fin 1024 → EReal) :
    Fin 1024 → EReal :=
  norm (fun k => x k + ∑ l : Fin 2816, hidden (norm x g) G U l * D (ix2 l k)) g'

/-- The hidden layer of one block as an array: each row's `hidden`. -/
def act (N : Vec Ideal S1024x1024 .bf16) (G U : Vec Ideal S1024x2816 .f32) : Vec Ideal S1024x2816 .bf16 :=
  fun y => hidden (fun k => N (ix2 (y 0) k)) G U (y 1)

/-- The first payload is the row norm. -/
theorem pay3_at (X : Vec Ideal S1024x1024 .f32) (g : Vec Ideal S1x1024 .f32) (r k : Fin 1024) :
    k0_pay3 X g (ix2 r k) = norm (fun k => X (ix2 r k)) (fun k => g (ix2 0 k)) k := by
  pointwise [k0_pay3]; rfl

/-- The last payload adds the second product to the residual and normalises. -/
theorem pay2_at (X : Vec Ideal S1024x1024 .f32) (A : Vec Ideal S1024x2816 .bf16) (D : Vec Ideal S2816x1024 .f32)
    (g : Vec Ideal S1x1024 .f32) (r k : Fin 1024) :
    k0_pay2 X A D g (ix2 r k) = norm (fun k => X (ix2 r k) + ∑ l : Fin 2816, A (ix2 r l) * D (ix2 l k))
      (fun k => g (ix2 0 k)) k := by
  pointwise [k0_pay2]; rfl

/-- The body on one block: each row through the feed-forward and the last norm. -/
theorem block_row (X : Vec Ideal S1024x1024 .f32) (g : Vec Ideal S1x1024 .f32) (G U : Vec Ideal S1024x2816 .f32)
    (D : Vec Ideal S2816x1024 .f32) (g' : Vec Ideal S1x1024 .f32) (r k : Fin 1024) :
    k0_pay2 X (act (k0_pay3 X g) G U) D g' (ix2 r k)
      = row (fun k => X (ix2 r k)) (fun k => g (ix2 0 k)) G U D (fun k => g' (ix2 0 k)) k := by
  rw [pay2_at]
  have hn : (fun k => k0_pay3 (F := Ideal) X g (ix2 r k)) = norm (fun k => X (ix2 r k)) (fun k => g (ix2 0 k)) :=
    funext fun k => pay3_at X g r k
  have ha : ∀ l, act (k0_pay3 (F := Ideal) X g) G U (ix2 r l)
      = hidden (norm (fun k => X (ix2 r k)) (fun k => g (ix2 0 k))) G U l := fun l => by
    rw [← hn]; rfl
  simp only [ha, row]

/-- The reference's result, row by row. -/
theorem ref_at (m' : (ℓ : Loc Cert.FfnRefIdeal.nD Cert.FfnRefIdeal.τ Cert.FfnRefIdeal.sig) → Buf (Elt Ideal) ℓ)
    (c : Dev Cert.FfnRefIdeal.nD) (r : Fin 16384) (k : Fin 1024) :
    Cert.FfnRefIdeal.Value.res_out0 m' c (ix2 r k) = row (fun k => m' (c.tc.loc Cert.FfnRefIdeal.main_arg0) (ix2 r k))
      (fun k => m' (c.tc.loc Cert.FfnRefIdeal.main_arg1) (ix1 k)) (m' (c.tc.loc Cert.FfnRefIdeal.main_arg2))
      (m' (c.tc.loc Cert.FfnRefIdeal.main_arg3)) (m' (c.tc.loc Cert.FfnRefIdeal.main_arg4))
      (fun k => m' (c.tc.loc Cert.FfnRefIdeal.main_arg5) (ix1 k)) k := by
  pointwise [Cert.FfnRefIdeal.Value.res_out0, Cert.FfnRefIdeal.Value.res_main_v31]
  simp only [row, norm, hidden, Ideal.logistic]
  try rfl

end Cert.FfnPf

end
-- ==== Proof.FfnV.lean ====
module

public import proofs.«01_k».proof.Proof.FfnRows
public import Idealize.ShloMosaic.Lib.Pipeline.ValueKit

@[expose] public section

set_option maxRecDepth 16384

noncomputable section

namespace Cert.FfnPf

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- One lane of the hidden layer, read at its coordinates. -/
theorem chunk (N : Vec Ideal S1024x1024 .bf16) (G U : Vec Ideal S1024x2816 .f32) (r : Fin 1024) (l : Fin 2816)
    (j : S1024x2816.Idx) (h0 : (j 0 : ℕ) = r) (h1 : (j 1 : ℕ) = l) :
    (∑ k : Fin 1024, N (ix2 r k) * G (ix2 k l)) * Ideal.logistic (∑ k : Fin 1024, N (ix2 r k) * G (ix2 k l))
      * (∑ k : Fin 1024, N (ix2 r k) * U (ix2 k l)) = act N G U j := by
  obtain rfl : r = j 0 := Fin.ext h0.symm
  obtain rfl : l = j 1 := Fin.ext h1.symm
  rfl

/-- Which block each operand and the result takes at a grid step: rows move with the step, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The eleven column chunks the body writes to its scratch are the hidden layer of the block. -/
theorem chunks (X : Vec Ideal S1024x1024 .f32) (g : Vec Ideal S1x1024 .f32) (G U : Vec Ideal S1024x2816 .f32)
    (j : S1024x2816.Idx) :
    View.canon (Val := Elt Ideal) (s := S1024x2816) (e := .bf16)
      [⟨Rect.unit ![0, 2560] ![1024, 256] inb_S1024x2816_S1024x256_0_2560,
          k0_pay1 (k0_pay17 (k0_pay3 X g)
            (View.ld G (Rect.unit ![0, 2560] ![1024, 256] inb_S1024x2816_S1024x256_0_2560))
            (View.ld U (Rect.unit ![0, 2560] ![1024, 256] inb_S1024x2816_S1024x256_0_2560)))⟩,
        ⟨Rect.unit ![0, 2304] ![1024, 256] inb_S1024x2816_S1024x256_0_2304,
          k0_pay16 (k0_pay3 X g)
            (View.ld G (Rect.unit ![0, 2304] ![1024, 256] inb_S1024x2816_S1024x256_0_2304))
            (View.ld U (Rect.unit ![0, 2304] ![1024, 256] inb_S1024x2816_S1024x256_0_2304))⟩,
        ⟨Rect.unit ![0, 2048] ![1024, 256] inb_S1024x2816_S1024x256_0_2048,
          k0_pay15 (k0_pay3 X g)
            (View.ld G (Rect.unit ![0, 2048] ![1024, 256] inb_S1024x2816_S1024x256_0_2048))
            (View.ld U (Rect.unit ![0, 2048] ![1024, 256] inb_S1024x2816_S1024x256_0_2048))⟩,
        ⟨Rect.unit ![0, 1792] ![1024, 256] inb_S1024x2816_S1024x256_0_1792,
          k0_pay14 (k0_pay13 (k0_pay3 X g)
            (View.ld G (Rect.unit ![0, 1792] ![1024, 256] inb_S1024x2816_S1024x256_0_1792))
            (View.ld U (Rect.unit ![0, 1792] ![1024, 256] inb_S1024x2816_S1024x256_0_1792)))⟩,
        ⟨Rect.unit ![0, 1536] ![1024, 256] inb_S1024x2816_S1024x256_0_1536,
          k0_pay12 (k0_pay3 X g)
            (View.ld G (Rect.unit ![0, 1536] ![1024, 256] inb_S1024x2816_S1024x256_0_1536))
            (View.ld U (Rect.unit ![0, 1536] ![1024, 256] inb_S1024x2816_S1024x256_0_1536))⟩,
        ⟨Rect.unit ![0, 1280] ![1024, 256] inb_S1024x2816_S1024x256_0_1280,
          k0_pay11 (k0_pay3 X g)
            (View.ld G (Rect.unit ![0, 1280] ![1024, 256] inb_S1024x2816_S1024x256_0_1280))
            (View.ld U (Rect.unit ![0, 1280] ![1024, 256] inb_S1024x2816_S1024x256_0_1280))⟩,
        ⟨Rect.unit ![0, 1024] ![1024, 256] inb_S1024x2816_S1024x256_0_1024,
          k0_pay10 (k0_pay9 (k0_pay3 X g)
            (View.ld G (Rect.unit ![0, 1024] ![1024, 256] inb_S1024x2816_S1024x256_0_1024))
            (View.ld U (Rect.unit ![0, 1024] ![1024, 256] inb_S1024x2816_S1024x256_0_1024)))⟩,
        ⟨Rect.unit ![0, 768] ![1024, 256] inb_S1024x2816_S1024x256_0_768,
          k0_pay8 (k0_pay3 X g)
            (View.ld G (Rect.unit ![0, 768] ![1024, 256] inb_S1024x2816_S1024x256_0_768))
            (View.ld U (Rect.unit ![0, 768] ![1024, 256] inb_S1024x2816_S1024x256_0_768))⟩,
        ⟨Rect.unit ![0, 512] ![1024, 256] inb_S1024x2816_S1024x256_0_512,
          k0_pay7 (k0_pay3 X g)
            (View.ld G (Rect.unit ![0, 512] ![1024, 256] inb_S1024x2816_S1024x256_0_512))
            (View.ld U (Rect.unit ![0, 512] ![1024, 256] inb_S1024x2816_S1024x256_0_512))⟩,
        ⟨Rect.unit ![0, 256] ![1024, 256] inb_S1024x2816_S1024x256_0_256,
          k0_pay6 (k0_pay5 X g
            (View.ld G (Rect.unit ![0, 256] ![1024, 256] inb_S1024x2816_S1024x256_0_256))
            (View.ld U (Rect.unit ![0, 256] ![1024, 256] inb_S1024x2816_S1024x256_0_256)))⟩,
        ⟨Rect.unit ![0, 0] ![1024, 256] inb_S1024x2816_S1024x256_0_0,
          k0_pay4 X g
            (View.ld G (Rect.unit ![0, 0] ![1024, 256] inb_S1024x2816_S1024x256_0_0))
            (View.ld U (Rect.unit ![0, 0] ![1024, 256] inb_S1024x2816_S1024x256_0_0))⟩] j
      = act (k0_pay3 (F := Ideal) X g) G U j := by
  canon_tiles x h
  all_goals (open_payloads; pointwise; refine chunk _ _ _ _ _ j ?_ ?_ <;> (show _ = _; first | exact h0 | exact h1))

/-- The residual after the launch: each row's feed-forward and last norm. -/
theorem final (c : Dev nD) : (dats m 0 c).arrAt 6 (cfgs 0).N = fun y : S16384x1024.Idx =>
    row (fun k => m (c.tc.loc main_arg0) (ix2 (y 0) k)) (fun k => m (c.tc.loc main_arg1) (ix1 k)) (m (c.tc.loc main_arg2))
      (m (c.tc.loc main_arg3)) (m (c.tc.loc main_arg4)) (fun k => m (c.tc.loc main_arg5) (ix1 k)) (y 1) := by
  refine (dats m 0 c).arrAt_eq_of_covers 6 _ (by decide +kernel) fun t _ y => ?_
  blk_simp
  rw [after0_6]; unfold outsAt0; frame_out
  rw [View.readCov_eq_canon']
  have hA : (fun j => View.canon _ ((Rect.unit (s := S1024x2816) ![0, 0] ![1024, 2816] inb_S1024x2816_S1024x2816_0_0).toLoadRect.idx j))
      = act (k0_pay3 (F := Ideal) (iblk m c 0 t) (iblk m c 1 t)) (iblk m c 2 t) (iblk m c 3 t) :=
    (funext fun j => chunks (iblk m c 0 t) (iblk m c 1 t) (iblk m c 2 t) (iblk m c 3 t) _).trans (View.ld_unit_lit _ _ (by decide))
  rw [hA]
  obtain ⟨r, k, rfl⟩ : ∃ (r k : Fin 1024), y = ix2 r k := ⟨y 0, y 1, eq_ix2 _⟩
  clear hA
  rw [block_row]
  have h0 : (fun k => iblk m c 0 t (ix2 r k))
      = fun k => m (c.tc.loc main_arg0) (ix2 (((cfg0.win 6).blk t).view.emb (ix2 r k) 0) k) := by
    funext k
    blk_point [iblk, V, idx t]
  have h1 : (fun k => iblk m c 1 t (ix2 0 k)) = fun k => m (c.tc.loc main_arg1) (ix1 k) := by
    funext k
    blk_point [iblk, V, idx t]
  have h2 : iblk m c 2 t = m (c.tc.loc main_arg2) := by
    funext y; blk_point [iblk, V, idx t]
  have h3 : iblk m c 3 t = m (c.tc.loc main_arg3) := by
    funext y; blk_point [iblk, V, idx t]
  have h4 : iblk m c 4 t = m (c.tc.loc main_arg4) := by
    funext y; blk_point [iblk, V, idx t]
  have h5 : (fun k => iblk m c 5 t (ix2 0 k)) = fun k => m (c.tc.loc main_arg5) (ix1 k) := by
    funext k
    blk_point [iblk, V, idx t]
  have hk : ((cfg0.win 6).blk t).view.emb (ix2 r k) 1 = k := by
    apply Fin.ext; blk_simp [idx t]
  rw [h0, h1, h2, h3, h4, h5]
  exact congrArg (row _ _ _ _ _ _) hk.symm

end Cert.FfnPf

end
-- ==== Proof.FfnClaim.lean ====
module

public import proofs.«01_k».proof.Defs
public import proofs.«01_k».proof.Proof.FfnV
public import Idealize.ShloMosaic.Adequacy

@[expose] public section

noncomputable section

namespace Cert.FfnPf

open Idealize.ShloMosaic Idealize.ShloMosaic.TcCoe Idealize.SL.Sem

/-- The feed-forward call computes its reference. -/
theorem algebraic : algebraic_FfnIdeal_FfnRefIdeal := by
  pair_intro
  · run_from Cert.FfnIdeal.Gen.run_main m g
  · run_from Cert.FfnRefIdeal.Value.run m' g'
    rw [final]
    funext y
    obtain ⟨r, k, rfl⟩ : ∃ (r : Fin 16384) (k : Fin 1024), y = ix2 r k := ⟨y 0, y 1, eq_ix2 _⟩
    refine (ref_at m' c r k).trans ?_
    obtain ⟨h0, h1, h2, h3, h4, h5⟩ := hagree c
    rw [h0, h1, h2, h3, h4, h5]
    rfl

end Cert.FfnPf

end
-- ==== Proof.AttnSem.lean ====
module

public import Idealize.ShloMosaic.Lib.Pipeline.ValueKit

@[expose] public section

set_option maxRecDepth 16384

noncomputable section

namespace Cert.AttnPf

open Idealize.ShloMosaic Idealize.ShloMosaic.TcCoe

/-- The printed start of a maximum is minus infinity. -/
theorem ninf : Ideal.ofBits FTy.f32 4286578688#32 = ⊥ := by
  simp [Ideal.ofBits, Ideal.ieee, -EReal.coe_mul]

/-- The printed base of the reference's power is two. -/
theorem two : Ideal.ofBits FTy.f32 1073741824#32 = ((2 : ℝ) : EReal) := by
  simp [Ideal.ofBits, Ideal.ieee, -EReal.coe_mul]; norm_num

/-- The printed number of lanes of a head is sixty-four. -/
theorem sixtyfour : Ideal.ofBits FTy.bf16 17024#16 = ((64 : ℝ) : EReal) := by
  simp [Ideal.ofBits, Ideal.ieee, -EReal.coe_mul]; norm_num

/-- A power of two is the base-2 exponential. -/
theorem pow_two (x : EReal) : Ideal.pow (Ideal.ofBits FTy.f32 1073741824#32) x = Ideal.exp2 x := by
  rw [two]
  induction x with
  | bot =>
    show (if (2 : ℝ) < 0 then ⊥ else if (1 : ℝ) < 2 then (0 : EReal) else if (2 : ℝ) = 1 then 1 else ⊤) = 0
    norm_num
  | top =>
    show (if (2 : ℝ) < 0 then ⊥ else if (1 : ℝ) < 2 then (⊤ : EReal) else if (2 : ℝ) = 1 then 1 else 0) = ⊤
    norm_num
  | coe r => rfl

/-- The largest of a row of scores. -/
def peak {n : ℕ} (s : Fin n → EReal) : EReal :=
  Finset.fold max (Ideal.ofBits FTy.f32 4286578688#32) s Finset.univ

/-- The weight of a key: the base-2 exponential of its score below the largest. -/
def wt {n : ℕ} (s : Fin n → EReal) (j : Fin n) : EReal := Ideal.exp2 (s j - peak s)

/-- The largest score is a supremum. -/
theorem peak_eq_sup {n : ℕ} (s : Fin n → EReal) : peak s = Finset.univ.sup s := by
  unfold peak; rw [ninf]; rfl

variable {n L : ℕ} (e : Fin n → Fin L) (he : Function.Injective e) (s : Fin L → EReal) (s' : Fin n → EReal)
  (hs : ∀ j, s' j = s (e j)) (ho : ∀ j, j ∉ Set.range e → s j = ⊥)

include hs ho in
/-- Keys outside the window do not move the largest score. -/
theorem peak_window : peak s = peak s' := by
  rw [peak_eq_sup, peak_eq_sup]
  apply le_antisymm
  · refine Finset.sup_le fun j _ => ?_
    by_cases hj : j ∈ Set.range e
    · obtain ⟨i, rfl⟩ := hj
      rw [← hs]; exact Finset.le_sup (f := s') (Finset.mem_univ i)
    · rw [ho j hj]; exact bot_le
  · refine Finset.sup_le fun j _ => ?_
    rw [hs]; exact Finset.le_sup (f := s) (Finset.mem_univ (e j))

include hs ho in
/-- A key of the window has the same weight. -/
theorem wt_window (j : Fin n) : wt s (e j) = wt s' j := by
  unfold wt; rw [hs, peak_window e s s' hs ho]

include ho in
/-- A key outside the window has weight zero. -/
theorem wt_out (j : Fin L) (hj : j ∉ Set.range e) : wt s j = 0 := by
  unfold wt; rw [ho j hj, sub_eq_add_neg, EReal.bot_add]; rfl

include he hs ho in
/-- A weighted sum over all keys is the one over the window. -/
theorem mix_window (v : Fin L → EReal) : ∑ j, wt s j * v j = ∑ j, wt s' j * v (e j) := by
  symm
  refine Finset.sum_of_injOn e he.injOn (fun _ _ => Finset.mem_coe.mpr (Finset.mem_univ _)) (fun j _ hj => ?_) fun j _ => ?_
  · rw [wt_out e s ho j (by simpa using hj), zero_mul]
  · rw [wt_window e s s' hs ho]

include he hs ho in
/-- The sum of the weights over all keys is the one over the window. -/
theorem total_window : ∑ j, wt s j = ∑ j, wt s' j := by
  have h := mix_window e he s s' hs ho fun _ => 1
  simpa only [mul_one] using h

/-- One section (queries, keys or values) of one residue class of the operand. -/
def sect {B R L : ℕ} (X : (⟨4, ![B, R, L, 1536]⟩ : Shape).Idx → EReal) (s : Fin 3) (b : Fin B) (r : Fin R) :
    Fin L → Fin 512 → EReal :=
  fun i l => X (ix4 b r i ⟨512 * s + l, by omega⟩)

/-- The lane of a head's coordinate among the 512 lanes of a section. -/
def lane (h : Fin 8) (d : Fin 64) : Fin 512 := ⟨64 * h + d, by omega⟩

/-- The score of query `i` and key `j` in head `h`: minus infinity outside the causal window of 129 keys. -/
def score (Q K : Fin L → Fin 512 → EReal) (h : Fin 8) (i j : Fin L) : EReal :=
  if j.val ≤ i.val ∧ i.val ≤ j.val + 128 then ∑ d : Fin 64, Q i (lane h d) * K j (lane h d) else ⊥

/-- The weighted values of query `i` in lane `l`. -/
def mixed (Q K V : Fin L → Fin 512 → EReal) (i : Fin L) (l : Fin 512) : EReal :=
  ∑ j, wt (score Q K ⟨l / 64, by omega⟩ i) j * V j l

/-- The statistics of query `i`: the heads' largest scores in lanes 0 to 7, the weights' sums in lanes 8 to 15. -/
def stat (Q K : Fin L → Fin 512 → EReal) (i : Fin L) (l : Fin 128) : EReal :=
  if h : l.val < 8 then peak (score Q K ⟨l, h⟩ i)
  else if h : l.val < 16 then ∑ j, wt (score Q K ⟨l - 8, by omega⟩ i) j
  else 0

/-- A small natural number as a signed 32-bit word. -/
theorem toInt_small (a : ℕ) (ha : a < 100000) : (BitVec.ofNat 32 a).toInt = (a : ℤ) := by
  have h : (BitVec.ofNat 32 a).toNat = a := by rw [BitVec.toNat_ofNat]; omega
  rw [BitVec.toInt_eq_toNat_of_lt (by omega), h]

/-- The bit of a truth value is one when it holds. -/
theorem bit_iff (b : Bool) : BitVec.ofBool b = 1#1 ↔ b = true := by
  cases b <;> decide

/-- The bit of a conjunction is one when both hold. -/
theorem bits_iff (a b : Bool) : BitVec.ofBool a &&& BitVec.ofBool b = 1#1 ↔ a = true ∧ b = true := by
  cases a <;> cases b <;> decide

/-- The lanes below sixty-four, as the kernel's comparison of floats says it. -/
theorem low_iff (l : ℕ) (hl : l < 128) :
    FloatOps.sitofp (F := Ideal) FTy.f32 (BitVec.ofNat 32 l) < Ideal.ofBits FTy.bf16 17024#16 ↔ l < 64 := by
  rw [sixtyfour]
  show (((BitVec.ofNat 32 l).toInt : ℝ) : EReal) < _ ↔ _
  rw [toInt_small l (by omega), EReal.coe_lt_coe_iff]
  norm_cast

/-- A sum over 128 lanes of which the upper half is masked away. -/
theorem sum_low (a b : Fin 128 → EReal) :
    ∑ x : Fin 128, (if x.val < 64 then a x else 0) * b x
      = ∑ d : Fin 64, a ⟨d, by omega⟩ * b ⟨d, by omega⟩ := by
  rw [show (∑ x : Fin 128, (if x.val < 64 then a x else 0) * b x)
    = ∑ x : Fin (64 + 64), (if x.val < 64 then a x else 0) * b x from rfl, Fin.sum_univ_add]
  simp [Fin.castAdd, Fin.natAdd, Fin.castLE]

/-- A sum over 128 lanes of which the lower half is masked away. -/
theorem sum_high (a b : Fin 128 → EReal) :
    ∑ x : Fin 128, (if x.val < 64 then 0 else a x) * b x
      = ∑ d : Fin 64, a ⟨64 + d, by omega⟩ * b ⟨64 + d, by omega⟩ := by
  rw [show (∑ x : Fin 128, (if x.val < 64 then 0 else a x) * b x)
    = ∑ x : Fin (64 + 64), (if x.val < 64 then 0 else a x) * b x from rfl, Fin.sum_univ_add]
  simp [Fin.castAdd, Fin.natAdd, Fin.castLE]

/-- The kernel's signed comparison of two small numbers. -/
theorem sle_iff (a b : ℕ) (ha : a < 100000) (hb : b < 100000) :
    IntOp.cmpi .sle (BitVec.ofNat 32 a) (BitVec.ofNat 32 b) = 1#1 ↔ a ≤ b := by
  simp only [IntOp.cmpi, bit_iff, BitVec.sle, toInt_small a ha, toInt_small b hb, decide_eq_true_eq]
  omega

/-- The reference's window, in words: the distance from key to query is between 0 and 128. -/
theorem near_iff (i j : ℕ) (hi : i < 50000) (hj : j < 50000) :
    IntOp.andi (IntOp.cmpi .sge (IntOp.subi (BitVec.ofNat 32 i) (BitVec.ofNat 32 j)) 0#32)
      (IntOp.cmpi .sle (IntOp.subi (BitVec.ofNat 32 i) (BitVec.ofNat 32 j)) 128#32) = 1#1 ↔ j ≤ i ∧ i ≤ j + 128 := by
  have h : (IntOp.subi (BitVec.ofNat 32 i) (BitVec.ofNat 32 j)).toInt = (i : ℤ) - j := by
    show (BitVec.ofNat 32 i - BitVec.ofNat 32 j).toInt = _
    rw [BitVec.toInt_sub, toInt_small i (by omega), toInt_small j (by omega), Int.bmod_eq_of_le] <;> omega
  have h0 : (0#32).toInt = 0 := by decide
  have h1 : (128#32).toInt = 128 := by decide
  simp only [IntOp.cmpi, IntOp.andi, bits_iff, BitVec.sle, h, h0, h1, decide_eq_true_eq]
  omega

/-- The reference's masked scores, as its printed comparisons and coordinates give them. -/
theorem ref_score {B R : ℕ} (hL : L ≤ 50000) (X : (⟨4, ![B, R, L, 1536]⟩ : Shape).Idx → EReal) (b : Fin B) (r : Fin R) (i : Fin L)
    (h : Fin 8) (c : ℕ) (hc : c = h * 64) (p1 : ∀ d : Fin 64, c + d < 1536) (p2 : ∀ d : Fin 64, 512 + c + d < 1536) (x : Fin L) :
    Scalar.select (IntOp.andi (IntOp.cmpi .sge (IntOp.subi (BitVec.ofNat 32 i) (BitVec.ofNat 32 x)) 0#32)
        (IntOp.cmpi .sle (IntOp.subi (BitVec.ofNat 32 i) (BitVec.ofNat 32 x)) 128#32))
      (∑ d : Fin 64, X (ix4 b r i ⟨c + d, p1 d⟩) * X (ix4 b r x ⟨512 + c + d, p2 d⟩)) (Ideal.ofBits FTy.f32 4286578688#32)
      = score (sect X 0 b r) (sect X 1 b r) h i x := by
  refine ite_congr (propext (near_iff i x (by omega) (by omega))) (fun _ => Finset.sum_congr rfl fun d _ => ?_) fun _ => ninf
  refine congrArg₂ (fun u v => X (ix4 b r i u) * X (ix4 b r x v)) (Fin.ext ?_) (Fin.ext ?_)
  · show c + d.val = 512 * 0 + (64 * h.val + d.val); omega
  · show 512 + c + d.val = 512 * 1 + (64 * h.val + d.val); omega

end Cert.AttnPf

end
-- ==== Proof.AttnOps.lean ====
module

public import proofs.«01_k».proof.Proof.Gen.Attn16Ideal.Value
public import proofs.«01_k».proof.Proof.AttnSem

@[expose] public section

set_option maxRecDepth 16384

noncomputable section

namespace Cert.AttnPf

open Cert.Attn16Ideal Cert.Attn16Ideal.Gen Idealize.ShloMosaic Idealize.ShloMosaic.TcCoe Idealize.SL.Sem

/-- The lanes of the first of the two heads in a chunk, over the rows of a block of 128 keys. -/
abbrev low1 : IVec S128x128 1 :=
  cmpf (F := Ideal) .olt (truncf .bf16 (sitofp (F := Ideal) .f32 (iota .tc S128x128 32 [1] iota_S128x128_d1_w32)) bitsLt_bf16_f32)
    (broadcast S128x128 (Scalar.ofBits .bf16 0x4280#16))

/-- 128 rows with the second head's lanes masked away, above the same rows with the first head's. -/
abbrev halves1 (x : FVec Ideal S128x128 .bf16) : FVec Ideal S256x128 .bf16 :=
  concatenate S256x128 0 [⟨S128x128, select low1 x (broadcast S128x128 (Scalar.ofBits .bf16 0x0000#16))⟩,
    ⟨S128x128, select low1 (broadcast S128x128 (Scalar.ofBits .bf16 0x0000#16)) x⟩] concatenates_S128x128_S128x128_S256x128_d0

/-- The causal triangle of a block of queries over its own keys. -/
abbrev near1 : FVec Ideal S128x128 .f32 :=
  select (cmpi .sle (iota .tc S128x128 32 [1] iota_S128x128_d1_w32) (iota .tc S128x128 32 [0] iota_S128x128_d0_w32))
    (broadcast S128x128 (Scalar.ofBits .f32 0x00000000#32)) (broadcast S128x128 (Scalar.ofBits .f32 0xFF800000#32))

/-- The triangle, once for each of the two heads. -/
abbrev band1 : FVec Ideal S256x128 .f32 :=
  concatenate S256x128 0 [⟨S128x128, near1⟩, ⟨S128x128, near1⟩] concatenates_S128x128_S128x128_S256x128_d0

/-- The scores of two heads over 128 keys. -/
abbrev scores1 (q : FVec Ideal S128x128 .bf16) (k : FVec Ideal S128x128 .bf16) : FVec Ideal S256x128 .f32 :=
  addf (matmul dot_S256x128_S128x128_S256x128_1_1_0_0_n_n none (halves1 q) k (constant S256x128 .f32 0x00000000#32)) band1

/-- Each row's largest score. -/
abbrev peak1 (s : FVec Ideal S128x128 .f32) : FVec Ideal S128x1 .f32 :=
  shapeCast S128x1 (multiReduction .maximumf [1] S128 s 0xFF800000#32 reduces_S128x128_S128 (.inl rfl) rfl) shapeCasts_S128_S128x1

/-- Each row's weights. -/
abbrev probs1 (s : FVec Ideal S128x128 .f32) : FVec Ideal S128x128 .bf16 :=
  truncf .bf16 (exp2 (subf s (broadcastTo S128x128 (peak1 s) broadcasts_S128x1_S128x128))) bitsLt_bf16_f32

/-- The first head's rows. -/
abbrev fst1 (s : FVec Ideal S256x128 .f32) : FVec Ideal S128x128 .f32 :=
  extractStridedSlice S128x128 ![0, 0] s slices_S256x128_o0_0_S128x128

/-- The second head's rows. -/
abbrev snd1 (s : FVec Ideal S256x128 .f32) : FVec Ideal S128x128 .f32 :=
  extractStridedSlice S128x128 ![128, 0] s slices_S256x128_o128_0_S128x128

/-- The weighted values of two heads, and beside them the weights' sums. -/
abbrev mix1 (s : FVec Ideal S256x128 .f32) (v : FVec Ideal S128x128 .bf16) (sc : FVec Ideal S256x128 .bf16) : FVec Ideal S128x256 .f32 :=
  matmul dot_S128x256_S256x256_S128x256_1_0_0_1_n_n none
    (concatenate S128x256 1 [⟨S128x128, probs1 (fst1 s)⟩, ⟨S128x128, probs1 (snd1 s)⟩] concatenates_S128x128_S128x128_S128x256_d1)
    (concatenate S256x256 1 [⟨S256x128, halves1 v⟩, ⟨S256x128, sc⟩] concatenates_S256x128_S256x128_S256x256_d1)
    (constant S128x256 .f32 0x00000000#32)

/-- The ones that pick the lanes of the two weights' sums. -/
abbrev ones1 (a b : BitVec 32) : FVec Ideal S256x128 .bf16 :=
  truncf .bf16 (select (cmpi .eq (iota .tc S256x128 32 [1] iota_S256x128_d1_w32)
      (select (cmpi .slt (iota .tc S256x128 32 [0] iota_S256x128_d0_w32) (broadcast S256x128 128#32))
        (broadcast S256x128 a) (broadcast S256x128 b)))
    (broadcast S256x128 (Scalar.ofBits .f32 0x3F800000#32)) (broadcast S256x128 (Scalar.ofBits .f32 0x00000000#32))) bitsLt_bf16_f32

/-- The 128 lanes of one pair of heads. -/
abbrev cols1 : Fin 4 → Vec Ideal S1x1x128x512 .bf16 → FVec Ideal S128x128 .bf16
  | 0, k => extractStridedSlice S128x128 ![0, 0] (shapeCast S128x512 k shapeCasts_S1x1x128x512_S128x512) slices_S128x512_o0_0_S128x128
  | 1, k => extractStridedSlice S128x128 ![0, 128] (shapeCast S128x512 k shapeCasts_S1x1x128x512_S128x512) slices_S128x512_o0_128_S128x128
  | 2, k => extractStridedSlice S128x128 ![0, 256] (shapeCast S128x512 k shapeCasts_S1x1x128x512_S128x512) slices_S128x512_o0_256_S128x128
  | 3, k => extractStridedSlice S128x128 ![0, 384] (shapeCast S128x512 k shapeCasts_S1x1x128x512_S128x512) slices_S128x512_o0_384_S128x128

/-- The lanes of the two weights' sums, pair by pair. -/
abbrev sums1 : Fin 4 → FVec Ideal S256x128 .bf16
  | 0 => ones1 8#32 9#32
  | 1 => ones1 10#32 11#32
  | 2 => ones1 12#32 13#32
  | 3 => ones1 14#32 15#32

/-- The scores of a pair of heads over 128 keys, from the blocks. -/
abbrev blk1 (p : Fin 4) (q : Vec Ideal S1x1x128x128 .bf16) (k : Vec Ideal S1x1x128x512 .bf16) : FVec Ideal S256x128 .f32 :=
  scores1 (shapeCast S128x128 q shapeCasts_S1x1x128x128_S128x128) (cols1 p k)

/-- The product of a pair of heads over 128 keys, from the blocks. -/
abbrev unit1 (p : Fin 4) (q : Vec Ideal S1x1x128x128 .bf16) (k v : Vec Ideal S1x1x128x512 .bf16) : FVec Ideal S128x256 .f32 :=
  mix1 (blk1 p q k) (cols1 p v) (sums1 p)

/-- What the body stores of a pair of heads over 128 keys. -/
def pv1 (p : Fin 4) (q : Vec Ideal S1x1x128x128 .bf16) (k v : Vec Ideal S1x1x128x512 .bf16) : Vec Ideal S1x1x128x128 .bf16 :=
  shapeCast S1x1x128x128 (truncf .bf16 (extractStridedSlice S128x128 ![0, 0] (unit1 p q k v) slices_S128x256_o0_0_S128x128) bitsLt_bf16_f32)
    shapeCasts_S128x128_S1x1x128x128

/-- The lanes of the first of the two heads in a chunk, over the rows of a block of 256 keys. -/
abbrev low2 : IVec S256x128 1 :=
  cmpf (F := Ideal) .olt (truncf .bf16 (sitofp (F := Ideal) .f32 (iota .tc S256x128 32 [1] iota_S256x128_d1_w32)) bitsLt_bf16_f32)
    (broadcast S256x128 (Scalar.ofBits .bf16 0x4280#16))

/-- 256 rows with the second head's lanes masked away, above the same rows with the first head's. -/
abbrev halves2 (x : FVec Ideal S256x128 .bf16) : FVec Ideal S512x128 .bf16 :=
  concatenate S512x128 0 [⟨S256x128, select low2 x (broadcast S256x128 (Scalar.ofBits .bf16 0x0000#16))⟩,
    ⟨S256x128, select low2 (broadcast S256x128 (Scalar.ofBits .bf16 0x0000#16)) x⟩] concatenates_S256x128_S256x128_S512x128_d0

/-- The band of a block of queries over its own keys and those of the block before. -/
abbrev near2 : FVec Ideal S128x256 .f32 :=
  addf (select (cmpi .sge (iota .tc S128x256 32 [1] iota_S128x256_d1_w32) (iota .tc S128x256 32 [0] iota_S128x256_d0_w32))
      (broadcast S128x256 (Scalar.ofBits .f32 0x00000000#32)) (broadcast S128x256 (Scalar.ofBits .f32 0xFF800000#32)))
    (select (cmpi .sle (iota .tc S128x256 32 [1] iota_S128x256_d1_w32)
        (addi (iota .tc S128x256 32 [0] iota_S128x256_d0_w32) (broadcast S128x256 128#32)))
      (broadcast S128x256 (Scalar.ofBits .f32 0x00000000#32)) (broadcast S128x256 (Scalar.ofBits .f32 0xFF800000#32)))

/-- The band, once for each of the two heads. -/
abbrev band2 : FVec Ideal S256x256 .f32 :=
  concatenate S256x256 0 [⟨S128x256, near2⟩, ⟨S128x256, near2⟩] concatenates_S128x256_S128x256_S256x256_d0

/-- The scores of two heads over 256 keys. -/
abbrev scores2 (q : FVec Ideal S128x128 .bf16) (k : FVec Ideal S256x128 .bf16) : FVec Ideal S256x256 .f32 :=
  addf (matmul dot_S256x128_S256x128_S256x256_1_1_0_0_n_n none (halves1 q) k (constant S256x256 .f32 0x00000000#32)) band2

/-- Each row's largest score. -/
abbrev peak2 (s : FVec Ideal S128x256 .f32) : FVec Ideal S128x1 .f32 :=
  shapeCast S128x1 (multiReduction .maximumf [1] S128 s 0xFF800000#32 reduces_S128x256_S128 (.inl rfl) rfl) shapeCasts_S128_S128x1

/-- Each row's weights. -/
abbrev probs2 (s : FVec Ideal S128x256 .f32) : FVec Ideal S128x256 .bf16 :=
  truncf .bf16 (exp2 (subf s (broadcastTo S128x256 (peak2 s) broadcasts_S128x1_S128x256))) bitsLt_bf16_f32

/-- The first head's rows. -/
abbrev fst2 (s : FVec Ideal S256x256 .f32) : FVec Ideal S128x256 .f32 :=
  extractStridedSlice S128x256 ![0, 0] s slices_S256x256_o0_0_S128x256

/-- The second head's rows. -/
abbrev snd2 (s : FVec Ideal S256x256 .f32) : FVec Ideal S128x256 .f32 :=
  extractStridedSlice S128x256 ![128, 0] s slices_S256x256_o128_0_S128x256

/-- The weighted values of two heads, and beside them the weights' sums. -/
abbrev mix2 (s : FVec Ideal S256x256 .f32) (v : FVec Ideal S256x128 .bf16) (sc : FVec Ideal S512x128 .bf16) : FVec Ideal S128x256 .f32 :=
  matmul dot_S128x512_S512x256_S128x256_1_0_0_1_n_n none
    (concatenate S128x512 1 [⟨S128x256, probs2 (fst2 s)⟩, ⟨S128x256, probs2 (snd2 s)⟩] concatenates_S128x256_S128x256_S128x512_d1)
    (concatenate S512x256 1 [⟨S512x128, halves2 v⟩, ⟨S512x128, sc⟩] concatenates_S512x128_S512x128_S512x256_d1)
    (constant S128x256 .f32 0x00000000#32)

/-- The ones that pick the lanes of the two weights' sums. -/
abbrev ones2 (a b : BitVec 32) : FVec Ideal S512x128 .bf16 :=
  truncf .bf16 (select (cmpi .eq (iota .tc S512x128 32 [1] iota_S512x128_d1_w32)
      (select (cmpi .slt (iota .tc S512x128 32 [0] iota_S512x128_d0_w32) (broadcast S512x128 256#32))
        (broadcast S512x128 a) (broadcast S512x128 b)))
    (broadcast S512x128 (Scalar.ofBits .f32 0x3F800000#32)) (broadcast S512x128 (Scalar.ofBits .f32 0x00000000#32))) bitsLt_bf16_f32

/-- The 128 lanes of one pair of heads. -/
abbrev cols2 : Fin 4 → Vec Ideal S1x1x256x512 .bf16 → FVec Ideal S256x128 .bf16
  | 0, k => extractStridedSlice S256x128 ![0, 0] (shapeCast S256x512 k shapeCasts_S1x1x256x512_S256x512) slices_S256x512_o0_0_S256x128
  | 1, k => extractStridedSlice S256x128 ![0, 128] (shapeCast S256x512 k shapeCasts_S1x1x256x512_S256x512) slices_S256x512_o0_128_S256x128
  | 2, k => extractStridedSlice S256x128 ![0, 256] (shapeCast S256x512 k shapeCasts_S1x1x256x512_S256x512) slices_S256x512_o0_256_S256x128
  | 3, k => extractStridedSlice S256x128 ![0, 384] (shapeCast S256x512 k shapeCasts_S1x1x256x512_S256x512) slices_S256x512_o0_384_S256x128

/-- The lanes of the two weights' sums, pair by pair. -/
abbrev sums2 : Fin 4 → FVec Ideal S512x128 .bf16
  | 0 => ones2 8#32 9#32
  | 1 => ones2 10#32 11#32
  | 2 => ones2 12#32 13#32
  | 3 => ones2 14#32 15#32

/-- The scores of a pair of heads over 256 keys, from the blocks. -/
abbrev blk2 (p : Fin 4) (q : Vec Ideal S1x1x128x128 .bf16) (k : Vec Ideal S1x1x256x512 .bf16) : FVec Ideal S256x256 .f32 :=
  scores2 (shapeCast S128x128 q shapeCasts_S1x1x128x128_S128x128) (cols2 p k)

/-- The product of a pair of heads over 256 keys, from the blocks. -/
abbrev unit2 (p : Fin 4) (q : Vec Ideal S1x1x128x128 .bf16) (k v : Vec Ideal S1x1x256x512 .bf16) : FVec Ideal S128x256 .f32 :=
  mix2 (blk2 p q k) (cols2 p v) (sums2 p)

/-- What the body stores of a pair of heads over 256 keys. -/
def pv2 (p : Fin 4) (q : Vec Ideal S1x1x128x128 .bf16) (k v : Vec Ideal S1x1x256x512 .bf16) : Vec Ideal S1x1x128x128 .bf16 :=
  shapeCast S1x1x128x128 (truncf .bf16 (extractStridedSlice S128x128 ![0, 0] (unit2 p q k v) slices_S128x256_o0_0_S128x128) bitsLt_bf16_f32)
    shapeCasts_S128x128_S1x1x128x128

/-- The number of a lane. -/
abbrev lanes : IVec S128x128 32 := iota .tc S128x128 32 [1] iota_S128x128_d1_w32

/-- One head's largest score in every lane. -/
abbrev spread (m : FVec Ideal S128x1 .f32) : FVec Ideal S128x128 .f32 :=
  broadcastTo S128x128 (shapeCast S128x1 m shapeCasts_S128x1_S128x1) broadcasts_S128x1_S128x128

/-- The sign of the divisor two, as the body prints it. -/
abbrev sgn2 : BitVec 32 :=
  Scalar.subi (Scalar.extui (Scalar.cmpi .sgt 2#32 0#32)) (Scalar.extui (Scalar.cmpi .slt 2#32 0#32))

/-- Half a lane's number, rounded down, as the body prints it. -/
abbrev half : IVec S128x128 32 :=
  select (andi (cmpi .ne (subi (extui 32 (cmpi .sgt lanes (broadcast S128x128 0#32)) natLt_1_32)
        (extui 32 (cmpi .slt lanes (broadcast S128x128 0#32)) natLt_1_32)) (broadcast S128x128 sgn2))
      (cmpi .ne (remsi lanes (broadcast S128x128 2#32)) (broadcast S128x128 0#32)))
    (subi (divsi lanes (broadcast S128x128 2#32)) (broadcast S128x128 1#32)) (divsi lanes (broadcast S128x128 2#32))

/-- One pair of heads written into the statistics: two largest scores and the pair of lanes of the weights' sums. -/
abbrev put (a b c : BitVec 32) (m m' : FVec Ideal S128x1 .f32) (u : FVec Ideal S128x256 .f32) (st : FVec Ideal S128x128 .f32) :
    FVec Ideal S128x128 .f32 :=
  select (cmpi .eq half (broadcast S128x128 c)) (extractStridedSlice S128x128 ![0, 128] u slices_S128x256_o0_128_S128x128)
    (select (cmpi .eq lanes (broadcast S128x128 b)) (spread m') (select (cmpi .eq lanes (broadcast S128x128 a)) (spread m) st))

/-- The statistics of a block of queries over 128 keys. -/
def st1 (q0 q1 q2 q3 : Vec Ideal S1x1x128x128 .bf16) (k v : Vec Ideal S1x1x128x512 .bf16) : Vec Ideal S1x1x128x128 .f32 :=
  shapeCast S1x1x128x128
    (put 6#32 7#32 7#32 (peak1 (fst1 (blk1 3 q3 k))) (peak1 (snd1 (blk1 3 q3 k))) (unit1 3 q3 k v)
      (put 4#32 5#32 6#32 (peak1 (fst1 (blk1 2 q2 k))) (peak1 (snd1 (blk1 2 q2 k))) (unit1 2 q2 k v)
        (put 2#32 3#32 5#32 (peak1 (fst1 (blk1 1 q1 k))) (peak1 (snd1 (blk1 1 q1 k))) (unit1 1 q1 k v)
          (put 0#32 1#32 4#32 (peak1 (fst1 (blk1 0 q0 k))) (peak1 (snd1 (blk1 0 q0 k))) (unit1 0 q0 k v)
            (broadcast S128x128 (Scalar.ofBits .f32 0x00000000#32)))))) shapeCasts_S128x128_S1x1x128x128

/-- The statistics of a block of queries over 256 keys. -/
def st2 (q0 q1 q2 q3 : Vec Ideal S1x1x128x128 .bf16) (k v : Vec Ideal S1x1x256x512 .bf16) : Vec Ideal S1x1x128x128 .f32 :=
  shapeCast S1x1x128x128
    (put 6#32 7#32 7#32 (peak2 (fst2 (blk2 3 q3 k))) (peak2 (snd2 (blk2 3 q3 k))) (unit2 3 q3 k v)
      (put 4#32 5#32 6#32 (peak2 (fst2 (blk2 2 q2 k))) (peak2 (snd2 (blk2 2 q2 k))) (unit2 2 q2 k v)
        (put 2#32 3#32 5#32 (peak2 (fst2 (blk2 1 q1 k))) (peak2 (snd2 (blk2 1 q1 k))) (unit2 1 q1 k v)
          (put 0#32 1#32 4#32 (peak2 (fst2 (blk2 0 q0 k))) (peak2 (snd2 (blk2 0 q0 k))) (unit2 0 q0 k v)
            (broadcast S128x128 (Scalar.ofBits .f32 0x00000000#32)))))) shapeCasts_S128x128_S1x1x128x128

end Cert.AttnPf

end
-- ==== Proof.AttnRows.lean ====
module

public import proofs.«01_k».proof.Proof.AttnOps

@[expose] public section

set_option maxRecDepth 16384

noncomputable section

namespace Cert.AttnPf

open Cert.Attn16Ideal Cert.Attn16Ideal.Gen Idealize.ShloMosaic Idealize.ShloMosaic.TcCoe Idealize.SL.Sem

/-- A lane of a pair of heads among the 512 lanes of a section. -/
def chunk (p : Fin 4) (l : Fin 128) : Fin 512 := ⟨128 * p + l, by omega⟩

/-- A row of the first block of a residue class. -/
def ownRow {L : ℕ} (hL : 128 ≤ L) (i : Fin 128) : Fin L := ⟨i, by omega⟩

/-- A query of the block that follows 128 keys from `b` on. -/
def laterRow {L : ℕ} (b : ℕ) (hb : b + 256 ≤ L) (i : Fin 128) : Fin L := ⟨b + 128 + i, by omega⟩

/-- A key of the two blocks from `b` on. -/
def bandRow {L : ℕ} (b : ℕ) (hb : b + 256 ≤ L) (j : Fin 256) : Fin L := ⟨b + j, by omega⟩

/-- A selection by a bit is a case distinction. -/
theorem select_ite {α : Type} (c : BitVec 1) (x y : α) : Scalar.select c x y = if c = 1#1 then x else y := rfl

/-- Adding a mask of zero or minus infinity. -/
theorem mask_add (c : BitVec 1) (x : EReal) :
    x + Scalar.select c 0 (Ideal.ofBits FTy.f32 4286578688#32) = if c = 1#1 then x else ⊥ := by
  rw [select_ite]
  by_cases h : c = 1#1
  · rw [if_pos h, if_pos h, add_zero]
  · rw [if_neg h, if_neg h, ninf, EReal.add_bot]

/-- Adding two masks of zero or minus infinity. -/
theorem masks_add (c c' : BitVec 1) (x : EReal) :
    x + (Scalar.select c 0 (Ideal.ofBits FTy.f32 4286578688#32) + Scalar.select c' 0 (Ideal.ofBits FTy.f32 4286578688#32))
      = if c = 1#1 ∧ c' = 1#1 then x else ⊥ := by
  rw [← add_assoc, mask_add, mask_add]
  by_cases h : c = 1#1 <;> by_cases h' : c' = 1#1 <;> simp [h, h']

/-- The signed comparison the other way round. -/
theorem sge_iff (a b : ℕ) (ha : a < 100000) (hb : b < 100000) :
    IntOp.cmpi .sge (BitVec.ofNat 32 a) (BitVec.ofNat 32 b) = 1#1 ↔ b ≤ a :=
  sle_iff b a hb ha

/-- The end of a query's band, in words. -/
theorem reach (i : ℕ) : IntOp.addi (BitVec.ofNat 32 i) 128#32 = BitVec.ofNat 32 (i + 128) := by
  show BitVec.ofNat 32 i + BitVec.ofNat 32 128 = _
  rw [BitVec.ofNat_add]

/-- The strict signed comparison of two small numbers. -/
theorem slt_iff (a b : ℕ) (ha : a < 100000) (hb : b < 100000) :
    IntOp.cmpi .slt (BitVec.ofNat 32 a) (BitVec.ofNat 32 b) = 1#1 ↔ a < b := by
  simp only [IntOp.cmpi, bit_iff, BitVec.slt, toInt_small a ha, toInt_small b hb, decide_eq_true_eq]
  omega

/-- Equality of two small numbers as words. -/
theorem eq_iff (a b : ℕ) (ha : a < 100000) (hb : b < 100000) :
    IntOp.cmpi .eq (BitVec.ofNat 32 a) (BitVec.ofNat 32 b) = 1#1 ↔ a = b := by
  simp only [IntOp.cmpi, bit_iff, beq_iff_eq]
  refine ⟨fun h => ?_, fun h => by rw [h]⟩
  have h' := congrArg BitVec.toNat h
  rw [BitVec.toNat_ofNat, BitVec.toNat_ofNat] at h'
  omega

/-- Half a lane's number, rounded down. -/
theorem half_at (i l : Fin 128) : half (ix2 i l) = BitVec.ofNat 32 (l / 2) := by
  pointwise
  revert l
  decide +kernel

/-- The number of a lane, read at its coordinates. -/
theorem lanes_at (i l : Fin 128) : lanes (ix2 i l) = BitVec.ofNat 32 l := by
  pointwise

/-- A selection of the lanes whose number is `c`. -/
theorem pick_at (x : IVec S128x128 32) (c : BitVec 32) (A B : FVec Ideal S128x128 .f32) (i l : Fin 128) :
    select (cmpi .eq x (broadcast S128x128 c)) A B (ix2 i l)
      = if IntOp.cmpi .eq (x (ix2 i l)) c = 1#1 then A (ix2 i l) else B (ix2 i l) := by
  pointwise; rfl

/-- The statistics after one pair of heads, lane by lane. -/
theorem put_at (a b c : ℕ) (ha : a < 1000) (hb : b < 1000) (hc : c < 1000) (m m' : FVec Ideal S128x1 .f32)
    (u : FVec Ideal S128x256 .f32) (st : FVec Ideal S128x128 .f32) (i l : Fin 128) :
    put (BitVec.ofNat 32 a) (BitVec.ofNat 32 b) (BitVec.ofNat 32 c) m m' u st (ix2 i l)
      = if l.val / 2 = c then extractStridedSlice S128x128 ![0, 128] u slices_S128x256_o0_128_S128x128 (ix2 i l)
        else if l.val = b then spread m' (ix2 i l) else if l.val = a then spread m (ix2 i l) else st (ix2 i l) := by
  refine (pick_at half _ _ _ i l).trans ?_
  rw [half_at]
  refine ite_congr (propext (eq_iff (l.val / 2) c (by omega) (by omega))) (fun _ => rfl) fun _ => ?_
  refine (pick_at lanes _ _ _ i l).trans ?_
  rw [lanes_at]
  refine ite_congr (propext (eq_iff l.val b (by omega) (by omega))) (fun _ => rfl) fun _ => ?_
  refine (pick_at lanes _ _ _ i l).trans ?_
  rw [lanes_at]
  exact ite_congr (propext (eq_iff l.val a (by omega) (by omega))) (fun _ => rfl) fun _ => rfl

/-- The first head's scores over 128 keys. -/
theorem scores1_fst (q : FVec Ideal S128x128 .bf16) (k : FVec Ideal S128x128 .bf16) (i : Fin 128) (j : Fin 128) :
    fst1 (scores1 q k) (ix2 i j)
      = if j.val ≤ i.val then ∑ d : Fin 64, q (ix2 i ⟨d, by omega⟩) * k (ix2 j ⟨d, by omega⟩) else ⊥ := by
  pointwise
  simp only [low_iff _ (Fin.isLt _), mask_add, sle_iff _ _ (show j.val < 100000 by omega) (show i.val < 100000 by omega)]
  rw [sum_low (fun x => q (ix2 i x)) (fun x => k (ix2 j x))]

/-- The second head's scores over 128 keys. -/
theorem scores1_snd (q : FVec Ideal S128x128 .bf16) (k : FVec Ideal S128x128 .bf16) (i : Fin 128) (j : Fin 128) :
    snd1 (scores1 q k) (ix2 i j)
      = if j.val ≤ i.val then ∑ d : Fin 64, q (ix2 i ⟨64 + d, by omega⟩) * k (ix2 j ⟨64 + d, by omega⟩) else ⊥ := by
  pointwise
  simp only [low_iff _ (Fin.isLt _), mask_add, sle_iff _ _ (show j.val < 100000 by omega) (show i.val < 100000 by omega)]
  rw [sum_high (fun x => q (ix2 i x)) (fun x => k (ix2 j x))]

/-- The product at a lane of the weighted values, 128 keys. -/
theorem mix1_at (s : FVec Ideal S256x128 .f32) (v : FVec Ideal S128x128 .bf16) (sc : FVec Ideal S256x128 .bf16) (i l : Fin 128) :
    extractStridedSlice S128x128 ![0, 0] (mix1 s v sc) slices_S128x256_o0_0_S128x128 (ix2 i l)
      = ∑ j : Fin 128, wt (fun j => if l.val < 64 then fst1 s (ix2 i j) else snd1 s (ix2 i j)) j * v (ix2 j l) := by
  pointwise
  simp only [low_iff _ (Fin.isLt _)]
  by_cases h : l.val < 64
  · simp only [if_pos h, mul_zero, Finset.sum_const_zero, add_zero]; rfl
  · simp only [if_neg h, mul_zero, Finset.sum_const_zero, zero_add]; rfl

/-- The product at a lane of the weights' sums, 128 keys. -/
theorem mix1_sum (s : FVec Ideal S256x128 .f32) (v : FVec Ideal S128x128 .bf16) (sc : FVec Ideal S256x128 .bf16) (i l : Fin 128) :
    extractStridedSlice S128x128 ![0, 128] (mix1 s v sc) slices_S128x256_o0_128_S128x128 (ix2 i l)
      = (∑ j : Fin 128, wt (fun j => fst1 s (ix2 i j)) j * sc (ix2 ⟨j, by omega⟩ l))
        + ∑ j : Fin 128, wt (fun j => snd1 s (ix2 i j)) j * sc (ix2 ⟨128 + j, by omega⟩ l) := by
  pointwise; rfl

/-- The ones over the first head's weights. -/
theorem ones1_fst (a b : ℕ) (ha : a < 1000) (hb : b < 1000) (j : Fin 128) (l : Fin 128) :
    ones1 (BitVec.ofNat 32 a) (BitVec.ofNat 32 b) (ix2 ⟨j, by omega⟩ l) = if l.val = a then 1 else 0 := by
  pointwise
  simp only [select_ite, slt_iff j.val 128 (by omega) (by omega), if_pos j.isLt, eq_iff l.val a (by omega) (by omega)]

/-- The ones over the second head's weights. -/
theorem ones1_snd (a b : ℕ) (ha : a < 1000) (hb : b < 1000) (j : Fin 128) (l : Fin 128) :
    ones1 (BitVec.ofNat 32 a) (BitVec.ofNat 32 b) (ix2 ⟨128 + j, by omega⟩ l) = if l.val = b then 1 else 0 := by
  pointwise
  simp only [select_ite, slt_iff (128 + j.val) 128 (by omega) (by omega), if_neg (show ¬ 128 + j.val < 128 by omega),
    eq_iff l.val b (by omega) (by omega)]

/-- The lanes of a pair of heads, read from the block. -/
theorem cols1_at (p : Fin 4) (k : Vec Ideal S1x1x128x512 .bf16) (j : Fin 128) (l : Fin 128) :
    cols1 p k (ix2 j l) = k (ix4 0 0 j (chunk p l)) := by
  fin_cases p <;> (dsimp only [cols1]; pointwise; exact congrArg (fun z => k (ix4 0 0 j z)) (Fin.ext (by simp [chunk])))

/-- The ones of a pair of heads. -/
theorem sums1_eq (p : Fin 4) : sums1 p = ones1 (BitVec.ofNat 32 (8 + 2 * p)) (BitVec.ofNat 32 (9 + 2 * p)) := by
  fin_cases p <;> rfl

/-- A row's largest score, spread over the lanes. -/
theorem peak1_at (s : FVec Ideal S128x128 .f32) (i l : Fin 128) : spread (peak1 s) (ix2 i l) = peak fun j => s (ix2 i j) := by
  pointwise; rfl

/-- The lanes of a pair's sums, from its two heads' scores. -/
theorem pair1_sum (s : FVec Ideal S256x128 .f32) (v : FVec Ideal S128x128 .bf16) (p : Fin 4) (i l : Fin 128) (f g : Fin 128 → EReal)
    (hf : ∀ j, fst1 s (ix2 i j) = f j) (hg : ∀ j, snd1 s (ix2 i j) = g j) :
    extractStridedSlice S128x128 ![0, 128] (mix1 s v (sums1 p)) slices_S128x256_o0_128_S128x128 (ix2 i l)
      = (∑ j, wt f j * if l.val = 8 + 2 * p then 1 else 0) + ∑ j, wt g j * if l.val = 9 + 2 * p then 1 else 0 := by
  obtain rfl : (fun j => fst1 s (ix2 i j)) = f := funext hf
  obtain rfl : (fun j => snd1 s (ix2 i j)) = g := funext hg
  rw [mix1_sum, sums1_eq]
  simp only [ones1_fst (8 + 2 * p) (9 + 2 * p) (by omega) (by omega), ones1_snd (8 + 2 * p) (9 + 2 * p) (by omega) (by omega)]

section
variable {L : ℕ} (Q K V : Fin L → Fin 512 → EReal) (p : Fin 4) (q : Vec Ideal S1x1x128x128 .bf16)
  (k v : Vec Ideal S1x1x128x512 .bf16) (i : Fin 128) (hL : 128 ≤ L)
  (hq : ∀ l : Fin 128, q (ix4 0 0 i l) = Q (ownRow hL i) (chunk p l))
  (hk : ∀ (j : Fin 128) (l : Fin 512), k (ix4 0 0 j l) = K (ownRow hL j) l)
  (hv : ∀ (j : Fin 128) (l : Fin 512), v (ix4 0 0 j l) = V (ownRow hL j) l)

include hq hk in
/-- The first head's scores are those of the layer. -/
theorem blk1_fst (j : Fin 128) : fst1 (blk1 p q k) (ix2 i j) = score Q K ⟨2 * p, by omega⟩ (ownRow hL i) (ownRow hL j) := by
  refine (scores1_fst _ _ i j).trans ?_
  unfold score
  refine ite_congr (propext ⟨fun h => ?_, fun h => ?_⟩) (fun _ => Finset.sum_congr rfl fun d _ => ?_) fun _ => rfl
  · dsimp only [chunk, ownRow]; omega
  · dsimp only [chunk, ownRow] at h; omega
  · rw [cols1_at, hk, show shapeCast S128x128 q shapeCasts_S1x1x128x128_S128x128 (ix2 i ⟨d, by omega⟩)
      = q (ix4 0 0 i ⟨d, by omega⟩) by pointwise, hq]
    congr 2 <;> (apply Fin.ext; dsimp only [chunk, ownRow, lane]; omega)

include hq hk in
/-- The second head's scores are those of the layer. -/
theorem blk1_snd (j : Fin 128) : snd1 (blk1 p q k) (ix2 i j) = score Q K ⟨2 * p + 1, by omega⟩ (ownRow hL i) (ownRow hL j) := by
  refine (scores1_snd _ _ i j).trans ?_
  unfold score
  refine ite_congr (propext ⟨fun h => ?_, fun h => ?_⟩) (fun _ => Finset.sum_congr rfl fun d _ => ?_) fun _ => rfl
  · dsimp only [chunk, ownRow]; omega
  · dsimp only [chunk, ownRow] at h; omega
  · rw [cols1_at, hk, show shapeCast S128x128 q shapeCasts_S1x1x128x128_S128x128 (ix2 i ⟨64 + d, by omega⟩)
      = q (ix4 0 0 i ⟨64 + d, by omega⟩) by pointwise, hq]
    congr 2 <;> (apply Fin.ext; dsimp only [chunk, ownRow, lane]; omega)

omit hq hk hv in
/-- A key the block does not hold is outside the query's window. -/
theorem out1 (h : Fin 8) (j : Fin L) (hj : j ∉ Set.range fun j : Fin 128 => ((ownRow hL j) : Fin L)) : score Q K h (ownRow hL i) j = ⊥ := by
  refine if_neg fun hw => hj ?_
  dsimp only [chunk, ownRow] at hw
  exact ⟨⟨j - 0, by omega⟩, Fin.ext (by dsimp only [chunk, ownRow]; omega)⟩

omit hq hk hv in
/-- The keys of the block are different keys. -/
theorem inj1 : Function.Injective fun j : Fin 128 => ((ownRow hL j) : Fin L) := fun a b h => by
  have := congrArg Fin.val h
  apply Fin.ext; dsimp only [chunk, ownRow] at this; omega

include hq hk hv in
/-- What the body stores of a pair of heads is the layer's weighted values. -/
theorem pv1_at (l : Fin 128) : pv1 p q k v (ix4 0 0 i l) = mixed Q K V (ownRow hL i) (chunk p l) := by
  have h0 : pv1 p q k v (ix4 0 0 i l)
      = extractStridedSlice S128x128 ![0, 0] (unit1 p q k v) slices_S128x256_o0_0_S128x128 (ix2 i l) := by
    unfold pv1; generalize unit1 p q k v = u; pointwise
  rw [h0]
  refine (mix1_at _ _ _ i l).trans ?_
  unfold mixed
  rw [mix_window _ (inj1 hL) _ (fun j => score Q K ⟨(128 * p.val + l.val) / 64, by omega⟩ (ownRow hL i) (ownRow hL j)) (fun _ => rfl)
    (fun j hj => out1 Q K i hL _ j hj)]
  refine Finset.sum_congr rfl fun j _ => ?_
  rw [cols1_at, hv]
  refine congrArg (· * _) (congrFun (congrArg wt (funext fun j => ?_)) j)
  by_cases h : l.val < 64
  · have e : (⟨2 * p, by omega⟩ : Fin 8) = ⟨(128 * p.val + l.val) / 64, by omega⟩ := Fin.ext (by dsimp only [chunk, ownRow]; omega)
    refine (if_pos h).trans ((blk1_fst Q K p q k i hL hq hk j).trans ?_)
    rw [e]
  · have e : (⟨2 * p + 1, by omega⟩ : Fin 8) = ⟨(128 * p.val + l.val) / 64, by omega⟩ := Fin.ext (by dsimp only [chunk, ownRow]; omega)
    refine (if_neg h).trans ((blk1_snd Q K p q k i hL hq hk j).trans ?_)
    rw [e]

include hq hk in
/-- The first head's largest score. -/
theorem top1_fst (l : Fin 128) : spread (peak1 (fst1 (blk1 p q k))) (ix2 i l) = peak (score Q K ⟨2 * p, by omega⟩ (ownRow hL i)) := by
  rw [peak1_at, peak_window _ _ (fun j => score Q K ⟨2 * p, by omega⟩ (ownRow hL i) (ownRow hL j)) (fun _ => rfl)
    (fun j hj => out1 Q K i hL _ j hj)]
  exact congrArg peak (funext fun j => blk1_fst Q K p q k i hL hq hk j)

include hq hk in
/-- The second head's largest score. -/
theorem top1_snd (l : Fin 128) : spread (peak1 (snd1 (blk1 p q k))) (ix2 i l) = peak (score Q K ⟨2 * p + 1, by omega⟩ (ownRow hL i)) := by
  rw [peak1_at, peak_window _ _ (fun j => score Q K ⟨2 * p + 1, by omega⟩ (ownRow hL i) (ownRow hL j)) (fun _ => rfl)
    (fun j hj => out1 Q K i hL _ j hj)]
  exact congrArg peak (funext fun j => blk1_snd Q K p q k i hL hq hk j)

include hq hk in
/-- The lanes of the weights' sums. -/
theorem sum1_at (l : Fin 128) (hl : l.val / 2 = 4 + p) :
    extractStridedSlice S128x128 ![0, 128] (unit1 p q k v) slices_S128x256_o0_128_S128x128 (ix2 i l)
      = ∑ j, wt (score Q K ⟨l - 8, by omega⟩ (ownRow hL i)) j := by
  refine (pair1_sum (blk1 p q k) (cols1 p v) p i l _ _ (fun j => blk1_fst Q K p q k i hL hq hk j)
    fun j => blk1_snd Q K p q k i hL hq hk j).trans ?_
  rw [total_window _ (inj1 hL) _ (fun j => score Q K ⟨l - 8, by omega⟩ (ownRow hL i) (ownRow hL j)) (fun _ => rfl)
    (fun j hj => out1 Q K i hL _ j hj)]
  by_cases h : l.val = 8 + 2 * p
  · simp only [if_pos h, if_neg (show ¬ l.val = 9 + 2 * p by omega), mul_zero, mul_one, Finset.sum_const_zero, add_zero]
    have e : (⟨2 * p, by omega⟩ : Fin 8) = ⟨l - 8, by omega⟩ := Fin.ext (by dsimp only [chunk, ownRow]; omega)
    rw [e]
  · simp only [if_neg h, if_pos (show l.val = 9 + 2 * p by omega), mul_zero, mul_one, Finset.sum_const_zero, zero_add]
    have e : (⟨2 * p + 1, by omega⟩ : Fin 8) = ⟨l - 8, by omega⟩ := Fin.ext (by dsimp only [chunk, ownRow]; omega)
    rw [e]

include hq hk in
/-- One pair of heads written into the statistics. -/
theorem step1 (st : FVec Ideal S128x128 .f32) (l : Fin 128) :
    put (BitVec.ofNat 32 (2 * p)) (BitVec.ofNat 32 (2 * p + 1)) (BitVec.ofNat 32 (4 + p)) (peak1 (fst1 (blk1 p q k)))
        (peak1 (snd1 (blk1 p q k))) (unit1 p q k v) st (ix2 i l)
      = if l.val / 2 = 4 + p ∨ l.val / 2 = p then stat Q K (ownRow hL i) l else st (ix2 i l) := by
  rw [put_at _ _ _ (by omega) (by omega) (by omega)]
  by_cases h : l.val / 2 = 4 + p
  · rw [if_pos h, if_pos (Or.inl h), sum1_at Q K p q k v i hL hq hk l h]
    unfold stat
    rw [dif_neg (by omega), dif_pos (by omega)]
  · rw [if_neg h]
    by_cases h' : l.val / 2 = p
    · rw [if_pos (Or.inr h')]
      unfold stat
      rw [dif_pos (by omega)]
      by_cases h1 : l.val = 2 * p + 1
      · rw [if_pos h1, top1_snd Q K p q k i hL hq hk]
        have e : (⟨2 * p + 1, by omega⟩ : Fin 8) = ⟨l, by omega⟩ := Fin.ext h1.symm
        rw [e]
      · have h0 : l.val = 2 * p := by omega
        rw [if_neg h1, if_pos h0, top1_fst Q K p q k i hL hq hk]
        have e : (⟨2 * p, by omega⟩ : Fin 8) = ⟨l, by omega⟩ := Fin.ext h0.symm
        rw [e]
    · rw [if_neg (by omega), if_neg (by omega), if_neg (by omega)]

/-- The statistics the body stores are those of the layer. -/
theorem st1_at (q : Fin 4 → Vec Ideal S1x1x128x128 .bf16)
    (hq : ∀ (p : Fin 4) (l : Fin 128), q p (ix4 0 0 i l) = Q (ownRow hL i) (chunk p l))
    (hk : ∀ (j : Fin 128) (l : Fin 512), k (ix4 0 0 j l) = K (ownRow hL j) l) (l : Fin 128) :
    st1 (q 0) (q 1) (q 2) (q 3) k v (ix4 0 0 i l) = stat Q K (ownRow hL i) l := by
  have h0 : ∀ x : FVec Ideal S128x128 .f32, shapeCast S1x1x128x128 x shapeCasts_S128x128_S1x1x128x128 (ix4 0 0 i l) = x (ix2 i l) := by
    intro x; pointwise
  refine (h0 _).trans ?_
  refine (step1 Q K 3 (q 3) k v i hL (hq 3) hk _ l).trans ?_
  rw [show ∀ x, (if l.val / 2 = 4 + ((3 : Fin 4) : ℕ) ∨ l.val / 2 = ((3 : Fin 4) : ℕ) then stat Q K (ownRow hL i) l else x) = if l.val / 2 = 7 ∨ l.val / 2 = 3 then stat Q K (ownRow hL i) l else x from fun _ => rfl]
  split_ifs with h3
  · rfl
  refine (step1 Q K 2 (q 2) k v i hL (hq 2) hk _ l).trans ?_
  rw [show ∀ x, (if l.val / 2 = 4 + ((2 : Fin 4) : ℕ) ∨ l.val / 2 = ((2 : Fin 4) : ℕ) then stat Q K (ownRow hL i) l else x) = if l.val / 2 = 6 ∨ l.val / 2 = 2 then stat Q K (ownRow hL i) l else x from fun _ => rfl]
  split_ifs with h2
  · rfl
  refine (step1 Q K 1 (q 1) k v i hL (hq 1) hk _ l).trans ?_
  rw [show ∀ x, (if l.val / 2 = 4 + ((1 : Fin 4) : ℕ) ∨ l.val / 2 = ((1 : Fin 4) : ℕ) then stat Q K (ownRow hL i) l else x) = if l.val / 2 = 5 ∨ l.val / 2 = 1 then stat Q K (ownRow hL i) l else x from fun _ => rfl]
  split_ifs with h1
  · rfl
  refine (step1 Q K 0 (q 0) k v i hL (hq 0) hk _ l).trans ?_
  rw [show ∀ x, (if l.val / 2 = 4 + ((0 : Fin 4) : ℕ) ∨ l.val / 2 = ((0 : Fin 4) : ℕ) then stat Q K (ownRow hL i) l else x) = if l.val / 2 = 4 ∨ l.val / 2 = 0 then stat Q K (ownRow hL i) l else x from fun _ => rfl]
  split_ifs with h0
  · rfl
  unfold stat
  rw [dif_neg (by omega), dif_neg (by omega)]
  exact Ideal.ofBits_zero_f32
end

/-- The first head's scores over 256 keys. -/
theorem scores2_fst (q : FVec Ideal S128x128 .bf16) (k : FVec Ideal S256x128 .bf16) (i : Fin 128) (j : Fin 256) :
    fst2 (scores2 q k) (ix2 i j)
      = if i.val ≤ j.val ∧ j.val ≤ i.val + 128 then ∑ d : Fin 64, q (ix2 i ⟨d, by omega⟩) * k (ix2 j ⟨d, by omega⟩) else ⊥ := by
  pointwise
  simp only [low_iff _ (Fin.isLt _), masks_add, reach, sge_iff _ _ (show j.val < 100000 by omega) (show i.val < 100000 by omega),
    sle_iff _ _ (show j.val < 100000 by omega) (show i.val + 128 < 100000 by omega)]
  rw [sum_low (fun x => q (ix2 i x)) (fun x => k (ix2 j x))]

/-- The second head's scores over 256 keys. -/
theorem scores2_snd (q : FVec Ideal S128x128 .bf16) (k : FVec Ideal S256x128 .bf16) (i : Fin 128) (j : Fin 256) :
    snd2 (scores2 q k) (ix2 i j)
      = if i.val ≤ j.val ∧ j.val ≤ i.val + 128 then ∑ d : Fin 64, q (ix2 i ⟨64 + d, by omega⟩) * k (ix2 j ⟨64 + d, by omega⟩) else ⊥ := by
  pointwise
  simp only [low_iff _ (Fin.isLt _), masks_add, reach, sge_iff _ _ (show j.val < 100000 by omega) (show i.val < 100000 by omega),
    sle_iff _ _ (show j.val < 100000 by omega) (show i.val + 128 < 100000 by omega)]
  rw [sum_high (fun x => q (ix2 i x)) (fun x => k (ix2 j x))]

/-- The product at a lane of the weighted values, 256 keys. -/
theorem mix2_at (s : FVec Ideal S256x256 .f32) (v : FVec Ideal S256x128 .bf16) (sc : FVec Ideal S512x128 .bf16) (i l : Fin 128) :
    extractStridedSlice S128x128 ![0, 0] (mix2 s v sc) slices_S128x256_o0_0_S128x128 (ix2 i l)
      = ∑ j : Fin 256, wt (fun j => if l.val < 64 then fst2 s (ix2 i j) else snd2 s (ix2 i j)) j * v (ix2 j l) := by
  pointwise
  simp only [low_iff _ (Fin.isLt _)]
  by_cases h : l.val < 64
  · simp only [if_pos h, mul_zero, Finset.sum_const_zero, add_zero]; rfl
  · simp only [if_neg h, mul_zero, Finset.sum_const_zero, zero_add]; rfl

/-- The product at a lane of the weights' sums, 256 keys. -/
theorem mix2_sum (s : FVec Ideal S256x256 .f32) (v : FVec Ideal S256x128 .bf16) (sc : FVec Ideal S512x128 .bf16) (i l : Fin 128) :
    extractStridedSlice S128x128 ![0, 128] (mix2 s v sc) slices_S128x256_o0_128_S128x128 (ix2 i l)
      = (∑ j : Fin 256, wt (fun j => fst2 s (ix2 i j)) j * sc (ix2 ⟨j, by omega⟩ l))
        + ∑ j : Fin 256, wt (fun j => snd2 s (ix2 i j)) j * sc (ix2 ⟨256 + j, by omega⟩ l) := by
  pointwise; rfl

/-- The ones over the first head's weights. -/
theorem ones2_fst (a b : ℕ) (ha : a < 1000) (hb : b < 1000) (j : Fin 256) (l : Fin 128) :
    ones2 (BitVec.ofNat 32 a) (BitVec.ofNat 32 b) (ix2 ⟨j, by omega⟩ l) = if l.val = a then 1 else 0 := by
  pointwise
  simp only [select_ite, slt_iff j.val 256 (by omega) (by omega), if_pos j.isLt, eq_iff l.val a (by omega) (by omega)]

/-- The ones over the second head's weights. -/
theorem ones2_snd (a b : ℕ) (ha : a < 1000) (hb : b < 1000) (j : Fin 256) (l : Fin 128) :
    ones2 (BitVec.ofNat 32 a) (BitVec.ofNat 32 b) (ix2 ⟨256 + j, by omega⟩ l) = if l.val = b then 1 else 0 := by
  pointwise
  simp only [select_ite, slt_iff (256 + j.val) 256 (by omega) (by omega), if_neg (show ¬ 256 + j.val < 256 by omega),
    eq_iff l.val b (by omega) (by omega)]

/-- The lanes of a pair of heads, read from the block. -/
theorem cols2_at (p : Fin 4) (k : Vec Ideal S1x1x256x512 .bf16) (j : Fin 256) (l : Fin 128) :
    cols2 p k (ix2 j l) = k (ix4 0 0 j (chunk p l)) := by
  fin_cases p <;> (dsimp only [cols2]; pointwise; exact congrArg (fun z => k (ix4 0 0 j z)) (Fin.ext (by simp [chunk])))

/-- The ones of a pair of heads. -/
theorem sums2_eq (p : Fin 4) : sums2 p = ones2 (BitVec.ofNat 32 (8 + 2 * p)) (BitVec.ofNat 32 (9 + 2 * p)) := by
  fin_cases p <;> rfl

/-- A row's largest score, spread over the lanes. -/
theorem peak2_at (s : FVec Ideal S128x256 .f32) (i l : Fin 128) : spread (peak2 s) (ix2 i l) = peak fun j => s (ix2 i j) := by
  pointwise; rfl

/-- The lanes of a pair's sums, from its two heads' scores. -/
theorem pair2_sum (s : FVec Ideal S256x256 .f32) (v : FVec Ideal S256x128 .bf16) (p : Fin 4) (i l : Fin 128) (f g : Fin 256 → EReal)
    (hf : ∀ j, fst2 s (ix2 i j) = f j) (hg : ∀ j, snd2 s (ix2 i j) = g j) :
    extractStridedSlice S128x128 ![0, 128] (mix2 s v (sums2 p)) slices_S128x256_o0_128_S128x128 (ix2 i l)
      = (∑ j, wt f j * if l.val = 8 + 2 * p then 1 else 0) + ∑ j, wt g j * if l.val = 9 + 2 * p then 1 else 0 := by
  obtain rfl : (fun j => fst2 s (ix2 i j)) = f := funext hf
  obtain rfl : (fun j => snd2 s (ix2 i j)) = g := funext hg
  rw [mix2_sum, sums2_eq]
  simp only [ones2_fst (8 + 2 * p) (9 + 2 * p) (by omega) (by omega), ones2_snd (8 + 2 * p) (9 + 2 * p) (by omega) (by omega)]

section
variable {L : ℕ} (Q K V : Fin L → Fin 512 → EReal) (p : Fin 4) (q : Vec Ideal S1x1x128x128 .bf16)
  (k v : Vec Ideal S1x1x256x512 .bf16) (i : Fin 128) (b : ℕ) (hb : b + 256 ≤ L)
  (hq : ∀ l : Fin 128, q (ix4 0 0 i l) = Q (laterRow b hb i) (chunk p l))
  (hk : ∀ (j : Fin 256) (l : Fin 512), k (ix4 0 0 j l) = K (bandRow b hb j) l)
  (hv : ∀ (j : Fin 256) (l : Fin 512), v (ix4 0 0 j l) = V (bandRow b hb j) l)

include hq hk in
/-- The first head's scores are those of the layer. -/
theorem blk2_fst (j : Fin 256) : fst2 (blk2 p q k) (ix2 i j) = score Q K ⟨2 * p, by omega⟩ (laterRow b hb i) (bandRow b hb j) := by
  refine (scores2_fst _ _ i j).trans ?_
  unfold score
  refine ite_congr (propext ⟨fun h => ?_, fun h => ?_⟩) (fun _ => Finset.sum_congr rfl fun d _ => ?_) fun _ => rfl
  · dsimp only [chunk, laterRow, bandRow]; omega
  · dsimp only [chunk, laterRow, bandRow] at h; omega
  · rw [cols2_at, hk, show shapeCast S128x128 q shapeCasts_S1x1x128x128_S128x128 (ix2 i ⟨d, by omega⟩)
      = q (ix4 0 0 i ⟨d, by omega⟩) by pointwise, hq]
    congr 2 <;> (apply Fin.ext; dsimp only [chunk, laterRow, bandRow, lane]; omega)

include hq hk in
/-- The second head's scores are those of the layer. -/
theorem blk2_snd (j : Fin 256) : snd2 (blk2 p q k) (ix2 i j) = score Q K ⟨2 * p + 1, by omega⟩ (laterRow b hb i) (bandRow b hb j) := by
  refine (scores2_snd _ _ i j).trans ?_
  unfold score
  refine ite_congr (propext ⟨fun h => ?_, fun h => ?_⟩) (fun _ => Finset.sum_congr rfl fun d _ => ?_) fun _ => rfl
  · dsimp only [chunk, laterRow, bandRow]; omega
  · dsimp only [chunk, laterRow, bandRow] at h; omega
  · rw [cols2_at, hk, show shapeCast S128x128 q shapeCasts_S1x1x128x128_S128x128 (ix2 i ⟨64 + d, by omega⟩)
      = q (ix4 0 0 i ⟨64 + d, by omega⟩) by pointwise, hq]
    congr 2 <;> (apply Fin.ext; dsimp only [chunk, laterRow, bandRow, lane]; omega)

omit hq hk hv in
/-- A key the block does not hold is outside the query's window. -/
theorem out2 (h : Fin 8) (j : Fin L) (hj : j ∉ Set.range fun j : Fin 256 => ((bandRow b hb j) : Fin L)) : score Q K h (laterRow b hb i) j = ⊥ := by
  refine if_neg fun hw => hj ?_
  dsimp only [chunk, laterRow, bandRow] at hw
  exact ⟨⟨j - b, by omega⟩, Fin.ext (by dsimp only [chunk, laterRow, bandRow]; omega)⟩

omit hq hk hv in
/-- The keys of the block are different keys. -/
theorem inj2 : Function.Injective fun j : Fin 256 => ((bandRow b hb j) : Fin L) := fun a b h => by
  have := congrArg Fin.val h
  apply Fin.ext; dsimp only [chunk, laterRow, bandRow] at this; omega

include hq hk hv in
/-- What the body stores of a pair of heads is the layer's weighted values. -/
theorem pv2_at (l : Fin 128) : pv2 p q k v (ix4 0 0 i l) = mixed Q K V (laterRow b hb i) (chunk p l) := by
  have h0 : pv2 p q k v (ix4 0 0 i l)
      = extractStridedSlice S128x128 ![0, 0] (unit2 p q k v) slices_S128x256_o0_0_S128x128 (ix2 i l) := by
    unfold pv2; generalize unit2 p q k v = u; pointwise
  rw [h0]
  refine (mix2_at _ _ _ i l).trans ?_
  unfold mixed
  rw [mix_window _ (inj2 b hb) _ (fun j => score Q K ⟨(128 * p.val + l.val) / 64, by omega⟩ (laterRow b hb i) (bandRow b hb j)) (fun _ => rfl)
    (fun j hj => out2 Q K i b hb _ j hj)]
  refine Finset.sum_congr rfl fun j _ => ?_
  rw [cols2_at, hv]
  refine congrArg (· * _) (congrFun (congrArg wt (funext fun j => ?_)) j)
  by_cases h : l.val < 64
  · have e : (⟨2 * p, by omega⟩ : Fin 8) = ⟨(128 * p.val + l.val) / 64, by omega⟩ := Fin.ext (by dsimp only [chunk, laterRow, bandRow]; omega)
    refine (if_pos h).trans ((blk2_fst Q K p q k i b hb hq hk j).trans ?_)
    rw [e]
  · have e : (⟨2 * p + 1, by omega⟩ : Fin 8) = ⟨(128 * p.val + l.val) / 64, by omega⟩ := Fin.ext (by dsimp only [chunk, laterRow, bandRow]; omega)
    refine (if_neg h).trans ((blk2_snd Q K p q k i b hb hq hk j).trans ?_)
    rw [e]

include hq hk in
/-- The first head's largest score. -/
theorem top2_fst (l : Fin 128) : spread (peak2 (fst2 (blk2 p q k))) (ix2 i l) = peak (score Q K ⟨2 * p, by omega⟩ (laterRow b hb i)) := by
  rw [peak2_at, peak_window _ _ (fun j => score Q K ⟨2 * p, by omega⟩ (laterRow b hb i) (bandRow b hb j)) (fun _ => rfl)
    (fun j hj => out2 Q K i b hb _ j hj)]
  exact congrArg peak (funext fun j => blk2_fst Q K p q k i b hb hq hk j)

include hq hk in
/-- The second head's largest score. -/
theorem top2_snd (l : Fin 128) : spread (peak2 (snd2 (blk2 p q k))) (ix2 i l) = peak (score Q K ⟨2 * p + 1, by omega⟩ (laterRow b hb i)) := by
  rw [peak2_at, peak_window _ _ (fun j => score Q K ⟨2 * p + 1, by omega⟩ (laterRow b hb i) (bandRow b hb j)) (fun _ => rfl)
    (fun j hj => out2 Q K i b hb _ j hj)]
  exact congrArg peak (funext fun j => blk2_snd Q K p q k i b hb hq hk j)

include hq hk in
/-- The lanes of the weights' sums. -/
theorem sum2_at (l : Fin 128) (hl : l.val / 2 = 4 + p) :
    extractStridedSlice S128x128 ![0, 128] (unit2 p q k v) slices_S128x256_o0_128_S128x128 (ix2 i l)
      = ∑ j, wt (score Q K ⟨l - 8, by omega⟩ (laterRow b hb i)) j := by
  refine (pair2_sum (blk2 p q k) (cols2 p v) p i l _ _ (fun j => blk2_fst Q K p q k i b hb hq hk j)
    fun j => blk2_snd Q K p q k i b hb hq hk j).trans ?_
  rw [total_window _ (inj2 b hb) _ (fun j => score Q K ⟨l - 8, by omega⟩ (laterRow b hb i) (bandRow b hb j)) (fun _ => rfl)
    (fun j hj => out2 Q K i b hb _ j hj)]
  by_cases h : l.val = 8 + 2 * p
  · simp only [if_pos h, if_neg (show ¬ l.val = 9 + 2 * p by omega), mul_zero, mul_one, Finset.sum_const_zero, add_zero]
    have e : (⟨2 * p, by omega⟩ : Fin 8) = ⟨l - 8, by omega⟩ := Fin.ext (by dsimp only [chunk, laterRow, bandRow]; omega)
    rw [e]
  · simp only [if_neg h, if_pos (show l.val = 9 + 2 * p by omega), mul_zero, mul_one, Finset.sum_const_zero, zero_add]
    have e : (⟨2 * p + 1, by omega⟩ : Fin 8) = ⟨l - 8, by omega⟩ := Fin.ext (by dsimp only [chunk, laterRow, bandRow]; omega)
    rw [e]

include hq hk in
/-- One pair of heads written into the statistics. -/
theorem step2 (st : FVec Ideal S128x128 .f32) (l : Fin 128) :
    put (BitVec.ofNat 32 (2 * p)) (BitVec.ofNat 32 (2 * p + 1)) (BitVec.ofNat 32 (4 + p)) (peak2 (fst2 (blk2 p q k)))
        (peak2 (snd2 (blk2 p q k))) (unit2 p q k v) st (ix2 i l)
      = if l.val / 2 = 4 + p ∨ l.val / 2 = p then stat Q K (laterRow b hb i) l else st (ix2 i l) := by
  rw [put_at _ _ _ (by omega) (by omega) (by omega)]
  by_cases h : l.val / 2 = 4 + p
  · rw [if_pos h, if_pos (Or.inl h), sum2_at Q K p q k v i b hb hq hk l h]
    unfold stat
    rw [dif_neg (by omega), dif_pos (by omega)]
  · rw [if_neg h]
    by_cases h' : l.val / 2 = p
    · rw [if_pos (Or.inr h')]
      unfold stat
      rw [dif_pos (by omega)]
      by_cases h1 : l.val = 2 * p + 1
      · rw [if_pos h1, top2_snd Q K p q k i b hb hq hk]
        have e : (⟨2 * p + 1, by omega⟩ : Fin 8) = ⟨l, by omega⟩ := Fin.ext h1.symm
        rw [e]
      · have h0 : l.val = 2 * p := by omega
        rw [if_neg h1, if_pos h0, top2_fst Q K p q k i b hb hq hk]
        have e : (⟨2 * p, by omega⟩ : Fin 8) = ⟨l, by omega⟩ := Fin.ext h0.symm
        rw [e]
    · rw [if_neg (by omega), if_neg (by omega), if_neg (by omega)]

/-- The statistics the body stores are those of the layer. -/
theorem st2_at (q : Fin 4 → Vec Ideal S1x1x128x128 .bf16)
    (hq : ∀ (p : Fin 4) (l : Fin 128), q p (ix4 0 0 i l) = Q (laterRow b hb i) (chunk p l))
    (hk : ∀ (j : Fin 256) (l : Fin 512), k (ix4 0 0 j l) = K (bandRow b hb j) l) (l : Fin 128) :
    st2 (q 0) (q 1) (q 2) (q 3) k v (ix4 0 0 i l) = stat Q K (laterRow b hb i) l := by
  have h0 : ∀ x : FVec Ideal S128x128 .f32, shapeCast S1x1x128x128 x shapeCasts_S128x128_S1x1x128x128 (ix4 0 0 i l) = x (ix2 i l) := by
    intro x; pointwise
  refine (h0 _).trans ?_
  refine (step2 Q K 3 (q 3) k v i b hb (hq 3) hk _ l).trans ?_
  rw [show ∀ x, (if l.val / 2 = 4 + ((3 : Fin 4) : ℕ) ∨ l.val / 2 = ((3 : Fin 4) : ℕ) then stat Q K (laterRow b hb i) l else x) = if l.val / 2 = 7 ∨ l.val / 2 = 3 then stat Q K (laterRow b hb i) l else x from fun _ => rfl]
  split_ifs with h3
  · rfl
  refine (step2 Q K 2 (q 2) k v i b hb (hq 2) hk _ l).trans ?_
  rw [show ∀ x, (if l.val / 2 = 4 + ((2 : Fin 4) : ℕ) ∨ l.val / 2 = ((2 : Fin 4) : ℕ) then stat Q K (laterRow b hb i) l else x) = if l.val / 2 = 6 ∨ l.val / 2 = 2 then stat Q K (laterRow b hb i) l else x from fun _ => rfl]
  split_ifs with h2
  · rfl
  refine (step2 Q K 1 (q 1) k v i b hb (hq 1) hk _ l).trans ?_
  rw [show ∀ x, (if l.val / 2 = 4 + ((1 : Fin 4) : ℕ) ∨ l.val / 2 = ((1 : Fin 4) : ℕ) then stat Q K (laterRow b hb i) l else x) = if l.val / 2 = 5 ∨ l.val / 2 = 1 then stat Q K (laterRow b hb i) l else x from fun _ => rfl]
  split_ifs with h1
  · rfl
  refine (step2 Q K 0 (q 0) k v i b hb (hq 0) hk _ l).trans ?_
  rw [show ∀ x, (if l.val / 2 = 4 + ((0 : Fin 4) : ℕ) ∨ l.val / 2 = ((0 : Fin 4) : ℕ) then stat Q K (laterRow b hb i) l else x) = if l.val / 2 = 4 ∨ l.val / 2 = 0 then stat Q K (laterRow b hb i) l else x from fun _ => rfl]
  split_ifs with h0
  · rfl
  unfold stat
  rw [dif_neg (by omega), dif_neg (by omega)]
  exact Ideal.ofBits_zero_f32
end

end Cert.AttnPf

end
-- ==== Proof.AttnTiles.lean ====
module

public import proofs.«01_k».proof.Proof.AttnRows

@[expose] public section

set_option maxRecDepth 16384

noncomputable section

namespace Cert.AttnPf

open Cert.Attn16Ideal Cert.Attn16Ideal.Gen Idealize.ShloMosaic Idealize.ShloMosaic.TcCoe Idealize.SL.Sem

/-- The rows of one residue class in a block. -/
def rowsOf {R L : ℕ} (x : Vec Ideal (⟨4, ![1, R, L, 512]⟩ : Shape) .bf16) (r : Fin R) : Fin L → Fin 512 → EReal :=
  fun i l => x (ix4 0 r i l)

variable {R L : ℕ}

/-- A part of a block, read at its coordinates. -/
theorem part_at {A B : ℕ} (x : Vec Ideal (⟨4, ![1, R, L, 512]⟩ : Shape) .bf16) (off : Fin 4 → ℕ)
    (inb : ∀ a, off a + (![1, 1, A, B] : Fin 4 → ℕ) a ≤ (⟨4, ![1, R, L, 512]⟩ : Shape).size a)
    (i : Fin A) (l : Fin B) (r : Fin R) (h0 : off 0 = 0) (h1 : off 1 = r) (i' : Fin L) (hi : i'.val = off 2 + i) (l' : Fin 512)
    (hl : l'.val = off 3 + l) :
    View.ld x (Rect.unit (s := ⟨4, ![1, R, L, 512]⟩) off ![1, 1, A, B] inb) (ix4 (0 : Fin 1) (0 : Fin 1) i l) = rowsOf x r i' l' := by
  unfold rowsOf
  refine congrArg x (funext fun a => Fin.ext ?_)
  fin_cases a
  · show off 0 + 1 * 0 = 0; omega
  · show off 1 + 1 * 0 = r.val; omega
  · show off 2 + 1 * i.val = i'.val; omega
  · show off 3 + 1 * l.val = l'.val; omega

section
variable (x0 x1 x2 : Vec Ideal (⟨4, ![1, R, L, 512]⟩ : Shape) .bf16) (y0 : Fin 1) (y1 : Fin R) (y2 : Fin L) (off offk : Fin 4 → ℕ)
  (h0 : off 0 = 0) (hk0 : offk 0 = 0) (hk1 : offk 1 = off 1) (hk3 : offk 3 = 0)

include h0 hk0 hk1 hk3 in
/-- The weighted values stored from the first block of queries of a residue class. -/
theorem tile1 (p : Fin 4) (inb : ∀ a, off a + (![1, 1, 128, 128] : Fin 4 → ℕ) a ≤ (⟨4, ![1, R, L, 512]⟩ : Shape).size a)
    (inbk : ∀ a, offk a + (![1, 1, 128, 512] : Fin 4 → ℕ) a ≤ (⟨4, ![1, R, L, 512]⟩ : Shape).size a)
    (hk2 : offk 2 = 0) (h2 : off 2 = 0) (h3 : off 3 = 128 * p) (y : (⟨4, ![1, R, L, 512]⟩ : Shape).Idx) (x : S1x1x128x128.Idx)
    (e1 : (y 1 : ℕ) = off 1 + x 1) (e2 : (y 2 : ℕ) = off 2 + x 2) (e3 : (y 3 : ℕ) = off 3 + x 3) :
    pv1 p (View.ld x0 (Rect.unit (s := ⟨4, ![1, R, L, 512]⟩) off ![1, 1, 128, 128] inb))
      (View.ld x1 (Rect.unit (s := ⟨4, ![1, R, L, 512]⟩) offk ![1, 1, 128, 512] inbk))
      (View.ld x2 (Rect.unit (s := ⟨4, ![1, R, L, 512]⟩) offk ![1, 1, 128, 512] inbk)) x
      = mixed (rowsOf x0 (y 1)) (rowsOf x1 (y 1)) (rowsOf x2 (y 1)) (y 2) (y 3) := by
  obtain ⟨a, c, i, l, rfl⟩ : ∃ (a c : Fin 1) (i l : Fin 128), x = ix4 a c i l := ⟨x 0, x 1, x 2, x 3, eq_ix4 _⟩
  obtain ⟨z, r, i', l', rfl⟩ : ∃ (z : Fin 1) (r : Fin R) (i' : Fin L) (l' : Fin 512), y = ix4 z r i' l' :=
    ⟨y 0, y 1, y 2, y 3, eq_ix4 _⟩
  obtain rfl : a = 0 := Subsingleton.elim _ _
  obtain rfl : c = 0 := Subsingleton.elim _ _
  change r.val = off 1 + 0 at e1
  change i'.val = off 2 + i.val at e2
  change l'.val = off 3 + l.val at e3
  have hL : 128 ≤ L := by
    have := inbk 2; change offk 2 + 128 ≤ L at this; omega
  have hp := p.isLt
  refine (pv1_at (rowsOf x0 r) (rowsOf x1 r) (rowsOf x2 r) p _ _ _ i hL (fun d => ?_) (fun j d => ?_) (fun j d => ?_) l).trans ?_
  · exact part_at x0 off inb i d r h0 (by omega) _ (by dsimp only [ownRow, laterRow, chunk]; omega) _ (by dsimp only [chunk]; omega)
  · exact part_at x1 offk inbk j d r hk0 (by omega) _ (by dsimp only [ownRow]; omega) _ (by omega)
  · exact part_at x2 offk inbk j d r hk0 (by omega) _ (by dsimp only [ownRow]; omega) _ (by omega)
  · have ei : ownRow hL i = i' := Fin.ext (by dsimp only [ownRow]; omega)
    have el : chunk p l = l' := Fin.ext (by dsimp only [chunk]; omega)
    rw [ei, el]; rfl

include h0 hk0 hk1 hk3 in
/-- The weighted values stored from a later block of queries of a residue class. -/
theorem tile2 (p : Fin 4) (inb : ∀ a, off a + (![1, 1, 128, 128] : Fin 4 → ℕ) a ≤ (⟨4, ![1, R, L, 512]⟩ : Shape).size a)
    (inbk : ∀ a, offk a + (![1, 1, 256, 512] : Fin 4 → ℕ) a ≤ (⟨4, ![1, R, L, 512]⟩ : Shape).size a)
    (h2 : off 2 = offk 2 + 128) (h3 : off 3 = 128 * p) (y : (⟨4, ![1, R, L, 512]⟩ : Shape).Idx) (x : S1x1x128x128.Idx)
    (e1 : (y 1 : ℕ) = off 1 + x 1) (e2 : (y 2 : ℕ) = off 2 + x 2) (e3 : (y 3 : ℕ) = off 3 + x 3) :
    pv2 p (View.ld x0 (Rect.unit (s := ⟨4, ![1, R, L, 512]⟩) off ![1, 1, 128, 128] inb))
      (View.ld x1 (Rect.unit (s := ⟨4, ![1, R, L, 512]⟩) offk ![1, 1, 256, 512] inbk))
      (View.ld x2 (Rect.unit (s := ⟨4, ![1, R, L, 512]⟩) offk ![1, 1, 256, 512] inbk)) x
      = mixed (rowsOf x0 (y 1)) (rowsOf x1 (y 1)) (rowsOf x2 (y 1)) (y 2) (y 3) := by
  obtain ⟨a, c, i, l, rfl⟩ : ∃ (a c : Fin 1) (i l : Fin 128), x = ix4 a c i l := ⟨x 0, x 1, x 2, x 3, eq_ix4 _⟩
  obtain ⟨z, r, i', l', rfl⟩ : ∃ (z : Fin 1) (r : Fin R) (i' : Fin L) (l' : Fin 512), y = ix4 z r i' l' :=
    ⟨y 0, y 1, y 2, y 3, eq_ix4 _⟩
  obtain rfl : a = 0 := Subsingleton.elim _ _
  obtain rfl : c = 0 := Subsingleton.elim _ _
  change r.val = off 1 + 0 at e1
  change i'.val = off 2 + i.val at e2
  change l'.val = off 3 + l.val at e3
  have hL : offk 2 + 256 ≤ L := inbk 2
  have hp := p.isLt
  refine (pv2_at (rowsOf x0 r) (rowsOf x1 r) (rowsOf x2 r) p _ _ _ i _ hL (fun d => ?_) (fun j d => ?_) (fun j d => ?_) l).trans ?_
  · exact part_at x0 off inb i d r h0 (by omega) _ (by dsimp only [ownRow, laterRow, chunk]; omega) _ (by dsimp only [chunk]; omega)
  · exact part_at x1 offk inbk j d r hk0 (by omega) _ (by dsimp only [bandRow]) _ (by omega)
  · exact part_at x2 offk inbk j d r hk0 (by omega) _ (by dsimp only [bandRow]) _ (by omega)
  · have ei : laterRow (offk 2) hL i = i' := Fin.ext (by dsimp only [laterRow]; omega)
    have el : chunk p l = l' := Fin.ext (by dsimp only [chunk]; omega)
    rw [ei, el]; rfl
end

/-- The statistics stored from the first block of queries of a residue class. -/
theorem statTile1 (x0 x1 x2 : Vec Ideal (⟨4, ![1, R, L, 512]⟩ : Shape) .bf16) (o0 o1 o2 o3 ok : Fin 4 → ℕ)
    (h0 : o0 = ![0, o0 1, o0 2, 0]) (h1 : o1 = ![0, o0 1, o0 2, 128]) (h2 : o2 = ![0, o0 1, o0 2, 256])
    (h3 : o3 = ![0, o0 1, o0 2, 384]) (hk0 : ok 0 = 0) (hk1 : ok 1 = o0 1) (hk2 : ok 2 = 0) (hs2 : o0 2 = 0) (hk3 : ok 3 = 0)
    (inb0 : ∀ a, o0 a + (![1, 1, 128, 128] : Fin 4 → ℕ) a ≤ (⟨4, ![1, R, L, 512]⟩ : Shape).size a)
    (inb1 : ∀ a, o1 a + (![1, 1, 128, 128] : Fin 4 → ℕ) a ≤ (⟨4, ![1, R, L, 512]⟩ : Shape).size a)
    (inb2 : ∀ a, o2 a + (![1, 1, 128, 128] : Fin 4 → ℕ) a ≤ (⟨4, ![1, R, L, 512]⟩ : Shape).size a)
    (inb3 : ∀ a, o3 a + (![1, 1, 128, 128] : Fin 4 → ℕ) a ≤ (⟨4, ![1, R, L, 512]⟩ : Shape).size a)
    (inbk : ∀ a, ok a + (![1, 1, 128, 512] : Fin 4 → ℕ) a ≤ (⟨4, ![1, R, L, 512]⟩ : Shape).size a)
    (y : (⟨4, ![1, R, L, 128]⟩ : Shape).Idx) (x : S1x1x128x128.Idx)
    (e1 : (y 1 : ℕ) = o0 1 + x 1) (e2 : (y 2 : ℕ) = o0 2 + x 2) (e3 : (y 3 : ℕ) = x 3) :
    st1 (View.ld x0 (Rect.unit (s := ⟨4, ![1, R, L, 512]⟩) o0 ![1, 1, 128, 128] inb0))
      (View.ld x0 (Rect.unit (s := ⟨4, ![1, R, L, 512]⟩) o1 ![1, 1, 128, 128] inb1))
      (View.ld x0 (Rect.unit (s := ⟨4, ![1, R, L, 512]⟩) o2 ![1, 1, 128, 128] inb2))
      (View.ld x0 (Rect.unit (s := ⟨4, ![1, R, L, 512]⟩) o3 ![1, 1, 128, 128] inb3))
      (View.ld x1 (Rect.unit (s := ⟨4, ![1, R, L, 512]⟩) ok ![1, 1, 128, 512] inbk))
      (View.ld x2 (Rect.unit (s := ⟨4, ![1, R, L, 512]⟩) ok ![1, 1, 128, 512] inbk)) x
      = stat (rowsOf x0 (y 1)) (rowsOf x1 (y 1)) (y 2) (y 3) := by
  obtain ⟨a, c, i, l, rfl⟩ : ∃ (a c : Fin 1) (i l : Fin 128), x = ix4 a c i l := ⟨x 0, x 1, x 2, x 3, eq_ix4 _⟩
  obtain ⟨z, r, i', l', rfl⟩ : ∃ (z : Fin 1) (r : Fin R) (i' : Fin L) (l' : Fin 128), y = ix4 z r i' l' :=
    ⟨y 0, y 1, y 2, y 3, eq_ix4 _⟩
  obtain rfl : a = 0 := Subsingleton.elim _ _
  obtain rfl : c = 0 := Subsingleton.elim _ _
  change r.val = o0 1 + 0 at e1
  change i'.val = o0 2 + i.val at e2
  change l'.val = l.val at e3
  have hL : 128 ≤ L := by
    have := inbk 2; change ok 2 + 128 ≤ L at this; omega
  have part : ∀ (p : Fin 4) (o : Fin 4 → ℕ) (inb : ∀ a, o a + (![1, 1, 128, 128] : Fin 4 → ℕ) a ≤ (⟨4, ![1, R, L, 512]⟩ : Shape).size a),
      o = ![0, o0 1, o0 2, 128 * p.val] → ∀ d : Fin 128,
        View.ld x0 (Rect.unit (s := ⟨4, ![1, R, L, 512]⟩) o ![1, 1, 128, 128] inb) (ix4 (0 : Fin 1) (0 : Fin 1) i d)
          = rowsOf x0 r (ownRow hL i) (chunk p d) := by
    intro p o inb ho d
    have hp := p.isLt
    have g0 : o 0 = 0 := by rw [ho]; rfl
    have g1 : o 1 = o0 1 := by rw [ho]; rfl
    have g2 : o 2 = o0 2 := by rw [ho]; rfl
    have g3 : o 3 = 128 * p.val := by rw [ho]; rfl
    exact part_at x0 o inb i d r g0 (by omega) _ (by dsimp only [ownRow]; omega) _ (by dsimp only [chunk]; omega)
  refine (st1_at (rowsOf x0 r) (rowsOf x1 r) _ (View.ld x2 (Rect.unit (s := ⟨4, ![1, R, L, 512]⟩) ok ![1, 1, 128, 512] inbk)) i hL
    ![View.ld x0 (Rect.unit (s := ⟨4, ![1, R, L, 512]⟩) o0 ![1, 1, 128, 128] inb0),
      View.ld x0 (Rect.unit (s := ⟨4, ![1, R, L, 512]⟩) o1 ![1, 1, 128, 128] inb1),
      View.ld x0 (Rect.unit (s := ⟨4, ![1, R, L, 512]⟩) o2 ![1, 1, 128, 128] inb2),
      View.ld x0 (Rect.unit (s := ⟨4, ![1, R, L, 512]⟩) o3 ![1, 1, 128, 128] inb3)] (fun p d => ?_) (fun j d => ?_) l).trans ?_
  · fin_cases p
    · exact part 0 o0 inb0 h0 d
    · exact part 1 o1 inb1 h1 d
    · exact part 2 o2 inb2 h2 d
    · exact part 3 o3 inb3 h3 d
  · exact part_at x1 ok inbk j d r hk0 (by omega) _ (by dsimp only [ownRow]; omega) _ (by omega)
  · have ei : ownRow hL i = i' := Fin.ext (by dsimp only [ownRow]; omega)
    have el : l = l' := Fin.ext (by omega)
    rw [ei, el]; rfl

/-- The statistics stored from a later block of queries of a residue class. -/
theorem statTile2 (x0 x1 x2 : Vec Ideal (⟨4, ![1, R, L, 512]⟩ : Shape) .bf16) (o0 o1 o2 o3 ok : Fin 4 → ℕ)
    (h0 : o0 = ![0, o0 1, o0 2, 0]) (h1 : o1 = ![0, o0 1, o0 2, 128]) (h2 : o2 = ![0, o0 1, o0 2, 256])
    (h3 : o3 = ![0, o0 1, o0 2, 384]) (hk0 : ok 0 = 0) (hk1 : ok 1 = o0 1) (hk2 : o0 2 = ok 2 + 128) (hk3 : ok 3 = 0)
    (inb0 : ∀ a, o0 a + (![1, 1, 128, 128] : Fin 4 → ℕ) a ≤ (⟨4, ![1, R, L, 512]⟩ : Shape).size a)
    (inb1 : ∀ a, o1 a + (![1, 1, 128, 128] : Fin 4 → ℕ) a ≤ (⟨4, ![1, R, L, 512]⟩ : Shape).size a)
    (inb2 : ∀ a, o2 a + (![1, 1, 128, 128] : Fin 4 → ℕ) a ≤ (⟨4, ![1, R, L, 512]⟩ : Shape).size a)
    (inb3 : ∀ a, o3 a + (![1, 1, 128, 128] : Fin 4 → ℕ) a ≤ (⟨4, ![1, R, L, 512]⟩ : Shape).size a)
    (inbk : ∀ a, ok a + (![1, 1, 256, 512] : Fin 4 → ℕ) a ≤ (⟨4, ![1, R, L, 512]⟩ : Shape).size a)
    (y : (⟨4, ![1, R, L, 128]⟩ : Shape).Idx) (x : S1x1x128x128.Idx)
    (e1 : (y 1 : ℕ) = o0 1 + x 1) (e2 : (y 2 : ℕ) = o0 2 + x 2) (e3 : (y 3 : ℕ) = x 3) :
    st2 (View.ld x0 (Rect.unit (s := ⟨4, ![1, R, L, 512]⟩) o0 ![1, 1, 128, 128] inb0))
      (View.ld x0 (Rect.unit (s := ⟨4, ![1, R, L, 512]⟩) o1 ![1, 1, 128, 128] inb1))
      (View.ld x0 (Rect.unit (s := ⟨4, ![1, R, L, 512]⟩) o2 ![1, 1, 128, 128] inb2))
      (View.ld x0 (Rect.unit (s := ⟨4, ![1, R, L, 512]⟩) o3 ![1, 1, 128, 128] inb3))
      (View.ld x1 (Rect.unit (s := ⟨4, ![1, R, L, 512]⟩) ok ![1, 1, 256, 512] inbk))
      (View.ld x2 (Rect.unit (s := ⟨4, ![1, R, L, 512]⟩) ok ![1, 1, 256, 512] inbk)) x
      = stat (rowsOf x0 (y 1)) (rowsOf x1 (y 1)) (y 2) (y 3) := by
  obtain ⟨a, c, i, l, rfl⟩ : ∃ (a c : Fin 1) (i l : Fin 128), x = ix4 a c i l := ⟨x 0, x 1, x 2, x 3, eq_ix4 _⟩
  obtain ⟨z, r, i', l', rfl⟩ : ∃ (z : Fin 1) (r : Fin R) (i' : Fin L) (l' : Fin 128), y = ix4 z r i' l' :=
    ⟨y 0, y 1, y 2, y 3, eq_ix4 _⟩
  obtain rfl : a = 0 := Subsingleton.elim _ _
  obtain rfl : c = 0 := Subsingleton.elim _ _
  change r.val = o0 1 + 0 at e1
  change i'.val = o0 2 + i.val at e2
  change l'.val = l.val at e3
  have hL : ok 2 + 256 ≤ L := inbk 2
  have part : ∀ (p : Fin 4) (o : Fin 4 → ℕ) (inb : ∀ a, o a + (![1, 1, 128, 128] : Fin 4 → ℕ) a ≤ (⟨4, ![1, R, L, 512]⟩ : Shape).size a),
      o = ![0, o0 1, o0 2, 128 * p.val] → ∀ d : Fin 128,
        View.ld x0 (Rect.unit (s := ⟨4, ![1, R, L, 512]⟩) o ![1, 1, 128, 128] inb) (ix4 (0 : Fin 1) (0 : Fin 1) i d)
          = rowsOf x0 r (laterRow (ok 2) hL i) (chunk p d) := by
    intro p o inb ho d
    have hp := p.isLt
    have g0 : o 0 = 0 := by rw [ho]; rfl
    have g1 : o 1 = o0 1 := by rw [ho]; rfl
    have g2 : o 2 = o0 2 := by rw [ho]; rfl
    have g3 : o 3 = 128 * p.val := by rw [ho]; rfl
    exact part_at x0 o inb i d r g0 (by omega) _ (by dsimp only [laterRow]; omega) _ (by dsimp only [chunk]; omega)
  refine (st2_at (rowsOf x0 r) (rowsOf x1 r) _ (View.ld x2 (Rect.unit (s := ⟨4, ![1, R, L, 512]⟩) ok ![1, 1, 256, 512] inbk)) i _ hL
    ![View.ld x0 (Rect.unit (s := ⟨4, ![1, R, L, 512]⟩) o0 ![1, 1, 128, 128] inb0),
      View.ld x0 (Rect.unit (s := ⟨4, ![1, R, L, 512]⟩) o1 ![1, 1, 128, 128] inb1),
      View.ld x0 (Rect.unit (s := ⟨4, ![1, R, L, 512]⟩) o2 ![1, 1, 128, 128] inb2),
      View.ld x0 (Rect.unit (s := ⟨4, ![1, R, L, 512]⟩) o3 ![1, 1, 128, 128] inb3)] (fun p d => ?_) (fun j d => ?_) l).trans ?_
  · fin_cases p
    · exact part 0 o0 inb0 h0 d
    · exact part 1 o1 inb1 h1 d
    · exact part 2 o2 inb2 h2 d
    · exact part 3 o3 inb3 h3 d
  · exact part_at x1 ok inbk j d r hk0 (by omega) _ (by dsimp only [bandRow]) _ (by omega)
  · have ei : laterRow (ok 2) hL i = i' := Fin.ext (by dsimp only [laterRow]; omega)
    have el : l = l' := Fin.ext (by omega)
    rw [ei, el]; rfl

end Cert.AttnPf

end
-- ==== Proof.Attn16Pieces.lean ====
module

public import proofs.«01_k».proof.Proof.AttnTiles

@[expose] public section

set_option maxRecDepth 16384
set_option maxHeartbeats 2000000

noncomputable section

namespace Cert.AttnPf

open Cert.Attn16Ideal Cert.Attn16Ideal.Gen Idealize.ShloMosaic Idealize.ShloMosaic.TcCoe Idealize.SL.Sem

/-- The weighted values the body stores, pair of heads by pair of heads. -/
theorem pieces3 (x0 x1 x2 : Vec Ideal S1x8x256x512 .bf16) : out0_3 x0 x1 x2 = View.canon [
    ⟨r0_94, pv2 3 (View.ld x0 r0_94) (View.ld x1 r0_90) (View.ld x2 r0_90)⟩,
    ⟨r0_93, pv2 2 (View.ld x0 r0_93) (View.ld x1 r0_90) (View.ld x2 r0_90)⟩,
    ⟨r0_92, pv2 1 (View.ld x0 r0_92) (View.ld x1 r0_90) (View.ld x2 r0_90)⟩,
    ⟨r0_91, pv2 0 (View.ld x0 r0_91) (View.ld x1 r0_90) (View.ld x2 r0_90)⟩,
    ⟨r0_88, pv1 3 (View.ld x0 r0_88) (View.ld x1 r0_84) (View.ld x2 r0_84)⟩,
    ⟨r0_87, pv1 2 (View.ld x0 r0_87) (View.ld x1 r0_84) (View.ld x2 r0_84)⟩,
    ⟨r0_86, pv1 1 (View.ld x0 r0_86) (View.ld x1 r0_84) (View.ld x2 r0_84)⟩,
    ⟨r0_85, pv1 0 (View.ld x0 r0_85) (View.ld x1 r0_84) (View.ld x2 r0_84)⟩,
    ⟨r0_82, pv2 3 (View.ld x0 r0_82) (View.ld x1 r0_78) (View.ld x2 r0_78)⟩,
    ⟨r0_81, pv2 2 (View.ld x0 r0_81) (View.ld x1 r0_78) (View.ld x2 r0_78)⟩,
    ⟨r0_80, pv2 1 (View.ld x0 r0_80) (View.ld x1 r0_78) (View.ld x2 r0_78)⟩,
    ⟨r0_79, pv2 0 (View.ld x0 r0_79) (View.ld x1 r0_78) (View.ld x2 r0_78)⟩,
    ⟨r0_76, pv1 3 (View.ld x0 r0_76) (View.ld x1 r0_72) (View.ld x2 r0_72)⟩,
    ⟨r0_75, pv1 2 (View.ld x0 r0_75) (View.ld x1 r0_72) (View.ld x2 r0_72)⟩,
    ⟨r0_74, pv1 1 (View.ld x0 r0_74) (View.ld x1 r0_72) (View.ld x2 r0_72)⟩,
    ⟨r0_73, pv1 0 (View.ld x0 r0_73) (View.ld x1 r0_72) (View.ld x2 r0_72)⟩,
    ⟨r0_70, pv2 3 (View.ld x0 r0_70) (View.ld x1 r0_66) (View.ld x2 r0_66)⟩,
    ⟨r0_69, pv2 2 (View.ld x0 r0_69) (View.ld x1 r0_66) (View.ld x2 r0_66)⟩,
    ⟨r0_68, pv2 1 (View.ld x0 r0_68) (View.ld x1 r0_66) (View.ld x2 r0_66)⟩,
    ⟨r0_67, pv2 0 (View.ld x0 r0_67) (View.ld x1 r0_66) (View.ld x2 r0_66)⟩,
    ⟨r0_64, pv1 3 (View.ld x0 r0_64) (View.ld x1 r0_60) (View.ld x2 r0_60)⟩,
    ⟨r0_63, pv1 2 (View.ld x0 r0_63) (View.ld x1 r0_60) (View.ld x2 r0_60)⟩,
    ⟨r0_62, pv1 1 (View.ld x0 r0_62) (View.ld x1 r0_60) (View.ld x2 r0_60)⟩,
    ⟨r0_61, pv1 0 (View.ld x0 r0_61) (View.ld x1 r0_60) (View.ld x2 r0_60)⟩,
    ⟨r0_58, pv2 3 (View.ld x0 r0_58) (View.ld x1 r0_54) (View.ld x2 r0_54)⟩,
    ⟨r0_57, pv2 2 (View.ld x0 r0_57) (View.ld x1 r0_54) (View.ld x2 r0_54)⟩,
    ⟨r0_56, pv2 1 (View.ld x0 r0_56) (View.ld x1 r0_54) (View.ld x2 r0_54)⟩,
    ⟨r0_55, pv2 0 (View.ld x0 r0_55) (View.ld x1 r0_54) (View.ld x2 r0_54)⟩,
    ⟨r0_52, pv1 3 (View.ld x0 r0_52) (View.ld x1 r0_48) (View.ld x2 r0_48)⟩,
    ⟨r0_51, pv1 2 (View.ld x0 r0_51) (View.ld x1 r0_48) (View.ld x2 r0_48)⟩,
    ⟨r0_50, pv1 1 (View.ld x0 r0_50) (View.ld x1 r0_48) (View.ld x2 r0_48)⟩,
    ⟨r0_49, pv1 0 (View.ld x0 r0_49) (View.ld x1 r0_48) (View.ld x2 r0_48)⟩,
    ⟨r0_46, pv2 3 (View.ld x0 r0_46) (View.ld x1 r0_42) (View.ld x2 r0_42)⟩,
    ⟨r0_45, pv2 2 (View.ld x0 r0_45) (View.ld x1 r0_42) (View.ld x2 r0_42)⟩,
    ⟨r0_44, pv2 1 (View.ld x0 r0_44) (View.ld x1 r0_42) (View.ld x2 r0_42)⟩,
    ⟨r0_43, pv2 0 (View.ld x0 r0_43) (View.ld x1 r0_42) (View.ld x2 r0_42)⟩,
    ⟨r0_40, pv1 3 (View.ld x0 r0_40) (View.ld x1 r0_36) (View.ld x2 r0_36)⟩,
    ⟨r0_39, pv1 2 (View.ld x0 r0_39) (View.ld x1 r0_36) (View.ld x2 r0_36)⟩,
    ⟨r0_38, pv1 1 (View.ld x0 r0_38) (View.ld x1 r0_36) (View.ld x2 r0_36)⟩,
    ⟨r0_37, pv1 0 (View.ld x0 r0_37) (View.ld x1 r0_36) (View.ld x2 r0_36)⟩,
    ⟨r0_34, pv2 3 (View.ld x0 r0_34) (View.ld x1 r0_30) (View.ld x2 r0_30)⟩,
    ⟨r0_33, pv2 2 (View.ld x0 r0_33) (View.ld x1 r0_30) (View.ld x2 r0_30)⟩,
    ⟨r0_32, pv2 1 (View.ld x0 r0_32) (View.ld x1 r0_30) (View.ld x2 r0_30)⟩,
    ⟨r0_31, pv2 0 (View.ld x0 r0_31) (View.ld x1 r0_30) (View.ld x2 r0_30)⟩,
    ⟨r0_28, pv1 3 (View.ld x0 r0_28) (View.ld x1 r0_24) (View.ld x2 r0_24)⟩,
    ⟨r0_27, pv1 2 (View.ld x0 r0_27) (View.ld x1 r0_24) (View.ld x2 r0_24)⟩,
    ⟨r0_26, pv1 1 (View.ld x0 r0_26) (View.ld x1 r0_24) (View.ld x2 r0_24)⟩,
    ⟨r0_25, pv1 0 (View.ld x0 r0_25) (View.ld x1 r0_24) (View.ld x2 r0_24)⟩,
    ⟨r0_22, pv2 3 (View.ld x0 r0_22) (View.ld x1 r0_18) (View.ld x2 r0_18)⟩,
    ⟨r0_21, pv2 2 (View.ld x0 r0_21) (View.ld x1 r0_18) (View.ld x2 r0_18)⟩,
    ⟨r0_20, pv2 1 (View.ld x0 r0_20) (View.ld x1 r0_18) (View.ld x2 r0_18)⟩,
    ⟨r0_19, pv2 0 (View.ld x0 r0_19) (View.ld x1 r0_18) (View.ld x2 r0_18)⟩,
    ⟨r0_16, pv1 3 (View.ld x0 r0_16) (View.ld x1 r0_12) (View.ld x2 r0_12)⟩,
    ⟨r0_15, pv1 2 (View.ld x0 r0_15) (View.ld x1 r0_12) (View.ld x2 r0_12)⟩,
    ⟨r0_14, pv1 1 (View.ld x0 r0_14) (View.ld x1 r0_12) (View.ld x2 r0_12)⟩,
    ⟨r0_13, pv1 0 (View.ld x0 r0_13) (View.ld x1 r0_12) (View.ld x2 r0_12)⟩,
    ⟨r0_10, pv2 3 (View.ld x0 r0_10) (View.ld x1 r0_6) (View.ld x2 r0_6)⟩,
    ⟨r0_9, pv2 2 (View.ld x0 r0_9) (View.ld x1 r0_6) (View.ld x2 r0_6)⟩,
    ⟨r0_8, pv2 1 (View.ld x0 r0_8) (View.ld x1 r0_6) (View.ld x2 r0_6)⟩,
    ⟨r0_7, pv2 0 (View.ld x0 r0_7) (View.ld x1 r0_6) (View.ld x2 r0_6)⟩,
    ⟨r0_4, pv1 3 (View.ld x0 r0_4) (View.ld x1 r0_0) (View.ld x2 r0_0)⟩,
    ⟨r0_3, pv1 2 (View.ld x0 r0_3) (View.ld x1 r0_0) (View.ld x2 r0_0)⟩,
    ⟨r0_2, pv1 1 (View.ld x0 r0_2) (View.ld x1 r0_0) (View.ld x2 r0_0)⟩,
    ⟨r0_1, pv1 0 (View.ld x0 r0_1) (View.ld x1 r0_0) (View.ld x2 r0_0)⟩] := rfl

/-- The statistics the body stores, block of queries by block of queries. -/
theorem pieces4 (x0 x1 x2 : Vec Ideal S1x8x256x512 .bf16) : out0_4 x0 x1 x2 = View.canon [
    ⟨r0_95, st2 (View.ld x0 r0_91) (View.ld x0 r0_92) (View.ld x0 r0_93) (View.ld x0 r0_94) (View.ld x1 r0_90) (View.ld x2 r0_90)⟩,
    ⟨r0_89, st1 (View.ld x0 r0_85) (View.ld x0 r0_86) (View.ld x0 r0_87) (View.ld x0 r0_88) (View.ld x1 r0_84) (View.ld x2 r0_84)⟩,
    ⟨r0_83, st2 (View.ld x0 r0_79) (View.ld x0 r0_80) (View.ld x0 r0_81) (View.ld x0 r0_82) (View.ld x1 r0_78) (View.ld x2 r0_78)⟩,
    ⟨r0_77, st1 (View.ld x0 r0_73) (View.ld x0 r0_74) (View.ld x0 r0_75) (View.ld x0 r0_76) (View.ld x1 r0_72) (View.ld x2 r0_72)⟩,
    ⟨r0_71, st2 (View.ld x0 r0_67) (View.ld x0 r0_68) (View.ld x0 r0_69) (View.ld x0 r0_70) (View.ld x1 r0_66) (View.ld x2 r0_66)⟩,
    ⟨r0_65, st1 (View.ld x0 r0_61) (View.ld x0 r0_62) (View.ld x0 r0_63) (View.ld x0 r0_64) (View.ld x1 r0_60) (View.ld x2 r0_60)⟩,
    ⟨r0_59, st2 (View.ld x0 r0_55) (View.ld x0 r0_56) (View.ld x0 r0_57) (View.ld x0 r0_58) (View.ld x1 r0_54) (View.ld x2 r0_54)⟩,
    ⟨r0_53, st1 (View.ld x0 r0_49) (View.ld x0 r0_50) (View.ld x0 r0_51) (View.ld x0 r0_52) (View.ld x1 r0_48) (View.ld x2 r0_48)⟩,
    ⟨r0_47, st2 (View.ld x0 r0_43) (View.ld x0 r0_44) (View.ld x0 r0_45) (View.ld x0 r0_46) (View.ld x1 r0_42) (View.ld x2 r0_42)⟩,
    ⟨r0_41, st1 (View.ld x0 r0_37) (View.ld x0 r0_38) (View.ld x0 r0_39) (View.ld x0 r0_40) (View.ld x1 r0_36) (View.ld x2 r0_36)⟩,
    ⟨r0_35, st2 (View.ld x0 r0_31) (View.ld x0 r0_32) (View.ld x0 r0_33) (View.ld x0 r0_34) (View.ld x1 r0_30) (View.ld x2 r0_30)⟩,
    ⟨r0_29, st1 (View.ld x0 r0_25) (View.ld x0 r0_26) (View.ld x0 r0_27) (View.ld x0 r0_28) (View.ld x1 r0_24) (View.ld x2 r0_24)⟩,
    ⟨r0_23, st2 (View.ld x0 r0_19) (View.ld x0 r0_20) (View.ld x0 r0_21) (View.ld x0 r0_22) (View.ld x1 r0_18) (View.ld x2 r0_18)⟩,
    ⟨r0_17, st1 (View.ld x0 r0_13) (View.ld x0 r0_14) (View.ld x0 r0_15) (View.ld x0 r0_16) (View.ld x1 r0_12) (View.ld x2 r0_12)⟩,
    ⟨r0_11, st2 (View.ld x0 r0_7) (View.ld x0 r0_8) (View.ld x0 r0_9) (View.ld x0 r0_10) (View.ld x1 r0_6) (View.ld x2 r0_6)⟩,
    ⟨r0_5, st1 (View.ld x0 r0_1) (View.ld x0 r0_2) (View.ld x0 r0_3) (View.ld x0 r0_4) (View.ld x1 r0_0) (View.ld x2 r0_0)⟩] := rfl

/-- A block's weighted values, lane by lane. -/
theorem block3 (x0 x1 x2 : Vec Ideal S1x8x256x512 .bf16) (y : S1x8x256x512.Idx) :
    out0_3 x0 x1 x2 y = mixed (rowsOf x0 (y 1)) (rowsOf x1 (y 1)) (rowsOf x2 (y 1)) (y 2) (y 3) := by
  rw [pieces3]
  canon_tiles x h
  all_goals first
    | with_reducible refine tile2 x0 x1 x2 _ _ ?_ ?_ ?_ ?_ _ _ _ ?_ ?_ y x ?_ ?_ ?_
    | with_reducible refine tile1 x0 x1 x2 _ _ ?_ ?_ ?_ ?_ _ _ _ ?_ ?_ ?_ y x ?_ ?_ ?_
  all_goals first
    | rfl
    | exact h1 | exact h1.trans (Nat.zero_add _).symm | exact h2 | exact h2.trans (Nat.zero_add _).symm
    | exact h3 | exact h3.trans (Nat.zero_add _).symm

/-- A block's statistics, lane by lane. -/
theorem block4 (x0 x1 x2 : Vec Ideal S1x8x256x512 .bf16) (y : S1x8x256x128.Idx) :
    out0_4 x0 x1 x2 y = stat (rowsOf x0 (y 1)) (rowsOf x1 (y 1)) (y 2) (y 3) := by
  rw [pieces4]
  canon_tiles x h
  all_goals first
    | with_reducible refine statTile2 x0 x1 x2 _ _ _ _ _ ?_ ?_ ?_ ?_ ?_ ?_ ?_ ?_ _ _ _ _ _ y x ?_ ?_ ?_
    | with_reducible refine statTile1 x0 x1 x2 _ _ _ _ _ ?_ ?_ ?_ ?_ ?_ ?_ ?_ ?_ ?_ _ _ _ _ _ y x ?_ ?_ ?_
  all_goals first
    | rfl
    | exact h1 | exact h1.trans (Nat.zero_add _).symm | exact h2 | exact h2.trans (Nat.zero_add _).symm
    | exact h3 | exact h3.trans (Nat.zero_add _).symm

end Cert.AttnPf

end
-- ==== Proof.Attn16V.lean ====
module

public import proofs.«01_k».proof.Proof.Attn16Pieces

@[expose] public section

set_option maxRecDepth 16384

noncomputable section

namespace Cert.AttnPf

open Cert.Attn16Ideal Cert.Attn16Ideal.Gen Idealize.ShloMosaic Idealize.ShloMosaic.TcCoe Idealize.SL.Sem
open Idealize.ShloMosaic.Pipeline (Dat)

variable (m : (ℓ : Loc nD τ sig) → Buf (Elt Ideal) ℓ)

/-- Which block each operand and each result takes at a grid step. -/
theorem idx : ∀ t : Fin cfg0.N, win0_0.index t = ![t.val / 2, t.val % 2, 0, 0] ∧ win0_1.index t = ![t.val / 2, t.val % 2, 0, 1]
    ∧ win0_2.index t = ![t.val / 2, t.val % 2, 0, 2] ∧ win0_3.index t = ![t.val / 2, t.val % 2, 0, 0]
    ∧ win0_4.index t = ![t.val / 2, t.val % 2, 0, 0] :=
  (by decide +kernel : ∀ t : Fin grid0.N, _)

/-- The weighted values after the launch. -/
theorem final3 (c : Dev nD) : (dats m 0 c).arrAt 3 (cfgs 0).N = fun y : S4x16x256x512.Idx =>
    mixed (sect (m (c.tc.loc main_arg0)) 0 (y 0) (y 1)) (sect (m (c.tc.loc main_arg0)) 1 (y 0) (y 1))
      (sect (m (c.tc.loc main_arg0)) 2 (y 0) (y 1)) (y 2) (y 3) := by
  refine (dats m 0 c).arrAt_eq_of_covers 3 _ (by decide +kernel) fun t _ y => ?_
  blk_simp
  rw [after0_3]
  refine (block3 _ _ _ y).trans ?_
  have e0 : rowsOf (R := 8) (L := 256) (iblk m c 0 t) (y 1)
      = sect (m (c.tc.loc main_arg0)) 0 (((cfg0.win 3).blk t).view.emb y 0) (((cfg0.win 3).blk t).view.emb y 1) := by
    funext i l
    unfold rowsOf sect
    blk_point [iblk, V, idx t]
  have e1 : rowsOf (R := 8) (L := 256) (iblk m c 1 t) (y 1)
      = sect (m (c.tc.loc main_arg0)) 1 (((cfg0.win 3).blk t).view.emb y 0) (((cfg0.win 3).blk t).view.emb y 1) := by
    funext i l
    unfold rowsOf sect
    blk_point [iblk, V, idx t]
  have e2 : rowsOf (R := 8) (L := 256) (iblk m c 2 t) (y 1)
      = sect (m (c.tc.loc main_arg0)) 2 (((cfg0.win 3).blk t).view.emb y 0) (((cfg0.win 3).blk t).view.emb y 1) := by
    funext i l
    unfold rowsOf sect
    blk_point [iblk, V, idx t]
  have e3 : ((cfg0.win 3).blk t).view.emb y 2 = y 2 := by
    apply Fin.ext; blk_simp [idx t]
  have e4 : ((cfg0.win 3).blk t).view.emb y 3 = y 3 := by
    apply Fin.ext; blk_simp [idx t]
  rw [e0, e1, e2, e3, e4]

/-- The statistics after the launch. -/
theorem final4 (c : Dev nD) : (dats m 0 c).arrAt 4 (cfgs 0).N = fun y : S4x16x256x128.Idx =>
    stat (sect (m (c.tc.loc main_arg0)) 0 (y 0) (y 1)) (sect (m (c.tc.loc main_arg0)) 1 (y 0) (y 1)) (y 2) (y 3) := by
  refine (dats m 0 c).arrAt_eq_of_covers 4 _ (by decide +kernel) fun t _ y => ?_
  blk_simp
  rw [after0_4]
  refine (block4 _ _ _ y).trans ?_
  have e0 : rowsOf (R := 8) (L := 256) (iblk m c 0 t) (y 1)
      = sect (m (c.tc.loc main_arg0)) 0 (((cfg0.win 4).blk t).view.emb y 0) (((cfg0.win 4).blk t).view.emb y 1) := by
    funext i l
    unfold rowsOf sect
    blk_point [iblk, V, idx t]
  have e1 : rowsOf (R := 8) (L := 256) (iblk m c 1 t) (y 1)
      = sect (m (c.tc.loc main_arg0)) 1 (((cfg0.win 4).blk t).view.emb y 0) (((cfg0.win 4).blk t).view.emb y 1) := by
    funext i l
    unfold rowsOf sect
    blk_point [iblk, V, idx t]
  have e3 : ((cfg0.win 4).blk t).view.emb y 2 = y 2 := by
    apply Fin.ext; blk_simp [idx t]
  have e4 : ((cfg0.win 4).blk t).view.emb y 3 = y 3 := by
    apply Fin.ext; blk_simp [idx t]
  rw [e0, e1, e3, e4]

end Cert.AttnPf

end
-- ==== Proof.Attn16Ref.lean ====
module

public import proofs.«01_k».proof.Proof.Gen.Attn16RefIdeal.Run
public import Idealize.ShloMosaic.Lib.Pipeline.ValueKit
public import proofs.«01_k».proof.Proof.AttnSem

@[expose] public section

set_option maxRecDepth 16384

noncomputable section

namespace Cert.AttnPf

open Cert.Attn16RefIdeal Cert.Attn16RefIdeal.Value Idealize.ShloMosaic Idealize.ShloMosaic.TcCoe Idealize.SL.Sem

variable (m : (ℓ : Loc nD τ sig) → Buf (Elt Ideal) ℓ)

/-- A row of the reference's masked scores is a row of the layer's. -/
theorem ref_scores (X : S4x16x256x1536.Idx → EReal) (b : Fin 4) (r : Fin 16) (i : Fin 256) (h : Fin 8) (c : ℕ) (hc : c = h * 64)
    (p1 : ∀ d : Fin 64, c + d < 1536) (p2 : ∀ d : Fin 64, 512 + c + d < 1536) :
    (fun x : Fin 256 => Scalar.select (IntOp.andi (IntOp.cmpi .sge (IntOp.subi (BitVec.ofNat 32 i) (BitVec.ofNat 32 x)) 0#32)
        (IntOp.cmpi .sle (IntOp.subi (BitVec.ofNat 32 i) (BitVec.ofNat 32 x)) 128#32))
      (∑ d : Fin 64, X (ix4 b r i ⟨c + d, p1 d⟩) * X (ix4 b r x ⟨512 + c + d, p2 d⟩))
      (id (constant (F := Ideal) S_ FTy.f32 4286578688#32) ix0))
      = score (sect X 0 b r) (sect X 1 b r) h i :=
  funext fun x => ref_score (by norm_num) X b r i h c hc p1 p2 x

/-- The reference's first result at one place is the plain mixture of the values. -/
theorem ref0 (c : Dev nD) (b : Fin 4) (r : Fin 16) (i : Fin 256) (l : Fin 512) :
    (res_out0 m c (ix4 b r i l) : EReal) = mixed (sect (m (c.tc.loc main_arg0)) 0 b r) (sect (m (c.tc.loc main_arg0)) 1 b r)
      (sect (m (c.tc.loc main_arg0)) 2 b r) i l := by
  pointwise [res_main_v37]
  simp only [pow_two]
  have hS := ref_scores (m (c.tc.loc main_arg0)) b r i ⟨l / 64, by omega⟩ (l / 64 * 64) rfl (fun d => by omega) (fun d => by omega)
  refine Finset.sum_congr (M := EReal) rfl fun x _ => ?_
  refine (mul_comm (G := EReal) _ _).trans (congrArg₂ (· * ·) (congrFun (congrArg wt hS) x) ?_)
  refine congrArg (fun z => m (c.tc.loc main_arg0) (ix4 b r x z)) (Fin.ext ?_)
  show 1024 + l.val / 64 * 64 + l.val % 64 = 512 * 2 + l.val
  omega

/-- The reference's second result at one place is the plain statistic: largest score, sum of weights, or zero. -/
theorem ref1 (c : Dev nD) (b : Fin 4) (r : Fin 16) (i : Fin 256) (l : Fin 128) :
    (res_out1 m c (ix4 b r i l) : EReal) = stat (sect (m (c.tc.loc main_arg0)) 0 b r) (sect (m (c.tc.loc main_arg0)) 1 b r) i l := by
  pointwise [res_main_v35]
  simp only [pow_two]
  unfold stat
  by_cases h1 : l.val < 8
  · refine (dif_pos h1).trans (Eq.trans ?_ (dif_pos h1).symm)
    exact congrArg peak (ref_scores (m (c.tc.loc main_arg0)) b r i ⟨l, h1⟩ (l * 64) rfl (fun d => by omega) (fun d => by omega))
  · refine (dif_neg h1).trans (Eq.trans ?_ (dif_neg h1).symm)
    by_cases h2 : l.val < 16
    · refine (dif_pos (show l.val - 8 < 8 by omega)).trans (Eq.trans ?_ (dif_pos h2).symm)
      have hS := ref_scores (m (c.tc.loc main_arg0)) b r i ⟨l - 8, by omega⟩ ((l - 8) * 64) rfl (fun d => by omega) (fun d => by omega)
      exact Finset.sum_congr (M := EReal) rfl fun x _ => congrFun (congrArg wt hS) x
    · refine (dif_neg (show ¬ l.val - 8 < 8 by omega)).trans ?_
      rw [dif_neg h2]

end Cert.AttnPf
end
-- ==== Proof.Attn16Claim.lean ====
module

public import proofs.«01_k».proof.Defs
public import proofs.«01_k».proof.Proof.Attn16V
public import proofs.«01_k».proof.Proof.Attn16Ref
public import Idealize.ShloMosaic.Adequacy

@[expose] public section

noncomputable section

namespace Cert.AttnPf

open Idealize.ShloMosaic Idealize.ShloMosaic.TcCoe Idealize.SL.Sem

/-- The attention call of dilation 16 computes its reference, both results. -/
theorem algebraic16 : algebraic_Attn16Ideal_Attn16RefIdeal := by
  pair_intro
  · run_from Cert.Attn16Ideal.Gen.run_main m g
  · run_from Cert.Attn16RefIdeal.Value.run m' g'
    · rw [final3]
      funext y
      obtain ⟨b, r, i, l, rfl⟩ : ∃ (b : Fin 4) (r : Fin 16) (i : Fin 256) (l : Fin 512), y = ix4 b r i l :=
        ⟨y 0, y 1, y 2, y 3, eq_ix4 _⟩
      refine (ref0 m' c b r i l).trans ?_
      rw [hagree c]
      rfl
    · rw [final4]
      funext y
      obtain ⟨b, r, i, l, rfl⟩ : ∃ (b : Fin 4) (r : Fin 16) (i : Fin 256) (l : Fin 128), y = ix4 b r i l :=
        ⟨y 0, y 1, y 2, y 3, eq_ix4 _⟩
      refine (ref1 m' c b r i l).trans ?_
      rw [hagree c]
      rfl

end Cert.AttnPf

end
-- ==== Proof.Attn1Pieces.lean ====
module

public import proofs.«01_k».proof.Proof.Gen.Attn1Ideal.Value
public import proofs.«01_k».proof.Proof.AttnTiles

@[expose] public section

set_option maxRecDepth 16384
set_option maxHeartbeats 2000000

noncomputable section

namespace Cert.Attn1Pf

open Cert.AttnPf Cert.Attn1Ideal Cert.Attn1Ideal.Gen Idealize.ShloMosaic Idealize.ShloMosaic.TcCoe Idealize.SL.Sem

/-- The weighted values the body stores, pair of heads by pair of heads. -/
theorem pieces3 (x0 x1 x2 : Vec Ideal S1x1x4096x512 .bf16) : out0_3 x0 x1 x2 = View.canon [
    ⟨r0_190, pv2 3 (View.ld x0 r0_190) (View.ld x1 r0_186) (View.ld x2 r0_186)⟩,
    ⟨r0_189, pv2 2 (View.ld x0 r0_189) (View.ld x1 r0_186) (View.ld x2 r0_186)⟩,
    ⟨r0_188, pv2 1 (View.ld x0 r0_188) (View.ld x1 r0_186) (View.ld x2 r0_186)⟩,
    ⟨r0_187, pv2 0 (View.ld x0 r0_187) (View.ld x1 r0_186) (View.ld x2 r0_186)⟩,
    ⟨r0_184, pv2 3 (View.ld x0 r0_184) (View.ld x1 r0_180) (View.ld x2 r0_180)⟩,
    ⟨r0_183, pv2 2 (View.ld x0 r0_183) (View.ld x1 r0_180) (View.ld x2 r0_180)⟩,
    ⟨r0_182, pv2 1 (View.ld x0 r0_182) (View.ld x1 r0_180) (View.ld x2 r0_180)⟩,
    ⟨r0_181, pv2 0 (View.ld x0 r0_181) (View.ld x1 r0_180) (View.ld x2 r0_180)⟩,
    ⟨r0_178, pv2 3 (View.ld x0 r0_178) (View.ld x1 r0_174) (View.ld x2 r0_174)⟩,
    ⟨r0_177, pv2 2 (View.ld x0 r0_177) (View.ld x1 r0_174) (View.ld x2 r0_174)⟩,
    ⟨r0_176, pv2 1 (View.ld x0 r0_176) (View.ld x1 r0_174) (View.ld x2 r0_174)⟩,
    ⟨r0_175, pv2 0 (View.ld x0 r0_175) (View.ld x1 r0_174) (View.ld x2 r0_174)⟩,
    ⟨r0_172, pv2 3 (View.ld x0 r0_172) (View.ld x1 r0_168) (View.ld x2 r0_168)⟩,
    ⟨r0_171, pv2 2 (View.ld x0 r0_171) (View.ld x1 r0_168) (View.ld x2 r0_168)⟩,
    ⟨r0_170, pv2 1 (View.ld x0 r0_170) (View.ld x1 r0_168) (View.ld x2 r0_168)⟩,
    ⟨r0_169, pv2 0 (View.ld x0 r0_169) (View.ld x1 r0_168) (View.ld x2 r0_168)⟩,
    ⟨r0_166, pv2 3 (View.ld x0 r0_166) (View.ld x1 r0_162) (View.ld x2 r0_162)⟩,
    ⟨r0_165, pv2 2 (View.ld x0 r0_165) (View.ld x1 r0_162) (View.ld x2 r0_162)⟩,
    ⟨r0_164, pv2 1 (View.ld x0 r0_164) (View.ld x1 r0_162) (View.ld x2 r0_162)⟩,
    ⟨r0_163, pv2 0 (View.ld x0 r0_163) (View.ld x1 r0_162) (View.ld x2 r0_162)⟩,
    ⟨r0_160, pv2 3 (View.ld x0 r0_160) (View.ld x1 r0_156) (View.ld x2 r0_156)⟩,
    ⟨r0_159, pv2 2 (View.ld x0 r0_159) (View.ld x1 r0_156) (View.ld x2 r0_156)⟩,
    ⟨r0_158, pv2 1 (View.ld x0 r0_158) (View.ld x1 r0_156) (View.ld x2 r0_156)⟩,
    ⟨r0_157, pv2 0 (View.ld x0 r0_157) (View.ld x1 r0_156) (View.ld x2 r0_156)⟩,
    ⟨r0_154, pv2 3 (View.ld x0 r0_154) (View.ld x1 r0_150) (View.ld x2 r0_150)⟩,
    ⟨r0_153, pv2 2 (View.ld x0 r0_153) (View.ld x1 r0_150) (View.ld x2 r0_150)⟩,
    ⟨r0_152, pv2 1 (View.ld x0 r0_152) (View.ld x1 r0_150) (View.ld x2 r0_150)⟩,
    ⟨r0_151, pv2 0 (View.ld x0 r0_151) (View.ld x1 r0_150) (View.ld x2 r0_150)⟩,
    ⟨r0_148, pv2 3 (View.ld x0 r0_148) (View.ld x1 r0_144) (View.ld x2 r0_144)⟩,
    ⟨r0_147, pv2 2 (View.ld x0 r0_147) (View.ld x1 r0_144) (View.ld x2 r0_144)⟩,
    ⟨r0_146, pv2 1 (View.ld x0 r0_146) (View.ld x1 r0_144) (View.ld x2 r0_144)⟩,
    ⟨r0_145, pv2 0 (View.ld x0 r0_145) (View.ld x1 r0_144) (View.ld x2 r0_144)⟩,
    ⟨r0_142, pv2 3 (View.ld x0 r0_142) (View.ld x1 r0_138) (View.ld x2 r0_138)⟩,
    ⟨r0_141, pv2 2 (View.ld x0 r0_141) (View.ld x1 r0_138) (View.ld x2 r0_138)⟩,
    ⟨r0_140, pv2 1 (View.ld x0 r0_140) (View.ld x1 r0_138) (View.ld x2 r0_138)⟩,
    ⟨r0_139, pv2 0 (View.ld x0 r0_139) (View.ld x1 r0_138) (View.ld x2 r0_138)⟩,
    ⟨r0_136, pv2 3 (View.ld x0 r0_136) (View.ld x1 r0_132) (View.ld x2 r0_132)⟩,
    ⟨r0_135, pv2 2 (View.ld x0 r0_135) (View.ld x1 r0_132) (View.ld x2 r0_132)⟩,
    ⟨r0_134, pv2 1 (View.ld x0 r0_134) (View.ld x1 r0_132) (View.ld x2 r0_132)⟩,
    ⟨r0_133, pv2 0 (View.ld x0 r0_133) (View.ld x1 r0_132) (View.ld x2 r0_132)⟩,
    ⟨r0_130, pv2 3 (View.ld x0 r0_130) (View.ld x1 r0_126) (View.ld x2 r0_126)⟩,
    ⟨r0_129, pv2 2 (View.ld x0 r0_129) (View.ld x1 r0_126) (View.ld x2 r0_126)⟩,
    ⟨r0_128, pv2 1 (View.ld x0 r0_128) (View.ld x1 r0_126) (View.ld x2 r0_126)⟩,
    ⟨r0_127, pv2 0 (View.ld x0 r0_127) (View.ld x1 r0_126) (View.ld x2 r0_126)⟩,
    ⟨r0_124, pv2 3 (View.ld x0 r0_124) (View.ld x1 r0_120) (View.ld x2 r0_120)⟩,
    ⟨r0_123, pv2 2 (View.ld x0 r0_123) (View.ld x1 r0_120) (View.ld x2 r0_120)⟩,
    ⟨r0_122, pv2 1 (View.ld x0 r0_122) (View.ld x1 r0_120) (View.ld x2 r0_120)⟩,
    ⟨r0_121, pv2 0 (View.ld x0 r0_121) (View.ld x1 r0_120) (View.ld x2 r0_120)⟩,
    ⟨r0_118, pv2 3 (View.ld x0 r0_118) (View.ld x1 r0_114) (View.ld x2 r0_114)⟩,
    ⟨r0_117, pv2 2 (View.ld x0 r0_117) (View.ld x1 r0_114) (View.ld x2 r0_114)⟩,
    ⟨r0_116, pv2 1 (View.ld x0 r0_116) (View.ld x1 r0_114) (View.ld x2 r0_114)⟩,
    ⟨r0_115, pv2 0 (View.ld x0 r0_115) (View.ld x1 r0_114) (View.ld x2 r0_114)⟩,
    ⟨r0_112, pv2 3 (View.ld x0 r0_112) (View.ld x1 r0_108) (View.ld x2 r0_108)⟩,
    ⟨r0_111, pv2 2 (View.ld x0 r0_111) (View.ld x1 r0_108) (View.ld x2 r0_108)⟩,
    ⟨r0_110, pv2 1 (View.ld x0 r0_110) (View.ld x1 r0_108) (View.ld x2 r0_108)⟩,
    ⟨r0_109, pv2 0 (View.ld x0 r0_109) (View.ld x1 r0_108) (View.ld x2 r0_108)⟩,
    ⟨r0_106, pv2 3 (View.ld x0 r0_106) (View.ld x1 r0_102) (View.ld x2 r0_102)⟩,
    ⟨r0_105, pv2 2 (View.ld x0 r0_105) (View.ld x1 r0_102) (View.ld x2 r0_102)⟩,
    ⟨r0_104, pv2 1 (View.ld x0 r0_104) (View.ld x1 r0_102) (View.ld x2 r0_102)⟩,
    ⟨r0_103, pv2 0 (View.ld x0 r0_103) (View.ld x1 r0_102) (View.ld x2 r0_102)⟩,
    ⟨r0_100, pv2 3 (View.ld x0 r0_100) (View.ld x1 r0_96) (View.ld x2 r0_96)⟩,
    ⟨r0_99, pv2 2 (View.ld x0 r0_99) (View.ld x1 r0_96) (View.ld x2 r0_96)⟩,
    ⟨r0_98, pv2 1 (View.ld x0 r0_98) (View.ld x1 r0_96) (View.ld x2 r0_96)⟩,
    ⟨r0_97, pv2 0 (View.ld x0 r0_97) (View.ld x1 r0_96) (View.ld x2 r0_96)⟩,
    ⟨r0_94, pv2 3 (View.ld x0 r0_94) (View.ld x1 r0_90) (View.ld x2 r0_90)⟩,
    ⟨r0_93, pv2 2 (View.ld x0 r0_93) (View.ld x1 r0_90) (View.ld x2 r0_90)⟩,
    ⟨r0_92, pv2 1 (View.ld x0 r0_92) (View.ld x1 r0_90) (View.ld x2 r0_90)⟩,
    ⟨r0_91, pv2 0 (View.ld x0 r0_91) (View.ld x1 r0_90) (View.ld x2 r0_90)⟩,
    ⟨r0_88, pv2 3 (View.ld x0 r0_88) (View.ld x1 r0_84) (View.ld x2 r0_84)⟩,
    ⟨r0_87, pv2 2 (View.ld x0 r0_87) (View.ld x1 r0_84) (View.ld x2 r0_84)⟩,
    ⟨r0_86, pv2 1 (View.ld x0 r0_86) (View.ld x1 r0_84) (View.ld x2 r0_84)⟩,
    ⟨r0_85, pv2 0 (View.ld x0 r0_85) (View.ld x1 r0_84) (View.ld x2 r0_84)⟩,
    ⟨r0_82, pv2 3 (View.ld x0 r0_82) (View.ld x1 r0_78) (View.ld x2 r0_78)⟩,
    ⟨r0_81, pv2 2 (View.ld x0 r0_81) (View.ld x1 r0_78) (View.ld x2 r0_78)⟩,
    ⟨r0_80, pv2 1 (View.ld x0 r0_80) (View.ld x1 r0_78) (View.ld x2 r0_78)⟩,
    ⟨r0_79, pv2 0 (View.ld x0 r0_79) (View.ld x1 r0_78) (View.ld x2 r0_78)⟩,
    ⟨r0_76, pv2 3 (View.ld x0 r0_76) (View.ld x1 r0_72) (View.ld x2 r0_72)⟩,
    ⟨r0_75, pv2 2 (View.ld x0 r0_75) (View.ld x1 r0_72) (View.ld x2 r0_72)⟩,
    ⟨r0_74, pv2 1 (View.ld x0 r0_74) (View.ld x1 r0_72) (View.ld x2 r0_72)⟩,
    ⟨r0_73, pv2 0 (View.ld x0 r0_73) (View.ld x1 r0_72) (View.ld x2 r0_72)⟩,
    ⟨r0_70, pv2 3 (View.ld x0 r0_70) (View.ld x1 r0_66) (View.ld x2 r0_66)⟩,
    ⟨r0_69, pv2 2 (View.ld x0 r0_69) (View.ld x1 r0_66) (View.ld x2 r0_66)⟩,
    ⟨r0_68, pv2 1 (View.ld x0 r0_68) (View.ld x1 r0_66) (View.ld x2 r0_66)⟩,
    ⟨r0_67, pv2 0 (View.ld x0 r0_67) (View.ld x1 r0_66) (View.ld x2 r0_66)⟩,
    ⟨r0_64, pv2 3 (View.ld x0 r0_64) (View.ld x1 r0_60) (View.ld x2 r0_60)⟩,
    ⟨r0_63, pv2 2 (View.ld x0 r0_63) (View.ld x1 r0_60) (View.ld x2 r0_60)⟩,
    ⟨r0_62, pv2 1 (View.ld x0 r0_62) (View.ld x1 r0_60) (View.ld x2 r0_60)⟩,
    ⟨r0_61, pv2 0 (View.ld x0 r0_61) (View.ld x1 r0_60) (View.ld x2 r0_60)⟩,
    ⟨r0_58, pv2 3 (View.ld x0 r0_58) (View.ld x1 r0_54) (View.ld x2 r0_54)⟩,
    ⟨r0_57, pv2 2 (View.ld x0 r0_57) (View.ld x1 r0_54) (View.ld x2 r0_54)⟩,
    ⟨r0_56, pv2 1 (View.ld x0 r0_56) (View.ld x1 r0_54) (View.ld x2 r0_54)⟩,
    ⟨r0_55, pv2 0 (View.ld x0 r0_55) (View.ld x1 r0_54) (View.ld x2 r0_54)⟩,
    ⟨r0_52, pv2 3 (View.ld x0 r0_52) (View.ld x1 r0_48) (View.ld x2 r0_48)⟩,
    ⟨r0_51, pv2 2 (View.ld x0 r0_51) (View.ld x1 r0_48) (View.ld x2 r0_48)⟩,
    ⟨r0_50, pv2 1 (View.ld x0 r0_50) (View.ld x1 r0_48) (View.ld x2 r0_48)⟩,
    ⟨r0_49, pv2 0 (View.ld x0 r0_49) (View.ld x1 r0_48) (View.ld x2 r0_48)⟩,
    ⟨r0_46, pv2 3 (View.ld x0 r0_46) (View.ld x1 r0_42) (View.ld x2 r0_42)⟩,
    ⟨r0_45, pv2 2 (View.ld x0 r0_45) (View.ld x1 r0_42) (View.ld x2 r0_42)⟩,
    ⟨r0_44, pv2 1 (View.ld x0 r0_44) (View.ld x1 r0_42) (View.ld x2 r0_42)⟩,
    ⟨r0_43, pv2 0 (View.ld x0 r0_43) (View.ld x1 r0_42) (View.ld x2 r0_42)⟩,
    ⟨r0_40, pv2 3 (View.ld x0 r0_40) (View.ld x1 r0_36) (View.ld x2 r0_36)⟩,
    ⟨r0_39, pv2 2 (View.ld x0 r0_39) (View.ld x1 r0_36) (View.ld x2 r0_36)⟩,
    ⟨r0_38, pv2 1 (View.ld x0 r0_38) (View.ld x1 r0_36) (View.ld x2 r0_36)⟩,
    ⟨r0_37, pv2 0 (View.ld x0 r0_37) (View.ld x1 r0_36) (View.ld x2 r0_36)⟩,
    ⟨r0_34, pv2 3 (View.ld x0 r0_34) (View.ld x1 r0_30) (View.ld x2 r0_30)⟩,
    ⟨r0_33, pv2 2 (View.ld x0 r0_33) (View.ld x1 r0_30) (View.ld x2 r0_30)⟩,
    ⟨r0_32, pv2 1 (View.ld x0 r0_32) (View.ld x1 r0_30) (View.ld x2 r0_30)⟩,
    ⟨r0_31, pv2 0 (View.ld x0 r0_31) (View.ld x1 r0_30) (View.ld x2 r0_30)⟩,
    ⟨r0_28, pv2 3 (View.ld x0 r0_28) (View.ld x1 r0_24) (View.ld x2 r0_24)⟩,
    ⟨r0_27, pv2 2 (View.ld x0 r0_27) (View.ld x1 r0_24) (View.ld x2 r0_24)⟩,
    ⟨r0_26, pv2 1 (View.ld x0 r0_26) (View.ld x1 r0_24) (View.ld x2 r0_24)⟩,
    ⟨r0_25, pv2 0 (View.ld x0 r0_25) (View.ld x1 r0_24) (View.ld x2 r0_24)⟩,
    ⟨r0_22, pv2 3 (View.ld x0 r0_22) (View.ld x1 r0_18) (View.ld x2 r0_18)⟩,
    ⟨r0_21, pv2 2 (View.ld x0 r0_21) (View.ld x1 r0_18) (View.ld x2 r0_18)⟩,
    ⟨r0_20, pv2 1 (View.ld x0 r0_20) (View.ld x1 r0_18) (View.ld x2 r0_18)⟩,
    ⟨r0_19, pv2 0 (View.ld x0 r0_19) (View.ld x1 r0_18) (View.ld x2 r0_18)⟩,
    ⟨r0_16, pv2 3 (View.ld x0 r0_16) (View.ld x1 r0_12) (View.ld x2 r0_12)⟩,
    ⟨r0_15, pv2 2 (View.ld x0 r0_15) (View.ld x1 r0_12) (View.ld x2 r0_12)⟩,
    ⟨r0_14, pv2 1 (View.ld x0 r0_14) (View.ld x1 r0_12) (View.ld x2 r0_12)⟩,
    ⟨r0_13, pv2 0 (View.ld x0 r0_13) (View.ld x1 r0_12) (View.ld x2 r0_12)⟩,
    ⟨r0_10, pv2 3 (View.ld x0 r0_10) (View.ld x1 r0_6) (View.ld x2 r0_6)⟩,
    ⟨r0_9, pv2 2 (View.ld x0 r0_9) (View.ld x1 r0_6) (View.ld x2 r0_6)⟩,
    ⟨r0_8, pv2 1 (View.ld x0 r0_8) (View.ld x1 r0_6) (View.ld x2 r0_6)⟩,
    ⟨r0_7, pv2 0 (View.ld x0 r0_7) (View.ld x1 r0_6) (View.ld x2 r0_6)⟩,
    ⟨r0_4, pv1 3 (View.ld x0 r0_4) (View.ld x1 r0_0) (View.ld x2 r0_0)⟩,
    ⟨r0_3, pv1 2 (View.ld x0 r0_3) (View.ld x1 r0_0) (View.ld x2 r0_0)⟩,
    ⟨r0_2, pv1 1 (View.ld x0 r0_2) (View.ld x1 r0_0) (View.ld x2 r0_0)⟩,
    ⟨r0_1, pv1 0 (View.ld x0 r0_1) (View.ld x1 r0_0) (View.ld x2 r0_0)⟩] := rfl

/-- The statistics the body stores, block of queries by block of queries. -/
theorem pieces4 (x0 x1 x2 : Vec Ideal S1x1x4096x512 .bf16) : out0_4 x0 x1 x2 = View.canon [
    ⟨r0_191, st2 (View.ld x0 r0_187) (View.ld x0 r0_188) (View.ld x0 r0_189) (View.ld x0 r0_190) (View.ld x1 r0_186) (View.ld x2 r0_186)⟩,
    ⟨r0_185, st2 (View.ld x0 r0_181) (View.ld x0 r0_182) (View.ld x0 r0_183) (View.ld x0 r0_184) (View.ld x1 r0_180) (View.ld x2 r0_180)⟩,
    ⟨r0_179, st2 (View.ld x0 r0_175) (View.ld x0 r0_176) (View.ld x0 r0_177) (View.ld x0 r0_178) (View.ld x1 r0_174) (View.ld x2 r0_174)⟩,
    ⟨r0_173, st2 (View.ld x0 r0_169) (View.ld x0 r0_170) (View.ld x0 r0_171) (View.ld x0 r0_172) (View.ld x1 r0_168) (View.ld x2 r0_168)⟩,
    ⟨r0_167, st2 (View.ld x0 r0_163) (View.ld x0 r0_164) (View.ld x0 r0_165) (View.ld x0 r0_166) (View.ld x1 r0_162) (View.ld x2 r0_162)⟩,
    ⟨r0_161, st2 (View.ld x0 r0_157) (View.ld x0 r0_158) (View.ld x0 r0_159) (View.ld x0 r0_160) (View.ld x1 r0_156) (View.ld x2 r0_156)⟩,
    ⟨r0_155, st2 (View.ld x0 r0_151) (View.ld x0 r0_152) (View.ld x0 r0_153) (View.ld x0 r0_154) (View.ld x1 r0_150) (View.ld x2 r0_150)⟩,
    ⟨r0_149, st2 (View.ld x0 r0_145) (View.ld x0 r0_146) (View.ld x0 r0_147) (View.ld x0 r0_148) (View.ld x1 r0_144) (View.ld x2 r0_144)⟩,
    ⟨r0_143, st2 (View.ld x0 r0_139) (View.ld x0 r0_140) (View.ld x0 r0_141) (View.ld x0 r0_142) (View.ld x1 r0_138) (View.ld x2 r0_138)⟩,
    ⟨r0_137, st2 (View.ld x0 r0_133) (View.ld x0 r0_134) (View.ld x0 r0_135) (View.ld x0 r0_136) (View.ld x1 r0_132) (View.ld x2 r0_132)⟩,
    ⟨r0_131, st2 (View.ld x0 r0_127) (View.ld x0 r0_128) (View.ld x0 r0_129) (View.ld x0 r0_130) (View.ld x1 r0_126) (View.ld x2 r0_126)⟩,
    ⟨r0_125, st2 (View.ld x0 r0_121) (View.ld x0 r0_122) (View.ld x0 r0_123) (View.ld x0 r0_124) (View.ld x1 r0_120) (View.ld x2 r0_120)⟩,
    ⟨r0_119, st2 (View.ld x0 r0_115) (View.ld x0 r0_116) (View.ld x0 r0_117) (View.ld x0 r0_118) (View.ld x1 r0_114) (View.ld x2 r0_114)⟩,
    ⟨r0_113, st2 (View.ld x0 r0_109) (View.ld x0 r0_110) (View.ld x0 r0_111) (View.ld x0 r0_112) (View.ld x1 r0_108) (View.ld x2 r0_108)⟩,
    ⟨r0_107, st2 (View.ld x0 r0_103) (View.ld x0 r0_104) (View.ld x0 r0_105) (View.ld x0 r0_106) (View.ld x1 r0_102) (View.ld x2 r0_102)⟩,
    ⟨r0_101, st2 (View.ld x0 r0_97) (View.ld x0 r0_98) (View.ld x0 r0_99) (View.ld x0 r0_100) (View.ld x1 r0_96) (View.ld x2 r0_96)⟩,
    ⟨r0_95, st2 (View.ld x0 r0_91) (View.ld x0 r0_92) (View.ld x0 r0_93) (View.ld x0 r0_94) (View.ld x1 r0_90) (View.ld x2 r0_90)⟩,
    ⟨r0_89, st2 (View.ld x0 r0_85) (View.ld x0 r0_86) (View.ld x0 r0_87) (View.ld x0 r0_88) (View.ld x1 r0_84) (View.ld x2 r0_84)⟩,
    ⟨r0_83, st2 (View.ld x0 r0_79) (View.ld x0 r0_80) (View.ld x0 r0_81) (View.ld x0 r0_82) (View.ld x1 r0_78) (View.ld x2 r0_78)⟩,
    ⟨r0_77, st2 (View.ld x0 r0_73) (View.ld x0 r0_74) (View.ld x0 r0_75) (View.ld x0 r0_76) (View.ld x1 r0_72) (View.ld x2 r0_72)⟩,
    ⟨r0_71, st2 (View.ld x0 r0_67) (View.ld x0 r0_68) (View.ld x0 r0_69) (View.ld x0 r0_70) (View.ld x1 r0_66) (View.ld x2 r0_66)⟩,
    ⟨r0_65, st2 (View.ld x0 r0_61) (View.ld x0 r0_62) (View.ld x0 r0_63) (View.ld x0 r0_64) (View.ld x1 r0_60) (View.ld x2 r0_60)⟩,
    ⟨r0_59, st2 (View.ld x0 r0_55) (View.ld x0 r0_56) (View.ld x0 r0_57) (View.ld x0 r0_58) (View.ld x1 r0_54) (View.ld x2 r0_54)⟩,
    ⟨r0_53, st2 (View.ld x0 r0_49) (View.ld x0 r0_50) (View.ld x0 r0_51) (View.ld x0 r0_52) (View.ld x1 r0_48) (View.ld x2 r0_48)⟩,
    ⟨r0_47, st2 (View.ld x0 r0_43) (View.ld x0 r0_44) (View.ld x0 r0_45) (View.ld x0 r0_46) (View.ld x1 r0_42) (View.ld x2 r0_42)⟩,
    ⟨r0_41, st2 (View.ld x0 r0_37) (View.ld x0 r0_38) (View.ld x0 r0_39) (View.ld x0 r0_40) (View.ld x1 r0_36) (View.ld x2 r0_36)⟩,
    ⟨r0_35, st2 (View.ld x0 r0_31) (View.ld x0 r0_32) (View.ld x0 r0_33) (View.ld x0 r0_34) (View.ld x1 r0_30) (View.ld x2 r0_30)⟩,
    ⟨r0_29, st2 (View.ld x0 r0_25) (View.ld x0 r0_26) (View.ld x0 r0_27) (View.ld x0 r0_28) (View.ld x1 r0_24) (View.ld x2 r0_24)⟩,
    ⟨r0_23, st2 (View.ld x0 r0_19) (View.ld x0 r0_20) (View.ld x0 r0_21) (View.ld x0 r0_22) (View.ld x1 r0_18) (View.ld x2 r0_18)⟩,
    ⟨r0_17, st2 (View.ld x0 r0_13) (View.ld x0 r0_14) (View.ld x0 r0_15) (View.ld x0 r0_16) (View.ld x1 r0_12) (View.ld x2 r0_12)⟩,
    ⟨r0_11, st2 (View.ld x0 r0_7) (View.ld x0 r0_8) (View.ld x0 r0_9) (View.ld x0 r0_10) (View.ld x1 r0_6) (View.ld x2 r0_6)⟩,
    ⟨r0_5, st1 (View.ld x0 r0_1) (View.ld x0 r0_2) (View.ld x0 r0_3) (View.ld x0 r0_4) (View.ld x1 r0_0) (View.ld x2 r0_0)⟩] := rfl

/-- A block's weighted values, lane by lane. -/
theorem block3 (x0 x1 x2 : Vec Ideal S1x1x4096x512 .bf16) (y : S1x1x4096x512.Idx) :
    out0_3 x0 x1 x2 y = mixed (rowsOf x0 (y 1)) (rowsOf x1 (y 1)) (rowsOf x2 (y 1)) (y 2) (y 3) := by
  rw [pieces3]
  canon_tiles x h
  all_goals first
    | with_reducible refine tile2 x0 x1 x2 _ _ ?_ ?_ ?_ ?_ _ _ _ ?_ ?_ y x ?_ ?_ ?_
    | with_reducible refine tile1 x0 x1 x2 _ _ ?_ ?_ ?_ ?_ _ _ _ ?_ ?_ ?_ y x ?_ ?_ ?_
  all_goals first
    | rfl
    | exact h1 | exact h1.trans (Nat.zero_add _).symm | exact h2 | exact h2.trans (Nat.zero_add _).symm
    | exact h3 | exact h3.trans (Nat.zero_add _).symm

/-- A block's statistics, lane by lane. -/
theorem block4 (x0 x1 x2 : Vec Ideal S1x1x4096x512 .bf16) (y : S1x1x4096x128.Idx) :
    out0_4 x0 x1 x2 y = stat (rowsOf x0 (y 1)) (rowsOf x1 (y 1)) (y 2) (y 3) := by
  rw [pieces4]
  canon_tiles x h
  all_goals first
    | with_reducible refine statTile2 x0 x1 x2 _ _ _ _ _ ?_ ?_ ?_ ?_ ?_ ?_ ?_ ?_ _ _ _ _ _ y x ?_ ?_ ?_
    | with_reducible refine statTile1 x0 x1 x2 _ _ _ _ _ ?_ ?_ ?_ ?_ ?_ ?_ ?_ ?_ ?_ _ _ _ _ _ y x ?_ ?_ ?_
  all_goals first
    | rfl
    | exact h1 | exact h1.trans (Nat.zero_add _).symm | exact h2 | exact h2.trans (Nat.zero_add _).symm
    | exact h3 | exact h3.trans (Nat.zero_add _).symm

end Cert.Attn1Pf

end
-- ==== Proof.Attn1V.lean ====
module

public import proofs.«01_k».proof.Proof.Attn1Pieces

@[expose] public section

set_option maxRecDepth 16384

noncomputable section

namespace Cert.Attn1Pf

open Cert.AttnPf Cert.Attn1Ideal Cert.Attn1Ideal.Gen Idealize.ShloMosaic Idealize.ShloMosaic.TcCoe Idealize.SL.Sem
open Idealize.ShloMosaic.Pipeline (Dat)

variable (m : (ℓ : Loc nD τ sig) → Buf (Elt Ideal) ℓ)

/-- Which block each operand and each result takes at a grid step. -/
theorem idx : ∀ t : Fin cfg0.N, win0_0.index t = ![t.val, 0, 0, 0] ∧ win0_1.index t = ![t.val, 0, 0, 1]
    ∧ win0_2.index t = ![t.val, 0, 0, 2] ∧ win0_3.index t = ![t.val, 0, 0, 0]
    ∧ win0_4.index t = ![t.val, 0, 0, 0] :=
  (by decide +kernel : ∀ t : Fin grid0.N, _)

/-- The weighted values after the launch. -/
theorem final3 (c : Dev nD) : (dats m 0 c).arrAt 3 (cfgs 0).N = fun y : S4x1x4096x512.Idx =>
    mixed (sect (m (c.tc.loc main_arg0)) 0 (y 0) (y 1)) (sect (m (c.tc.loc main_arg0)) 1 (y 0) (y 1))
      (sect (m (c.tc.loc main_arg0)) 2 (y 0) (y 1)) (y 2) (y 3) := by
  refine (dats m 0 c).arrAt_eq_of_covers 3 _ (by decide +kernel) fun t _ y => ?_
  blk_simp
  rw [after0_3]
  refine (block3 _ _ _ y).trans ?_
  have e0 : rowsOf (R := 1) (L := 4096) (iblk m c 0 t) (y 1)
      = sect (m (c.tc.loc main_arg0)) 0 (((cfg0.win 3).blk t).view.emb y 0) (((cfg0.win 3).blk t).view.emb y 1) := by
    funext i l
    unfold rowsOf sect
    blk_point [iblk, V, idx t]
  have e1 : rowsOf (R := 1) (L := 4096) (iblk m c 1 t) (y 1)
      = sect (m (c.tc.loc main_arg0)) 1 (((cfg0.win 3).blk t).view.emb y 0) (((cfg0.win 3).blk t).view.emb y 1) := by
    funext i l
    unfold rowsOf sect
    blk_point [iblk, V, idx t]
  have e2 : rowsOf (R := 1) (L := 4096) (iblk m c 2 t) (y 1)
      = sect (m (c.tc.loc main_arg0)) 2 (((cfg0.win 3).blk t).view.emb y 0) (((cfg0.win 3).blk t).view.emb y 1) := by
    funext i l
    unfold rowsOf sect
    blk_point [iblk, V, idx t]
  have e3 : ((cfg0.win 3).blk t).view.emb y 2 = y 2 := by
    apply Fin.ext; blk_simp [idx t]
  have e4 : ((cfg0.win 3).blk t).view.emb y 3 = y 3 := by
    apply Fin.ext; blk_simp [idx t]
  rw [e0, e1, e2, e3, e4]

/-- The statistics after the launch. -/
theorem final4 (c : Dev nD) : (dats m 0 c).arrAt 4 (cfgs 0).N = fun y : S4x1x4096x128.Idx =>
    stat (sect (m (c.tc.loc main_arg0)) 0 (y 0) (y 1)) (sect (m (c.tc.loc main_arg0)) 1 (y 0) (y 1)) (y 2) (y 3) := by
  refine (dats m 0 c).arrAt_eq_of_covers 4 _ (by decide +kernel) fun t _ y => ?_
  blk_simp
  rw [after0_4]
  refine (block4 _ _ _ y).trans ?_
  have e0 : rowsOf (R := 1) (L := 4096) (iblk m c 0 t) (y 1)
      = sect (m (c.tc.loc main_arg0)) 0 (((cfg0.win 4).blk t).view.emb y 0) (((cfg0.win 4).blk t).view.emb y 1) := by
    funext i l
    unfold rowsOf sect
    blk_point [iblk, V, idx t]
  have e1 : rowsOf (R := 1) (L := 4096) (iblk m c 1 t) (y 1)
      = sect (m (c.tc.loc main_arg0)) 1 (((cfg0.win 4).blk t).view.emb y 0) (((cfg0.win 4).blk t).view.emb y 1) := by
    funext i l
    unfold rowsOf sect
    blk_point [iblk, V, idx t]
  have e3 : ((cfg0.win 4).blk t).view.emb y 2 = y 2 := by
    apply Fin.ext; blk_simp [idx t]
  have e4 : ((cfg0.win 4).blk t).view.emb y 3 = y 3 := by
    apply Fin.ext; blk_simp [idx t]
  rw [e0, e1, e3, e4]

end Cert.Attn1Pf

end
-- ==== Proof.Attn1Ref.lean ====
module

public import proofs.«01_k».proof.Proof.Gen.Attn1RefIdeal.Run
public import Idealize.ShloMosaic.Lib.Pipeline.ValueKit
public import proofs.«01_k».proof.Proof.AttnSem

@[expose] public section

set_option maxRecDepth 16384

noncomputable section

namespace Cert.Attn1Pf

open Cert.AttnPf Cert.Attn1RefIdeal Cert.Attn1RefIdeal.Value Idealize.ShloMosaic Idealize.ShloMosaic.TcCoe Idealize.SL.Sem

variable (m : (ℓ : Loc nD τ sig) → Buf (Elt Ideal) ℓ)

/-- A row of the reference's masked scores is a row of the layer's. -/
theorem ref_scores (X : S4x1x4096x1536.Idx → EReal) (b : Fin 4) (r : Fin 1) (i : Fin 4096) (h : Fin 8) (c : ℕ) (hc : c = h * 64)
    (p1 : ∀ d : Fin 64, c + d < 1536) (p2 : ∀ d : Fin 64, 512 + c + d < 1536) :
    (fun x : Fin 4096 => Scalar.select (IntOp.andi (IntOp.cmpi .sge (IntOp.subi (BitVec.ofNat 32 i) (BitVec.ofNat 32 x)) 0#32)
        (IntOp.cmpi .sle (IntOp.subi (BitVec.ofNat 32 i) (BitVec.ofNat 32 x)) 128#32))
      (∑ d : Fin 64, X (ix4 b r i ⟨c + d, p1 d⟩) * X (ix4 b r x ⟨512 + c + d, p2 d⟩))
      (id (constant (F := Ideal) S_ FTy.f32 4286578688#32) ix0))
      = score (sect X 0 b r) (sect X 1 b r) h i :=
  funext fun x => ref_score (by norm_num) X b r i h c hc p1 p2 x

/-- The reference's first result at one place is the plain mixture of the values. -/
theorem ref0 (c : Dev nD) (b : Fin 4) (r : Fin 1) (i : Fin 4096) (l : Fin 512) :
    (res_out0 m c (ix4 b r i l) : EReal) = mixed (sect (m (c.tc.loc main_arg0)) 0 b r) (sect (m (c.tc.loc main_arg0)) 1 b r)
      (sect (m (c.tc.loc main_arg0)) 2 b r) i l := by
  obtain rfl : r = 0 := Subsingleton.elim _ _
  pointwise [res_main_v37]
  simp only [pow_two]
  have hS := ref_scores (m (c.tc.loc main_arg0)) b 0 i ⟨l / 64, by omega⟩ (l / 64 * 64) rfl (fun d => by omega) (fun d => by omega)
  refine Finset.sum_congr (M := EReal) rfl fun x _ => ?_
  refine (mul_comm (G := EReal) _ _).trans (congrArg₂ (· * ·) (congrFun (congrArg wt hS) x) ?_)
  refine congrArg (fun z => m (c.tc.loc main_arg0) (ix4 b 0 x z)) (Fin.ext ?_)
  show 1024 + l.val / 64 * 64 + l.val % 64 = 512 * 2 + l.val
  omega

/-- The reference's second result at one place is the plain statistic: largest score, sum of weights, or zero. -/
theorem ref1 (c : Dev nD) (b : Fin 4) (r : Fin 1) (i : Fin 4096) (l : Fin 128) :
    (res_out1 m c (ix4 b r i l) : EReal) = stat (sect (m (c.tc.loc main_arg0)) 0 b r) (sect (m (c.tc.loc main_arg0)) 1 b r) i l := by
  obtain rfl : r = 0 := Subsingleton.elim _ _
  pointwise [res_main_v35]
  simp only [pow_two]
  unfold stat
  by_cases h1 : l.val < 8
  · refine (dif_pos h1).trans (Eq.trans ?_ (dif_pos h1).symm)
    exact congrArg peak (ref_scores (m (c.tc.loc main_arg0)) b 0 i ⟨l, h1⟩ (l * 64) rfl (fun d => by omega) (fun d => by omega))
  · refine (dif_neg h1).trans (Eq.trans ?_ (dif_neg h1).symm)
    by_cases h2 : l.val < 16
    · refine (dif_pos (show l.val - 8 < 8 by omega)).trans (Eq.trans ?_ (dif_pos h2).symm)
      have hS := ref_scores (m (c.tc.loc main_arg0)) b 0 i ⟨l - 8, by omega⟩ ((l - 8) * 64) rfl (fun d => by omega) (fun d => by omega)
      exact Finset.sum_congr (M := EReal) rfl fun x _ => congrFun (congrArg wt hS) x
    · refine (dif_neg (show ¬ l.val - 8 < 8 by omega)).trans ?_
      rw [dif_neg h2]

end Cert.Attn1Pf
end
-- ==== Proof.Attn1Claim.lean ====
module

public import proofs.«01_k».proof.Defs
public import proofs.«01_k».proof.Proof.Attn1V
public import proofs.«01_k».proof.Proof.Attn1Ref
public import Idealize.ShloMosaic.Adequacy

@[expose] public section

noncomputable section

namespace Cert.Attn1Pf

open Idealize.ShloMosaic Idealize.ShloMosaic.TcCoe Idealize.SL.Sem

/-- The attention call of dilation 1 computes its reference, both results. -/
theorem algebraic1 : algebraic_Attn1Ideal_Attn1RefIdeal := by
  pair_intro
  · run_from Cert.Attn1Ideal.Gen.run_main m g
  · run_from Cert.Attn1RefIdeal.Value.run m' g'
    · rw [final3]
      funext y
      obtain ⟨b, r, i, l, rfl⟩ : ∃ (b : Fin 4) (r : Fin 1) (i : Fin 4096) (l : Fin 512), y = ix4 b r i l :=
        ⟨y 0, y 1, y 2, y 3, eq_ix4 _⟩
      refine (ref0 m' c b r i l).trans ?_
      rw [hagree c]
      rfl
    · rw [final4]
      funext y
      obtain ⟨b, r, i, l, rfl⟩ : ∃ (b : Fin 4) (r : Fin 1) (i : Fin 4096) (l : Fin 128), y = ix4 b r i l :=
        ⟨y 0, y 1, y 2, y 3, eq_ix4 _⟩
      refine (ref1 m' c b r i l).trans ?_
      rw [hagree c]
      rfl

end Cert.Attn1Pf

end
-- ==== Proof.Attn4Pieces.lean ====
module

public import proofs.«01_k».proof.Proof.Gen.Attn4Ideal.Value
public import proofs.«01_k».proof.Proof.AttnTiles

@[expose] public section

set_option maxRecDepth 16384
set_option maxHeartbeats 2000000

noncomputable section

namespace Cert.Attn4Pf

open Cert.AttnPf Cert.Attn4Ideal Cert.Attn4Ideal.Gen Idealize.ShloMosaic Idealize.ShloMosaic.TcCoe Idealize.SL.Sem

/-- The weighted values the body stores, pair of heads by pair of heads. -/
theorem pieces3 (x0 x1 x2 : Vec Ideal S1x2x1024x512 .bf16) : out0_3 x0 x1 x2 = View.canon [
    ⟨r0_94, pv2 3 (View.ld x0 r0_94) (View.ld x1 r0_90) (View.ld x2 r0_90)⟩,
    ⟨r0_93, pv2 2 (View.ld x0 r0_93) (View.ld x1 r0_90) (View.ld x2 r0_90)⟩,
    ⟨r0_92, pv2 1 (View.ld x0 r0_92) (View.ld x1 r0_90) (View.ld x2 r0_90)⟩,
    ⟨r0_91, pv2 0 (View.ld x0 r0_91) (View.ld x1 r0_90) (View.ld x2 r0_90)⟩,
    ⟨r0_88, pv2 3 (View.ld x0 r0_88) (View.ld x1 r0_84) (View.ld x2 r0_84)⟩,
    ⟨r0_87, pv2 2 (View.ld x0 r0_87) (View.ld x1 r0_84) (View.ld x2 r0_84)⟩,
    ⟨r0_86, pv2 1 (View.ld x0 r0_86) (View.ld x1 r0_84) (View.ld x2 r0_84)⟩,
    ⟨r0_85, pv2 0 (View.ld x0 r0_85) (View.ld x1 r0_84) (View.ld x2 r0_84)⟩,
    ⟨r0_82, pv2 3 (View.ld x0 r0_82) (View.ld x1 r0_78) (View.ld x2 r0_78)⟩,
    ⟨r0_81, pv2 2 (View.ld x0 r0_81) (View.ld x1 r0_78) (View.ld x2 r0_78)⟩,
    ⟨r0_80, pv2 1 (View.ld x0 r0_80) (View.ld x1 r0_78) (View.ld x2 r0_78)⟩,
    ⟨r0_79, pv2 0 (View.ld x0 r0_79) (View.ld x1 r0_78) (View.ld x2 r0_78)⟩,
    ⟨r0_76, pv2 3 (View.ld x0 r0_76) (View.ld x1 r0_72) (View.ld x2 r0_72)⟩,
    ⟨r0_75, pv2 2 (View.ld x0 r0_75) (View.ld x1 r0_72) (View.ld x2 r0_72)⟩,
    ⟨r0_74, pv2 1 (View.ld x0 r0_74) (View.ld x1 r0_72) (View.ld x2 r0_72)⟩,
    ⟨r0_73, pv2 0 (View.ld x0 r0_73) (View.ld x1 r0_72) (View.ld x2 r0_72)⟩,
    ⟨r0_70, pv2 3 (View.ld x0 r0_70) (View.ld x1 r0_66) (View.ld x2 r0_66)⟩,
    ⟨r0_69, pv2 2 (View.ld x0 r0_69) (View.ld x1 r0_66) (View.ld x2 r0_66)⟩,
    ⟨r0_68, pv2 1 (View.ld x0 r0_68) (View.ld x1 r0_66) (View.ld x2 r0_66)⟩,
    ⟨r0_67, pv2 0 (View.ld x0 r0_67) (View.ld x1 r0_66) (View.ld x2 r0_66)⟩,
    ⟨r0_64, pv2 3 (View.ld x0 r0_64) (View.ld x1 r0_60) (View.ld x2 r0_60)⟩,
    ⟨r0_63, pv2 2 (View.ld x0 r0_63) (View.ld x1 r0_60) (View.ld x2 r0_60)⟩,
    ⟨r0_62, pv2 1 (View.ld x0 r0_62) (View.ld x1 r0_60) (View.ld x2 r0_60)⟩,
    ⟨r0_61, pv2 0 (View.ld x0 r0_61) (View.ld x1 r0_60) (View.ld x2 r0_60)⟩,
    ⟨r0_58, pv2 3 (View.ld x0 r0_58) (View.ld x1 r0_54) (View.ld x2 r0_54)⟩,
    ⟨r0_57, pv2 2 (View.ld x0 r0_57) (View.ld x1 r0_54) (View.ld x2 r0_54)⟩,
    ⟨r0_56, pv2 1 (View.ld x0 r0_56) (View.ld x1 r0_54) (View.ld x2 r0_54)⟩,
    ⟨r0_55, pv2 0 (View.ld x0 r0_55) (View.ld x1 r0_54) (View.ld x2 r0_54)⟩,
    ⟨r0_52, pv1 3 (View.ld x0 r0_52) (View.ld x1 r0_48) (View.ld x2 r0_48)⟩,
    ⟨r0_51, pv1 2 (View.ld x0 r0_51) (View.ld x1 r0_48) (View.ld x2 r0_48)⟩,
    ⟨r0_50, pv1 1 (View.ld x0 r0_50) (View.ld x1 r0_48) (View.ld x2 r0_48)⟩,
    ⟨r0_49, pv1 0 (View.ld x0 r0_49) (View.ld x1 r0_48) (View.ld x2 r0_48)⟩,
    ⟨r0_46, pv2 3 (View.ld x0 r0_46) (View.ld x1 r0_42) (View.ld x2 r0_42)⟩,
    ⟨r0_45, pv2 2 (View.ld x0 r0_45) (View.ld x1 r0_42) (View.ld x2 r0_42)⟩,
    ⟨r0_44, pv2 1 (View.ld x0 r0_44) (View.ld x1 r0_42) (View.ld x2 r0_42)⟩,
    ⟨r0_43, pv2 0 (View.ld x0 r0_43) (View.ld x1 r0_42) (View.ld x2 r0_42)⟩,
    ⟨r0_40, pv2 3 (View.ld x0 r0_40) (View.ld x1 r0_36) (View.ld x2 r0_36)⟩,
    ⟨r0_39, pv2 2 (View.ld x0 r0_39) (View.ld x1 r0_36) (View.ld x2 r0_36)⟩,
    ⟨r0_38, pv2 1 (View.ld x0 r0_38) (View.ld x1 r0_36) (View.ld x2 r0_36)⟩,
    ⟨r0_37, pv2 0 (View.ld x0 r0_37) (View.ld x1 r0_36) (View.ld x2 r0_36)⟩,
    ⟨r0_34, pv2 3 (View.ld x0 r0_34) (View.ld x1 r0_30) (View.ld x2 r0_30)⟩,
    ⟨r0_33, pv2 2 (View.ld x0 r0_33) (View.ld x1 r0_30) (View.ld x2 r0_30)⟩,
    ⟨r0_32, pv2 1 (View.ld x0 r0_32) (View.ld x1 r0_30) (View.ld x2 r0_30)⟩,
    ⟨r0_31, pv2 0 (View.ld x0 r0_31) (View.ld x1 r0_30) (View.ld x2 r0_30)⟩,
    ⟨r0_28, pv2 3 (View.ld x0 r0_28) (View.ld x1 r0_24) (View.ld x2 r0_24)⟩,
    ⟨r0_27, pv2 2 (View.ld x0 r0_27) (View.ld x1 r0_24) (View.ld x2 r0_24)⟩,
    ⟨r0_26, pv2 1 (View.ld x0 r0_26) (View.ld x1 r0_24) (View.ld x2 r0_24)⟩,
    ⟨r0_25, pv2 0 (View.ld x0 r0_25) (View.ld x1 r0_24) (View.ld x2 r0_24)⟩,
    ⟨r0_22, pv2 3 (View.ld x0 r0_22) (View.ld x1 r0_18) (View.ld x2 r0_18)⟩,
    ⟨r0_21, pv2 2 (View.ld x0 r0_21) (View.ld x1 r0_18) (View.ld x2 r0_18)⟩,
    ⟨r0_20, pv2 1 (View.ld x0 r0_20) (View.ld x1 r0_18) (View.ld x2 r0_18)⟩,
    ⟨r0_19, pv2 0 (View.ld x0 r0_19) (View.ld x1 r0_18) (View.ld x2 r0_18)⟩,
    ⟨r0_16, pv2 3 (View.ld x0 r0_16) (View.ld x1 r0_12) (View.ld x2 r0_12)⟩,
    ⟨r0_15, pv2 2 (View.ld x0 r0_15) (View.ld x1 r0_12) (View.ld x2 r0_12)⟩,
    ⟨r0_14, pv2 1 (View.ld x0 r0_14) (View.ld x1 r0_12) (View.ld x2 r0_12)⟩,
    ⟨r0_13, pv2 0 (View.ld x0 r0_13) (View.ld x1 r0_12) (View.ld x2 r0_12)⟩,
    ⟨r0_10, pv2 3 (View.ld x0 r0_10) (View.ld x1 r0_6) (View.ld x2 r0_6)⟩,
    ⟨r0_9, pv2 2 (View.ld x0 r0_9) (View.ld x1 r0_6) (View.ld x2 r0_6)⟩,
    ⟨r0_8, pv2 1 (View.ld x0 r0_8) (View.ld x1 r0_6) (View.ld x2 r0_6)⟩,
    ⟨r0_7, pv2 0 (View.ld x0 r0_7) (View.ld x1 r0_6) (View.ld x2 r0_6)⟩,
    ⟨r0_4, pv1 3 (View.ld x0 r0_4) (View.ld x1 r0_0) (View.ld x2 r0_0)⟩,
    ⟨r0_3, pv1 2 (View.ld x0 r0_3) (View.ld x1 r0_0) (View.ld x2 r0_0)⟩,
    ⟨r0_2, pv1 1 (View.ld x0 r0_2) (View.ld x1 r0_0) (View.ld x2 r0_0)⟩,
    ⟨r0_1, pv1 0 (View.ld x0 r0_1) (View.ld x1 r0_0) (View.ld x2 r0_0)⟩] := rfl

/-- The statistics the body stores, block of queries by block of queries. -/
theorem pieces4 (x0 x1 x2 : Vec Ideal S1x2x1024x512 .bf16) : out0_4 x0 x1 x2 = View.canon [
    ⟨r0_95, st2 (View.ld x0 r0_91) (View.ld x0 r0_92) (View.ld x0 r0_93) (View.ld x0 r0_94) (View.ld x1 r0_90) (View.ld x2 r0_90)⟩,
    ⟨r0_89, st2 (View.ld x0 r0_85) (View.ld x0 r0_86) (View.ld x0 r0_87) (View.ld x0 r0_88) (View.ld x1 r0_84) (View.ld x2 r0_84)⟩,
    ⟨r0_83, st2 (View.ld x0 r0_79) (View.ld x0 r0_80) (View.ld x0 r0_81) (View.ld x0 r0_82) (View.ld x1 r0_78) (View.ld x2 r0_78)⟩,
    ⟨r0_77, st2 (View.ld x0 r0_73) (View.ld x0 r0_74) (View.ld x0 r0_75) (View.ld x0 r0_76) (View.ld x1 r0_72) (View.ld x2 r0_72)⟩,
    ⟨r0_71, st2 (View.ld x0 r0_67) (View.ld x0 r0_68) (View.ld x0 r0_69) (View.ld x0 r0_70) (View.ld x1 r0_66) (View.ld x2 r0_66)⟩,
    ⟨r0_65, st2 (View.ld x0 r0_61) (View.ld x0 r0_62) (View.ld x0 r0_63) (View.ld x0 r0_64) (View.ld x1 r0_60) (View.ld x2 r0_60)⟩,
    ⟨r0_59, st2 (View.ld x0 r0_55) (View.ld x0 r0_56) (View.ld x0 r0_57) (View.ld x0 r0_58) (View.ld x1 r0_54) (View.ld x2 r0_54)⟩,
    ⟨r0_53, st1 (View.ld x0 r0_49) (View.ld x0 r0_50) (View.ld x0 r0_51) (View.ld x0 r0_52) (View.ld x1 r0_48) (View.ld x2 r0_48)⟩,
    ⟨r0_47, st2 (View.ld x0 r0_43) (View.ld x0 r0_44) (View.ld x0 r0_45) (View.ld x0 r0_46) (View.ld x1 r0_42) (View.ld x2 r0_42)⟩,
    ⟨r0_41, st2 (View.ld x0 r0_37) (View.ld x0 r0_38) (View.ld x0 r0_39) (View.ld x0 r0_40) (View.ld x1 r0_36) (View.ld x2 r0_36)⟩,
    ⟨r0_35, st2 (View.ld x0 r0_31) (View.ld x0 r0_32) (View.ld x0 r0_33) (View.ld x0 r0_34) (View.ld x1 r0_30) (View.ld x2 r0_30)⟩,
    ⟨r0_29, st2 (View.ld x0 r0_25) (View.ld x0 r0_26) (View.ld x0 r0_27) (View.ld x0 r0_28) (View.ld x1 r0_24) (View.ld x2 r0_24)⟩,
    ⟨r0_23, st2 (View.ld x0 r0_19) (View.ld x0 r0_20) (View.ld x0 r0_21) (View.ld x0 r0_22) (View.ld x1 r0_18) (View.ld x2 r0_18)⟩,
    ⟨r0_17, st2 (View.ld x0 r0_13) (View.ld x0 r0_14) (View.ld x0 r0_15) (View.ld x0 r0_16) (View.ld x1 r0_12) (View.ld x2 r0_12)⟩,
    ⟨r0_11, st2 (View.ld x0 r0_7) (View.ld x0 r0_8) (View.ld x0 r0_9) (View.ld x0 r0_10) (View.ld x1 r0_6) (View.ld x2 r0_6)⟩,
    ⟨r0_5, st1 (View.ld x0 r0_1) (View.ld x0 r0_2) (View.ld x0 r0_3) (View.ld x0 r0_4) (View.ld x1 r0_0) (View.ld x2 r0_0)⟩] := rfl

/-- A block's weighted values, lane by lane. -/
theorem block3 (x0 x1 x2 : Vec Ideal S1x2x1024x512 .bf16) (y : S1x2x1024x512.Idx) :
    out0_3 x0 x1 x2 y = mixed (rowsOf x0 (y 1)) (rowsOf x1 (y 1)) (rowsOf x2 (y 1)) (y 2) (y 3) := by
  rw [pieces3]
  canon_tiles x h
  all_goals first
    | with_reducible refine tile2 x0 x1 x2 _ _ ?_ ?_ ?_ ?_ _ _ _ ?_ ?_ y x ?_ ?_ ?_
    | with_reducible refine tile1 x0 x1 x2 _ _ ?_ ?_ ?_ ?_ _ _ _ ?_ ?_ ?_ y x ?_ ?_ ?_
  all_goals first
    | rfl
    | exact h1 | exact h1.trans (Nat.zero_add _).symm | exact h2 | exact h2.trans (Nat.zero_add _).symm
    | exact h3 | exact h3.trans (Nat.zero_add _).symm

/-- A block's statistics, lane by lane. -/
theorem block4 (x0 x1 x2 : Vec Ideal S1x2x1024x512 .bf16) (y : S1x2x1024x128.Idx) :
    out0_4 x0 x1 x2 y = stat (rowsOf x0 (y 1)) (rowsOf x1 (y 1)) (y 2) (y 3) := by
  rw [pieces4]
  canon_tiles x h
  all_goals first
    | with_reducible refine statTile2 x0 x1 x2 _ _ _ _ _ ?_ ?_ ?_ ?_ ?_ ?_ ?_ ?_ _ _ _ _ _ y x ?_ ?_ ?_
    | with_reducible refine statTile1 x0 x1 x2 _ _ _ _ _ ?_ ?_ ?_ ?_ ?_ ?_ ?_ ?_ ?_ _ _ _ _ _ y x ?_ ?_ ?_
  all_goals first
    | rfl
    | exact h1 | exact h1.trans (Nat.zero_add _).symm | exact h2 | exact h2.trans (Nat.zero_add _).symm
    | exact h3 | exact h3.trans (Nat.zero_add _).symm

end Cert.Attn4Pf

end
-- ==== Proof.Attn4V.lean ====
module

public import proofs.«01_k».proof.Proof.Attn4Pieces

@[expose] public section

set_option maxRecDepth 16384

noncomputable section

namespace Cert.Attn4Pf

open Cert.AttnPf Cert.Attn4Ideal Cert.Attn4Ideal.Gen Idealize.ShloMosaic Idealize.ShloMosaic.TcCoe Idealize.SL.Sem
open Idealize.ShloMosaic.Pipeline (Dat)

variable (m : (ℓ : Loc nD τ sig) → Buf (Elt Ideal) ℓ)

/-- Which block each operand and each result takes at a grid step. -/
theorem idx : ∀ t : Fin cfg0.N, win0_0.index t = ![t.val / 2, t.val % 2, 0, 0] ∧ win0_1.index t = ![t.val / 2, t.val % 2, 0, 1]
    ∧ win0_2.index t = ![t.val / 2, t.val % 2, 0, 2] ∧ win0_3.index t = ![t.val / 2, t.val % 2, 0, 0]
    ∧ win0_4.index t = ![t.val / 2, t.val % 2, 0, 0] :=
  (by decide +kernel : ∀ t : Fin grid0.N, _)

/-- The weighted values after the launch. -/
theorem final3 (c : Dev nD) : (dats m 0 c).arrAt 3 (cfgs 0).N = fun y : S4x4x1024x512.Idx =>
    mixed (sect (m (c.tc.loc main_arg0)) 0 (y 0) (y 1)) (sect (m (c.tc.loc main_arg0)) 1 (y 0) (y 1))
      (sect (m (c.tc.loc main_arg0)) 2 (y 0) (y 1)) (y 2) (y 3) := by
  refine (dats m 0 c).arrAt_eq_of_covers 3 _ (by decide +kernel) fun t _ y => ?_
  blk_simp
  rw [after0_3]
  refine (block3 _ _ _ y).trans ?_
  have e0 : rowsOf (R := 2) (L := 1024) (iblk m c 0 t) (y 1)
      = sect (m (c.tc.loc main_arg0)) 0 (((cfg0.win 3).blk t).view.emb y 0) (((cfg0.win 3).blk t).view.emb y 1) := by
    funext i l
    unfold rowsOf sect
    blk_point [iblk, V, idx t]
  have e1 : rowsOf (R := 2) (L := 1024) (iblk m c 1 t) (y 1)
      = sect (m (c.tc.loc main_arg0)) 1 (((cfg0.win 3).blk t).view.emb y 0) (((cfg0.win 3).blk t).view.emb y 1) := by
    funext i l
    unfold rowsOf sect
    blk_point [iblk, V, idx t]
  have e2 : rowsOf (R := 2) (L := 1024) (iblk m c 2 t) (y 1)
      = sect (m (c.tc.loc main_arg0)) 2 (((cfg0.win 3).blk t).view.emb y 0) (((cfg0.win 3).blk t).view.emb y 1) := by
    funext i l
    unfold rowsOf sect
    blk_point [iblk, V, idx t]
  have e3 : ((cfg0.win 3).blk t).view.emb y 2 = y 2 := by
    apply Fin.ext; blk_simp [idx t]
  have e4 : ((cfg0.win 3).blk t).view.emb y 3 = y 3 := by
    apply Fin.ext; blk_simp [idx t]
  rw [e0, e1, e2, e3, e4]

/-- The statistics after the launch. -/
theorem final4 (c : Dev nD) : (dats m 0 c).arrAt 4 (cfgs 0).N = fun y : S4x4x1024x128.Idx =>
    stat (sect (m (c.tc.loc main_arg0)) 0 (y 0) (y 1)) (sect (m (c.tc.loc main_arg0)) 1 (y 0) (y 1)) (y 2) (y 3) := by
  refine (dats m 0 c).arrAt_eq_of_covers 4 _ (by decide +kernel) fun t _ y => ?_
  blk_simp
  rw [after0_4]
  refine (block4 _ _ _ y).trans ?_
  have e0 : rowsOf (R := 2) (L := 1024) (iblk m c 0 t) (y 1)
      = sect (m (c.tc.loc main_arg0)) 0 (((cfg0.win 4).blk t).view.emb y 0) (((cfg0.win 4).blk t).view.emb y 1) := by
    funext i l
    unfold rowsOf sect
    blk_point [iblk, V, idx t]
  have e1 : rowsOf (R := 2) (L := 1024) (iblk m c 1 t) (y 1)
      = sect (m (c.tc.loc main_arg0)) 1 (((cfg0.win 4).blk t).view.emb y 0) (((cfg0.win 4).blk t).view.emb y 1) := by
    funext i l
    unfold rowsOf sect
    blk_point [iblk, V, idx t]
  have e3 : ((cfg0.win 4).blk t).view.emb y 2 = y 2 := by
    apply Fin.ext; blk_simp [idx t]
  have e4 : ((cfg0.win 4).blk t).view.emb y 3 = y 3 := by
    apply Fin.ext; blk_simp [idx t]
  rw [e0, e1, e3, e4]

end Cert.Attn4Pf

end
-- ==== Proof.Attn4Ref.lean ====
module

public import proofs.«01_k».proof.Proof.Gen.Attn4RefIdeal.Run
public import Idealize.ShloMosaic.Lib.Pipeline.ValueKit
public import proofs.«01_k».proof.Proof.AttnSem

@[expose] public section

set_option maxRecDepth 16384

noncomputable section

namespace Cert.Attn4Pf

open Cert.AttnPf Cert.Attn4RefIdeal Cert.Attn4RefIdeal.Value Idealize.ShloMosaic Idealize.ShloMosaic.TcCoe Idealize.SL.Sem

variable (m : (ℓ : Loc nD τ sig) → Buf (Elt Ideal) ℓ)

/-- A row of the reference's masked scores is a row of the layer's. -/
theorem ref_scores (X : S4x4x1024x1536.Idx → EReal) (b : Fin 4) (r : Fin 4) (i : Fin 1024) (h : Fin 8) (c : ℕ) (hc : c = h * 64)
    (p1 : ∀ d : Fin 64, c + d < 1536) (p2 : ∀ d : Fin 64, 512 + c + d < 1536) :
    (fun x : Fin 1024 => Scalar.select (IntOp.andi (IntOp.cmpi .sge (IntOp.subi (BitVec.ofNat 32 i) (BitVec.ofNat 32 x)) 0#32)
        (IntOp.cmpi .sle (IntOp.subi (BitVec.ofNat 32 i) (BitVec.ofNat 32 x)) 128#32))
      (∑ d : Fin 64, X (ix4 b r i ⟨c + d, p1 d⟩) * X (ix4 b r x ⟨512 + c + d, p2 d⟩))
      (id (constant (F := Ideal) S_ FTy.f32 4286578688#32) ix0))
      = score (sect X 0 b r) (sect X 1 b r) h i :=
  funext fun x => ref_score (by norm_num) X b r i h c hc p1 p2 x

/-- The reference's first result at one place is the plain mixture of the values. -/
theorem ref0 (c : Dev nD) (b : Fin 4) (r : Fin 4) (i : Fin 1024) (l : Fin 512) :
    (res_out0 m c (ix4 b r i l) : EReal) = mixed (sect (m (c.tc.loc main_arg0)) 0 b r) (sect (m (c.tc.loc main_arg0)) 1 b r)
      (sect (m (c.tc.loc main_arg0)) 2 b r) i l := by
  pointwise [res_main_v37]
  simp only [pow_two]
  have hS := ref_scores (m (c.tc.loc main_arg0)) b r i ⟨l / 64, by omega⟩ (l / 64 * 64) rfl (fun d => by omega) (fun d => by omega)
  refine Finset.sum_congr (M := EReal) rfl fun x _ => ?_
  refine (mul_comm (G := EReal) _ _).trans (congrArg₂ (· * ·) (congrFun (congrArg wt hS) x) ?_)
  refine congrArg (fun z => m (c.tc.loc main_arg0) (ix4 b r x z)) (Fin.ext ?_)
  show 1024 + l.val / 64 * 64 + l.val % 64 = 512 * 2 + l.val
  omega

/-- The reference's second result at one place is the plain statistic: largest score, sum of weights, or zero. -/
theorem ref1 (c : Dev nD) (b : Fin 4) (r : Fin 4) (i : Fin 1024) (l : Fin 128) :
    (res_out1 m c (ix4 b r i l) : EReal) = stat (sect (m (c.tc.loc main_arg0)) 0 b r) (sect (m (c.tc.loc main_arg0)) 1 b r) i l := by
  pointwise [res_main_v35]
  simp only [pow_two]
  unfold stat
  by_cases h1 : l.val < 8
  · refine (dif_pos h1).trans (Eq.trans ?_ (dif_pos h1).symm)
    exact congrArg peak (ref_scores (m (c.tc.loc main_arg0)) b r i ⟨l, h1⟩ (l * 64) rfl (fun d => by omega) (fun d => by omega))
  · refine (dif_neg h1).trans (Eq.trans ?_ (dif_neg h1).symm)
    by_cases h2 : l.val < 16
    · refine (dif_pos (show l.val - 8 < 8 by omega)).trans (Eq.trans ?_ (dif_pos h2).symm)
      have hS := ref_scores (m (c.tc.loc main_arg0)) b r i ⟨l - 8, by omega⟩ ((l - 8) * 64) rfl (fun d => by omega) (fun d => by omega)
      exact Finset.sum_congr (M := EReal) rfl fun x _ => congrFun (congrArg wt hS) x
    · refine (dif_neg (show ¬ l.val - 8 < 8 by omega)).trans ?_
      rw [dif_neg h2]

end Cert.Attn4Pf
end
-- ==== Proof.Attn4Claim.lean ====
module

public import proofs.«01_k».proof.Defs
public import proofs.«01_k».proof.Proof.Attn4V
public import proofs.«01_k».proof.Proof.Attn4Ref
public import Idealize.ShloMosaic.Adequacy

@[expose] public section

noncomputable section

namespace Cert.Attn4Pf

open Idealize.ShloMosaic Idealize.ShloMosaic.TcCoe Idealize.SL.Sem

/-- The attention call of dilation 4 computes its reference, both results. -/
theorem algebraic4 : algebraic_Attn4Ideal_Attn4RefIdeal := by
  pair_intro
  · run_from Cert.Attn4Ideal.Gen.run_main m g
  · run_from Cert.Attn4RefIdeal.Value.run m' g'
    · rw [final3]
      funext y
      obtain ⟨b, r, i, l, rfl⟩ : ∃ (b : Fin 4) (r : Fin 4) (i : Fin 1024) (l : Fin 512), y = ix4 b r i l :=
        ⟨y 0, y 1, y 2, y 3, eq_ix4 _⟩
      refine (ref0 m' c b r i l).trans ?_
      rw [hagree c]
      rfl
    · rw [final4]
      funext y
      obtain ⟨b, r, i, l, rfl⟩ : ∃ (b : Fin 4) (r : Fin 4) (i : Fin 1024) (l : Fin 128), y = ix4 b r i l :=
        ⟨y 0, y 1, y 2, y 3, eq_ix4 _⟩
      refine (ref1 m' c b r i l).trans ?_
      rw [hagree c]
      rfl

end Cert.Attn4Pf

end
-- ==== Proof.ProjOps.lean ====
module

public import proofs.«01_k».proof.Proof.Gen.ProjIdeal.Frame
public import Idealize.ShloMosaic.Lib.Pipeline.ValueKit

@[expose] public section

set_option maxRecDepth 16384

noncomputable section

namespace Cert.ProjPf

open Cert.ProjIdeal Cert.ProjIdeal.Gen Idealize.ShloMosaic Idealize.ShloMosaic.TcCoe Idealize.SL.Sem

/-- A plane of a stack of eight planes lies inside the stack, -/
theorem inb8 : ∀ (c : Fin 8) (a : Fin 3), (![c.val, 0, 0] : Fin 3 → ℕ) a + S1x1024x128.size a ≤ S8x1024x128.size a := by
  decide

/-- and a plane of a stack of two. -/
theorem inb2 : ∀ (c : Fin 2) (a : Fin 3), (![c.val, 0, 0] : Fin 3 → ℕ) a + S1x1024x128.size a ≤ S2x1024x128.size a := by
  decide

/-- A chunk of 128 columns of the normalized rows. -/
theorem slU : ∀ c : Fin 8, S1024x1024.Slices ![0, 128 * c.val] S1024x128 := by decide

/-- A chunk of 128 columns of a projection. -/
theorem slA : ∀ c : Fin 4, S1024x512.Slices ![0, 128 * c.val] S1024x128 := by decide

/-- A section of 512 columns of the weights for a group. -/
theorem inbW : ∀ (s g : Fin 3) (a : Fin 2), (![0, 1536 * s.val + 512 * g.val] : Fin 2 → ℕ) a + S1024x512.size a ≤ S1024x4608.size a := by
  decide

/-- Every fourth row of a plane, 256 of them, -/
theorem inbs4 : ∀ (c : Fin 8) (r : Fin 4) (a : Fin 3), S1x256x128.size a = 0 ∨
    (![c.val, r.val, 0] : Fin 3 → ℕ) a + (![1, 4, 1] : Fin 3 → ℕ) a * (S1x256x128.size a - 1) < S8x1024x128.size a := by
  decide

/-- and the same for a table. -/
theorem inbt4 : ∀ (c : Fin 2) (r : Fin 4) (a : Fin 3), S1x256x128.size a = 0 ∨
    (![c.val, r.val, 0] : Fin 3 → ℕ) a + (![1, 4, 1] : Fin 3 → ℕ) a * (S1x256x128.size a - 1) < S2x1024x128.size a := by
  decide

/-- Every fourth row of a plane from a row of one of its quarters on, 64 of them, -/
theorem inbs16 : ∀ (c : Fin 8) (r : Fin 16) (a : Fin 3), S1x64x128.size a = 0 ∨
    (![c.val, r.val % 4 * 256 + r.val / 4, 0] : Fin 3 → ℕ) a + (![1, 4, 1] : Fin 3 → ℕ) a * (S1x64x128.size a - 1) < S8x1024x128.size a := by
  decide +kernel

/-- and the same for a table. -/
theorem inbt16 : ∀ (c : Fin 2) (r : Fin 16) (a : Fin 3), S1x64x128.size a = 0 ∨
    (![c.val, r.val % 4 * 256 + r.val / 4, 0] : Fin 3 → ℕ) a + (![1, 4, 1] : Fin 3 → ℕ) a * (S1x64x128.size a - 1) < S2x1024x128.size a := by
  decide +kernel

/-- A stack of eight planes as the body fills it, last first, -/
def stack (P : Fin 8 → FVec Ideal S1x1024x128 .f32) : List (View.Piece (Elt Ideal) S8x1024x128 .f32) :=
  List.map (fun c : Fin 8 => ⟨Rect.unit ![c.val, 0, 0] S1x1024x128.size (inb8 c), P c⟩) [7, 6, 5, 4, 3, 2, 1, 0]

/-- and the two tables. -/
def pair (P : Fin 2 → FVec Ideal S1x1024x128 .f32) : List (View.Piece (Elt Ideal) S2x1024x128 .f32) :=
  List.map (fun c : Fin 2 => ⟨Rect.unit ![c.val, 0, 0] S1x1024x128.size (inb2 c), P c⟩) [1, 0]

/-- The planes of the normalized rows: their chunks of 128 columns. -/
def planeA (U : FVec Ideal S1024x1024 .f32) (c : Fin 8) : FVec Ideal S1x1024x128 .f32 :=
  shapeCast S1x1024x128 (extractStridedSlice S1024x128 ![0, 128 * c.val] U (slU c)) shapeCasts_S1024x128_S1x1024x128

/-- A plane as the body stores it. -/
def planeOf (v : FVec Ideal S1024x128 .f32) : FVec Ideal S1x1024x128 .f32 := shapeCast S1x1024x128 v shapeCasts_S1024x128_S1x1024x128

/-- Every fourth row of a plane. -/
def part4 (v : View sig .tc .vmem S8x1024x128 .f32) (L : List (View.Piece (Elt Ideal) S8x1024x128 .f32)) (c : Fin 8) (r : Fin 4) : FVec Ideal S256x128 .f32 :=
  shapeCast S256x128 (v.readCov L ⟨![c.val, r.val, 0], S1x256x128.size, ![1, 4, 1], inbs4 c r⟩)
    shapeCasts_S1x256x128_S256x128

/-- The four of them together. -/
def chunk4 (v : View sig .tc .vmem S8x1024x128 .f32) (L : List (View.Piece (Elt Ideal) S8x1024x128 .f32)) (c : Fin 8) : FVec Ideal S1024x128 .f32 :=
  concatenate S1024x128 0 [⟨S256x128, part4 v L c 0⟩, ⟨S256x128, part4 v L c 1⟩, ⟨S256x128, part4 v L c 2⟩, ⟨S256x128, part4 v L c 3⟩] concatenates_S256x128_S256x128_S256x128_S256x128_S1024x128_d0

/-- Every fourth row of a table. -/
def partT4 (v : View sig .tc .vmem S2x1024x128 .f32) (L : List (View.Piece (Elt Ideal) S2x1024x128 .f32)) (c : Fin 2) (r : Fin 4) : FVec Ideal S256x128 .f32 :=
  shapeCast S256x128 (v.readCov L ⟨![c.val, r.val, 0], S1x256x128.size, ![1, 4, 1], inbt4 c r⟩)
    shapeCasts_S1x256x128_S256x128

/-- The four of them together. -/
def chunkT4 (v : View sig .tc .vmem S2x1024x128 .f32) (L : List (View.Piece (Elt Ideal) S2x1024x128 .f32)) (c : Fin 2) : FVec Ideal S1024x128 .f32 :=
  concatenate S1024x128 0 [⟨S256x128, partT4 v L c 0⟩, ⟨S256x128, partT4 v L c 1⟩, ⟨S256x128, partT4 v L c 2⟩, ⟨S256x128, partT4 v L c 3⟩] concatenates_S256x128_S256x128_S256x128_S256x128_S1024x128_d0

/-- Every sixteenth row, read from the planes regrouped once. -/
def part16 (v : View sig .tc .vmem S8x1024x128 .f32) (L : List (View.Piece (Elt Ideal) S8x1024x128 .f32)) (c : Fin 8) (r : Fin 16) : FVec Ideal S64x128 .f32 :=
  shapeCast S64x128
    (v.readCov L ⟨![c.val, r.val % 4 * 256 + r.val / 4, 0], S1x64x128.size, ![1, 4, 1], inbs16 c r⟩)
    shapeCasts_S1x64x128_S64x128

/-- The sixteen of them together. -/
def chunk16 (v : View sig .tc .vmem S8x1024x128 .f32) (L : List (View.Piece (Elt Ideal) S8x1024x128 .f32)) (c : Fin 8) : FVec Ideal S1024x128 .f32 :=
  concatenate S1024x128 0 [⟨S64x128, part16 v L c 0⟩, ⟨S64x128, part16 v L c 1⟩, ⟨S64x128, part16 v L c 2⟩, ⟨S64x128, part16 v L c 3⟩, ⟨S64x128, part16 v L c 4⟩, ⟨S64x128, part16 v L c 5⟩, ⟨S64x128, part16 v L c 6⟩, ⟨S64x128, part16 v L c 7⟩, ⟨S64x128, part16 v L c 8⟩, ⟨S64x128, part16 v L c 9⟩, ⟨S64x128, part16 v L c 10⟩, ⟨S64x128, part16 v L c 11⟩, ⟨S64x128, part16 v L c 12⟩, ⟨S64x128, part16 v L c 13⟩, ⟨S64x128, part16 v L c 14⟩, ⟨S64x128, part16 v L c 15⟩]
    concatenates_S64x128_S64x128_S64x128_S64x128_S64x128_S64x128_S64x128_S64x128_S64x128_S64x128_S64x128_S64x128_S64x128_S64x128_S64x128_S64x128_S1024x128_d0

/-- Every sixteenth row of a table. -/
def partT16 (v : View sig .tc .vmem S2x1024x128 .f32) (L : List (View.Piece (Elt Ideal) S2x1024x128 .f32)) (c : Fin 2) (r : Fin 16) : FVec Ideal S64x128 .f32 :=
  shapeCast S64x128
    (v.readCov L ⟨![c.val, r.val % 4 * 256 + r.val / 4, 0], S1x64x128.size, ![1, 4, 1], inbt16 c r⟩)
    shapeCasts_S1x64x128_S64x128

/-- The sixteen of them together. -/
def chunkT16 (v : View sig .tc .vmem S2x1024x128 .f32) (L : List (View.Piece (Elt Ideal) S2x1024x128 .f32)) (c : Fin 2) : FVec Ideal S1024x128 .f32 :=
  concatenate S1024x128 0 [⟨S64x128, partT16 v L c 0⟩, ⟨S64x128, partT16 v L c 1⟩, ⟨S64x128, partT16 v L c 2⟩, ⟨S64x128, partT16 v L c 3⟩, ⟨S64x128, partT16 v L c 4⟩, ⟨S64x128, partT16 v L c 5⟩, ⟨S64x128, partT16 v L c 6⟩, ⟨S64x128, partT16 v L c 7⟩, ⟨S64x128, partT16 v L c 8⟩, ⟨S64x128, partT16 v L c 9⟩, ⟨S64x128, partT16 v L c 10⟩, ⟨S64x128, partT16 v L c 11⟩, ⟨S64x128, partT16 v L c 12⟩, ⟨S64x128, partT16 v L c 13⟩, ⟨S64x128, partT16 v L c 14⟩, ⟨S64x128, partT16 v L c 15⟩]
    concatenates_S64x128_S64x128_S64x128_S64x128_S64x128_S64x128_S64x128_S64x128_S64x128_S64x128_S64x128_S64x128_S64x128_S64x128_S64x128_S64x128_S1024x128_d0

/-- Eight chunks of columns side by side. -/
def beside (K : Fin 8 → FVec Ideal S1024x128 .f32) : FVec Ideal S1024x1024 .f32 :=
  concatenate S1024x1024 1 [⟨S1024x128, K 0⟩, ⟨S1024x128, K 1⟩, ⟨S1024x128, K 2⟩, ⟨S1024x128, K 3⟩, ⟨S1024x128, K 4⟩, ⟨S1024x128, K 5⟩, ⟨S1024x128, K 6⟩, ⟨S1024x128, K 7⟩] concatenates_S1024x128_S1024x128_S1024x128_S1024x128_S1024x128_S1024x128_S1024x128_S1024x128_S1024x1024_d1

/-- The product of the rows with 512 columns of the weights. -/
def prod (U : FVec Ideal S1024x1024 .f32) (W : FVec Ideal S1024x512 .f32) : FVec Ideal S1024x512 .f32 :=
  matmul dot_S1024x1024_S1024x512_S1024x512_1_0_0_1_n_n none (k0_pay17 U) W (constant (F := Ideal) S1024x512 .f32 0x00000000#32)

/-- A chunk of 128 columns of a product. -/
def cols (A : FVec Ideal S1024x512 .f32) (c : Fin 4) : FVec Ideal S1024x128 .f32 :=
  extractStridedSlice S1024x128 ![0, 128 * c.val] A (slA c)

/-- The rotation of a chunk: the rotary lanes times the cosine plus their partners times the sine, the other lanes kept. -/
def rot (C S v : FVec Ideal S1024x128 .f32) : FVec Ideal S1024x128 .f32 :=
  select k0_pay26 (addf (mulf v C) (mulf (select k0_pay27 (dynamicRotate 1 120#32 none v rotates_S1024x128_d1)
    (dynamicRotate 1 8#32 none v rotates_S1024x128_d1)) S)) v

/-- What the three sections do with a chunk: queries rotated and scaled, keys rotated, values as they are. -/
def sect (C S v : FVec Ideal S1024x128 .f32) : Fin 3 → FVec Ideal S1024x128 .bf16
  | 0 => truncf .bf16 (mulf (rot C S v) (broadcast S1024x128 (Scalar.ofBits .f32 0x3E38AA3B#32))) bitsLt_bf16_f32
  | 1 => truncf .bf16 (rot C S v) bitsLt_bf16_f32
  | 2 => truncf .bf16 v bitsLt_bf16_f32

/-- A chunk of a section from the rows, the tables and the sections of the weights. -/
def tile (U : FVec Ideal S1024x1024 .f32) (C S : FVec Ideal S1024x128 .f32) (W : Fin 3 → FVec Ideal S1024x512 .f32) (s : Fin 3) (c : Fin 4) :
    FVec Ideal S1024x128 .bf16 :=
  sect C S (cols (prod U (W s)) c) s

/-- A piece of the result block of dilation 1 lies inside the block. -/
theorem inbo1 : ∀ (s : Fin 3) (c : Fin 4) (r : Fin 1) (a : Fin 4),
    (![0, r.val, 0, 512 * s.val + 128 * c.val] : Fin 4 → ℕ) a + S1x1x1024x128.size a ≤ S1x1x1024x1536.size a := by
  decide +kernel

/-- A piece of the result block of dilation 1. -/
def piece1 (T : Fin 3 → Fin 4 → FVec Ideal S1024x128 .bf16) (s : Fin 3) (c : Fin 4) (r : Fin 1) : View.Piece (Elt Ideal) S1x1x1024x1536 .bf16 :=
  ⟨Rect.unit ![0, r.val, 0, 512 * s.val + 128 * c.val] S1x1x1024x128.size (inbo1 s c r),
    shapeCast S1x1x1024x128 (T s c) shapeCasts_S1024x128_S1x1x1024x128⟩

/-- The pieces of the result block of dilation 1, last first. -/
def pieces1 (T : Fin 3 → Fin 4 → FVec Ideal S1024x128 .bf16) : List (View.Piece (Elt Ideal) S1x1x1024x1536 .bf16) :=
  List.flatMap (fun s => List.flatMap (fun c => List.map (fun r => piece1 T s c r) [0]) [3, 2, 1, 0]) [2, 1, 0]

/-- A piece of the result block of dilation 4 lies inside the block. -/
theorem inbo4 : ∀ (s : Fin 3) (c : Fin 4) (r : Fin 4) (a : Fin 4),
    (![0, r.val, 0, 512 * s.val + 128 * c.val] : Fin 4 → ℕ) a + S1x1x256x128.size a ≤ S1x4x256x1536.size a := by
  decide +kernel

/-- The rows of a residue class. -/
theorem slr4 : ∀ r : Fin 4, S1024x128.Slices ![256 * r.val, 0] S256x128 := by decide

/-- A piece of the result block of dilation 4. -/
def piece4 (T : Fin 3 → Fin 4 → FVec Ideal S1024x128 .bf16) (s : Fin 3) (c : Fin 4) (r : Fin 4) : View.Piece (Elt Ideal) S1x4x256x1536 .bf16 :=
  ⟨Rect.unit ![0, r.val, 0, 512 * s.val + 128 * c.val] S1x1x256x128.size (inbo4 s c r),
    shapeCast S1x1x256x128 (extractStridedSlice S256x128 ![256 * r.val, 0] (T s c) (slr4 r)) shapeCasts_S256x128_S1x1x256x128⟩

/-- The pieces of the result block of dilation 4, last first. -/
def pieces4 (T : Fin 3 → Fin 4 → FVec Ideal S1024x128 .bf16) : List (View.Piece (Elt Ideal) S1x4x256x1536 .bf16) :=
  List.flatMap (fun s => List.flatMap (fun c => List.map (fun r => piece4 T s c r) [3, 2, 1, 0]) [3, 2, 1, 0]) [2, 1, 0]

/-- A piece of the result block of dilation 16 lies inside the block. -/
theorem inbo16 : ∀ (s : Fin 3) (c : Fin 4) (r : Fin 16) (a : Fin 4),
    (![0, r.val, 0, 512 * s.val + 128 * c.val] : Fin 4 → ℕ) a + S1x1x64x128.size a ≤ S1x16x64x1536.size a := by
  decide +kernel

/-- The rows of a residue class. -/
theorem slr16 : ∀ r : Fin 16, S1024x128.Slices ![64 * r.val, 0] S64x128 := by decide

/-- A piece of the result block of dilation 16. -/
def piece16 (T : Fin 3 → Fin 4 → FVec Ideal S1024x128 .bf16) (s : Fin 3) (c : Fin 4) (r : Fin 16) : View.Piece (Elt Ideal) S1x16x64x1536 .bf16 :=
  ⟨Rect.unit ![0, r.val, 0, 512 * s.val + 128 * c.val] S1x1x64x128.size (inbo16 s c r),
    shapeCast S1x1x64x128 (extractStridedSlice S64x128 ![64 * r.val, 0] (T s c) (slr16 r)) shapeCasts_S64x128_S1x1x64x128⟩

/-- The pieces of the result block of dilation 16, last first. -/
def pieces16 (T : Fin 3 → Fin 4 → FVec Ideal S1024x128 .bf16) : List (View.Piece (Elt Ideal) S1x16x64x1536 .bf16) :=
  List.flatMap (fun s => List.flatMap (fun c => List.map (fun r => piece16 T s c r) [15, 14, 13, 12, 11, 10, 9, 8, 7, 6, 5, 4, 3, 2, 1, 0]) [3, 2, 1, 0]) [2, 1, 0]

/-- The cosine and the sine table of a block. -/
def tabs (x3 x4 : Vec Ideal S1024x128 .f32) (x5 x6 : Vec Ideal S1x1x128 .f32) : Fin 2 → FVec Ideal S1x1024x128 .f32
  | 0 => k0_pay22 x5 x6 x3 x4
  | 1 => k0_pay24 (k0_pay18 x5) (k0_pay20 x3) (k0_pay21 x4) (k0_pay23 x6)

/-- A table read back whole. -/
def tabRead (v : View sig .tc .vmem S2x1024x128 .f32) (L : List (View.Piece (Elt Ideal) S2x1024x128 .f32)) (c : Fin 2) :
    FVec Ideal S1024x128 .f32 :=
  shapeCast S1024x128 (v.readCov L (Rect.unit (s := S2x1024x128) ![c.val, 0, 0] S1x1024x128.size (inb2 c)).toLoadRect)
    shapeCasts_S1x1024x128_S1024x128

/-- The stack after the first regrouping, -/
def stackB (v : View sig .tc .vmem S8x1024x128 .f32) (L : List (View.Piece (Elt Ideal) S8x1024x128 .f32)) :
    List (View.Piece (Elt Ideal) S8x1024x128 .f32) :=
  stack (fun k => planeOf (chunk4 v L k)) ++ L

/-- and the tables' list after it. -/
def pairB (v : View sig .tc .vmem S2x1024x128 .f32) (L : List (View.Piece (Elt Ideal) S2x1024x128 .f32)) :
    List (View.Piece (Elt Ideal) S2x1024x128 .f32) :=
  pair (fun k => planeOf (chunkT4 v L k)) ++ L

end Cert.ProjPf
-- ==== Proof.ProjRun.lean ====
module

public import proofs.«01_k».proof.Proof.ProjOps
public import Idealize.ShloMosaic.Lib.Tactic
public import Idealize.ShloMosaic.Lib.Pipeline.ValueKit

@[expose] public section

set_option maxRecDepth 16384

noncomputable section

namespace Cert.ProjPf

open Cert.ProjIdeal Cert.ProjIdeal.Gen Idealize.ShloMosaic Idealize.ShloMosaic.TcCoe Idealize.SL.Sem

variable (c : Dev nD) (i : grid0.Coords)
  (arg1 : Memref sig .tc .vmem S1024x1024 .f32) (harg1 : arg1.IsWhole)
  (arg2 : Memref sig .tc .vmem S1x1024 .f32) (harg2 : arg2.IsWhole)
  (arg3 : Memref sig .tc .vmem S1024x4608 .f32) (harg3 : arg3.IsWhole)
  (arg4 : Memref sig .tc .vmem S1024x128 .f32) (harg4 : arg4.IsWhole)
  (arg5 : Memref sig .tc .vmem S1024x128 .f32) (harg5 : arg5.IsWhole)
  (arg6 : Memref sig .tc .vmem S1x1x128 .f32) (harg6 : arg6.IsWhole)
  (arg7 : Memref sig .tc .vmem S1x1x128 .f32) (harg7 : arg7.IsWhole)
  (arg8 : Memref sig .tc .vmem S1x1x1024x1536 .bf16) (harg8 : arg8.IsWhole)
  (arg9 : Memref sig .tc .vmem S1x4x256x1536 .bf16) (harg9 : arg9.IsWhole)
  (arg10 : Memref sig .tc .vmem S1x16x64x1536 .bf16) (harg10 : arg10.IsWhole)
  (arg11 : Memref sig .tc .vmem S8x1024x128 .f32) (harg11 : arg11.IsWhole)
  (arg12 : Memref sig .tc .vmem S2x1024x128 .f32) (harg12 : arg12.IsWhole)
  (x0 : Vec Ideal S1024x1024 .f32)
  (x1 : Vec Ideal S1x1024 .f32)
  (x2 : Vec Ideal S1024x4608 .f32)
  (x3 : Vec Ideal S1024x128 .f32)
  (x4 : Vec Ideal S1024x128 .f32)
  (x5 : Vec Ideal S1x1x128 .f32)
  (x6 : Vec Ideal S1x1x128 .f32)

/-- The normalized rows as the body computes them from what it reads, -/
def uRead : FVec Ideal S1024x1024 .f32 :=
  k0_pay7 (View.readAt (Elt Ideal) arg1.view (Rect.unit (s := S1024x1024) ![0, 0] S1024x1024.size inb_S1024x1024_S1024x1024_0_0).toLoadRect (harg1.unread x0))
  (View.readAt (Elt Ideal) arg2.view (Rect.unit (s := S1x1024) ![0, 0] S1x1024.size inb_S1x1024_S1x1024_0_0).toLoadRect (harg2.unread x1))

/-- the tables, -/
def tRead : Fin 2 → FVec Ideal S1x1024x128 .f32 :=
  tabs (View.readAt (Elt Ideal) arg4.view (Rect.unit (s := S1024x128) ![0, 0] S1024x128.size inb_S1024x128_S1024x128_0_0).toLoadRect (harg4.unread x3))
  (View.readAt (Elt Ideal) arg5.view (Rect.unit (s := S1024x128) ![0, 0] S1024x128.size inb_S1024x128_S1024x128_0_0).toLoadRect (harg5.unread x4))
  (View.readAt (Elt Ideal) arg6.view (Rect.unit (s := S1x1x128) ![0, 0, 0] S1x1x128.size inb_S1x1x128_S1x1x128_0_0_0).toLoadRect (harg6.unread x5))
  (View.readAt (Elt Ideal) arg7.view (Rect.unit (s := S1x1x128) ![0, 0, 0] S1x1x128.size inb_S1x1x128_S1x1x128_0_0_0).toLoadRect (harg7.unread x6))

/-- and the weights of a section for a group. -/
def wRead (g s : Fin 3) : FVec Ideal S1024x512 .f32 :=
  View.readAt (Elt Ideal) arg3.view (Rect.unit (s := S1024x4608) ![0, 1536 * s.val + 512 * g.val] S1024x512.size (inbW s g)).toLoadRect
    (harg3.unread x2)

/-- The run's stores into the block of dilation 1. -/
theorem run1 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).1 = pieces1 (tile (uRead arg1 harg1 arg2 harg2 x0 x1)
    (tabRead arg12.view (pair (tRead arg4 harg4 arg5 harg5 arg6 harg6 arg7 harg7 x3 x4 x5 x6)) 0) (tabRead arg12.view (pair (tRead arg4 harg4 arg5 harg5 arg6 harg6 arg7 harg7 x3 x4 x5 x6)) 1) (wRead arg3 harg3 x2 0)) := by
  sl_kernel_rfl

/-- The run's stores into the block of dilation 4. -/
theorem run4 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.1 = pieces4 (tile (beside (chunk4 arg11.view (stack (planeA (uRead arg1 harg1 arg2 harg2 x0 x1)))))
    (chunkT4 arg12.view (pair (tRead arg4 harg4 arg5 harg5 arg6 harg6 arg7 harg7 x3 x4 x5 x6)) 0) (chunkT4 arg12.view (pair (tRead arg4 harg4 arg5 harg5 arg6 harg6 arg7 harg7 x3 x4 x5 x6)) 1) (wRead arg3 harg3 x2 1)) := by
  sl_kernel_rfl

/-- The run's stores into the block of dilation 16. -/
theorem run16 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.1 =
    pieces16 (tile (beside (chunk16 arg11.view (stackB arg11.view (stack (planeA (uRead arg1 harg1 arg2 harg2 x0 x1))))))
    (chunkT16 arg12.view (pairB arg12.view (pair (tRead arg4 harg4 arg5 harg5 arg6 harg6 arg7 harg7 x3 x4 x5 x6))) 0) (chunkT16 arg12.view (pairB arg12.view (pair (tRead arg4 harg4 arg5 harg5 arg6 harg6 arg7 harg7 x3 x4 x5 x6))) 1)
    (wRead arg3 harg3 x2 2)) := by
  sl_kernel_rfl

/-- What the body reads whole is the block. -/
theorem uRead_eq : uRead arg1 harg1 arg2 harg2 x0 x1 = k0_pay7 x0 x1 := by
  unfold uRead
  simp (disch := decide) only [View.readAt_eq_ld, Memref.IsWhole.read_unread, View.ld_unit_lit']

/-- The same for the tables, -/
theorem tRead_eq : tRead arg4 harg4 arg5 harg5 arg6 harg6 arg7 harg7 x3 x4 x5 x6 = tabs x3 x4 x5 x6 := by
  unfold tRead
  simp (disch := decide) only [View.readAt_eq_ld, Memref.IsWhole.read_unread, View.ld_unit_lit']

/-- and for a section of the weights. -/
theorem wRead_eq (g s : Fin 3) : wRead arg3 harg3 x2 g s = View.ld (Val := Elt Ideal) (e' := .f32) x2
    (Rect.unit (s := S1024x4608) ![0, 1536 * s.val + 512 * g.val] S1024x512.size (inbW s g)) := by
  unfold wRead
  simp only [View.readAt_eq_ld, Memref.IsWhole.read_unread]

/-- The sections of the weights a group takes from the whole. -/
def secW (W : Vec Ideal S1024x4608 .f32) (g s : Fin 3) : FVec Ideal S1024x512 .f32 := View.ld (Val := Elt Ideal) (e' := .f32) W
    (Rect.unit (s := S1024x4608) ![0, 1536 * s.val + 512 * g.val] S1024x512.size (inbW s g))

/-- The block of dilation 1 after the body, -/
theorem out1 : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = View.canon (pieces1 (tile (k0_pay7 x0 x1)
    (tabRead arg12.view (pair (tabs x3 x4 x5 x6)) 0) (tabRead arg12.view (pair (tabs x3 x4 x5 x6)) 1) (secW x2 0))) := by
  unfold out0_A_7
  rw [View.read_writes_junk_eq_canon, run1, uRead_eq, tRead_eq, show wRead arg3 harg3 x2 0 = secW x2 0 from funext (wRead_eq arg3 harg3 x2 0)]

/-- the block of dilation 4, -/
theorem out4 : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = View.canon (pieces4 (tile (beside (chunk4 arg11.view (stack (planeA (k0_pay7 x0 x1)))))
    (chunkT4 arg12.view (pair (tabs x3 x4 x5 x6)) 0) (chunkT4 arg12.view (pair (tabs x3 x4 x5 x6)) 1) (secW x2 1))) := by
  unfold out0_A_8
  rw [View.read_writes_junk_eq_canon, run4, uRead_eq, tRead_eq, show wRead arg3 harg3 x2 1 = secW x2 1 from funext (wRead_eq arg3 harg3 x2 1)]

/-- and the block of dilation 16. -/
theorem out16 : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 =
    View.canon (pieces16 (tile (beside (chunk16 arg11.view (stackB arg11.view (stack (planeA (k0_pay7 x0 x1))))))
    (chunkT16 arg12.view (pairB arg12.view (pair (tabs x3 x4 x5 x6))) 0) (chunkT16 arg12.view (pairB arg12.view (pair (tabs x3 x4 x5 x6))) 1)
    (secW x2 2))) := by
  unfold out0_A_9
  rw [View.read_writes_junk_eq_canon, run16, uRead_eq, tRead_eq, show wRead arg3 harg3 x2 2 = secW x2 2 from funext (wRead_eq arg3 harg3 x2 2)]

end Cert.ProjPf
-- ==== Proof.ProjStack.lean ====
module

public import proofs.«01_k».proof.Proof.ProjRun
public import Idealize.ShloMosaic.Lib.Pipeline.ValueKit
public import Idealize.ShloMosaic.Lib.Pipeline.CanonAppend

@[expose] public section

set_option maxRecDepth 16384

noncomputable section

namespace Cert.ProjPf

open Cert.ProjIdeal Cert.ProjIdeal.Gen Idealize.ShloMosaic Idealize.ShloMosaic.TcCoe Idealize.SL.Sem

/-- The planes of a stack as one function of the plane, the row and the lane. -/
def planeAt {n : ℕ} (P : Fin n → FVec Ideal S1x1024x128 .f32) (a : Fin n) (r : Fin 1024) (l : Fin 128) : EReal := P a (ix3 0 r l)

/-- What is read back of a stack is its planes, whatever was written before. -/
theorem stack_canon (P : Fin 8 → FVec Ideal S1x1024x128 .f32) (L : List (View.Piece (Elt Ideal) S8x1024x128 .f32)) (j : S8x1024x128.Idx) :
    View.canon (stack P ++ L) j = planeAt P (j 0) (j 1) (j 2) := by
  refine View.canon_append_of_pieces (fun j : S8x1024x128.Idx => planeAt P (j 0) (j 1) (j 2)) L (stack P) ?_ j ?_
  · intro p hp x
    obtain ⟨c, -, rfl⟩ := List.mem_map.1 hp
    have h0 : (x 0).val < 1 := (x 0).isLt
    refine congr (congrArg P (Fin.ext ?_)) (funext fun a => Fin.ext ?_)
    · show c.val = c.val + 1 * (x 0).val; omega
    · match a with
      | 0 => show (x 0).val = 0; omega
      | 1 => show (x 1).val = 0 + 1 * (x 1).val; omega
      | 2 => show (x 2).val = 0 + 1 * (x 2).val; omega
  · have hm : ∀ c : Fin 8, c ∈ ([7, 6, 5, 4, 3, 2, 1, 0] : List (Fin 8)) := by decide
    refine ⟨⟨Rect.unit ![(j 0).val, 0, 0] S1x1024x128.size (inb8 (j 0)), P (j 0)⟩, List.mem_map.2 ⟨j 0, hm _, rfl⟩,
      (Rect.mem_set_unit (inb := inb8 (j 0))).2 fun a => ?_⟩
    match a with
    | 0 => exact ⟨le_rfl, Nat.lt_succ_self _⟩
    | 1 => exact ⟨Nat.zero_le _, by have := (j 1).isLt; show (j 1).val < 0 + 1024; exact (Nat.zero_add 1024).symm ▸ this⟩
    | 2 => exact ⟨Nat.zero_le _, by have := (j 2).isLt; show (j 2).val < 0 + 128; exact (Nat.zero_add 128).symm ▸ this⟩

/-- The same for the two tables. -/
theorem pair_canon (P : Fin 2 → FVec Ideal S1x1024x128 .f32) (L : List (View.Piece (Elt Ideal) S2x1024x128 .f32)) (j : S2x1024x128.Idx) :
    View.canon (pair P ++ L) j = planeAt P (j 0) (j 1) (j 2) := by
  refine View.canon_append_of_pieces (fun j : S2x1024x128.Idx => planeAt P (j 0) (j 1) (j 2)) L (pair P) ?_ j ?_
  · intro p hp x
    obtain ⟨c, -, rfl⟩ := List.mem_map.1 hp
    have h0 : (x 0).val < 1 := (x 0).isLt
    refine congr (congrArg P (Fin.ext ?_)) (funext fun a => Fin.ext ?_)
    · show c.val = c.val + 1 * (x 0).val; omega
    · match a with
      | 0 => show (x 0).val = 0; omega
      | 1 => show (x 1).val = 0 + 1 * (x 1).val; omega
      | 2 => show (x 2).val = 0 + 1 * (x 2).val; omega
  · have hm : ∀ c : Fin 2, c ∈ ([1, 0] : List (Fin 2)) := by decide
    refine ⟨⟨Rect.unit ![(j 0).val, 0, 0] S1x1024x128.size (inb2 (j 0)), P (j 0)⟩, List.mem_map.2 ⟨j 0, hm _, rfl⟩,
      (Rect.mem_set_unit (inb := inb2 (j 0))).2 fun a => ?_⟩
    match a with
    | 0 => exact ⟨le_rfl, Nat.lt_succ_self _⟩
    | 1 => exact ⟨Nat.zero_le _, by have := (j 1).isLt; show (j 1).val < 0 + 1024; exact (Nat.zero_add 1024).symm ▸ this⟩
    | 2 => exact ⟨Nat.zero_le _, by have := (j 2).isLt; show (j 2).val < 0 + 128; exact (Nat.zero_add 128).symm ▸ this⟩

/-- A part without its leading coordinate. -/
theorem cast256 (w : FVec Ideal S1x256x128 .f32) (k : Fin 256) (l : Fin 128) :
    shapeCast S256x128 w shapeCasts_S1x256x128_S256x128 (ix2 k l) = w (ix3 0 k l) := by
  pointwise

/-- A part without its leading coordinate. -/
theorem cast64 (w : FVec Ideal S1x64x128 .f32) (k : Fin 64) (l : Fin 128) :
    shapeCast S64x128 w shapeCasts_S1x64x128_S64x128 (ix2 k l) = w (ix3 0 k l) := by
  pointwise

/-- What is read of a plane at every fourth row (from row r on). -/
theorem part4_read (v : View sig .tc .vmem S8x1024x128 .f32) (P : Fin 8 → FVec Ideal S1x1024x128 .f32)
    (L : List (View.Piece (Elt Ideal) S8x1024x128 .f32)) (c : Fin 8) (r : Fin 4) :
    v.readCov (stack P ++ L) ⟨![c.val, r.val, 0], S1x256x128.size, ![1, 4, 1], inbs4 c r⟩
      = fun j : S1x256x128.Idx => planeAt P c ⟨r.val + 4 * (j 1).val, by have h : (j 1).val < 256 := (j 1).isLt; omega⟩ (j 2) := by
  rw [View.readCov_eq_canon']
  funext j
  rw [stack_canon]
  have h0 : (j 0).val < 1 := (j 0).isLt
  refine congr (congr (congrArg (planeAt P) (Fin.ext ?_)) (Fin.ext ?_)) (Fin.ext ?_)
  · show c.val + 1 * (j 0).val = c.val; omega
  · rfl
  · show 0 + 1 * (j 2).val = (j 2).val; omega

/-- A part of those rows, at its coordinates. -/
theorem part4_at (v : View sig .tc .vmem S8x1024x128 .f32) (P : Fin 8 → FVec Ideal S1x1024x128 .f32)
    (L : List (View.Piece (Elt Ideal) S8x1024x128 .f32)) (c : Fin 8) (r : Fin 4) (k : Fin 256) (l : Fin 128) :
    part4 v (stack P ++ L) c r (ix2 k l) = planeAt P c ⟨r.val + 4 * k.val, by omega⟩ l := by
  unfold part4
  exact (cast256 _ k l).trans (congrFun (part4_read v P L c r) (ix3 0 k l))

/-- What is read of a plane at every fourth row (from row r on). -/
theorem partT4_read (v : View sig .tc .vmem S2x1024x128 .f32) (P : Fin 2 → FVec Ideal S1x1024x128 .f32)
    (L : List (View.Piece (Elt Ideal) S2x1024x128 .f32)) (c : Fin 2) (r : Fin 4) :
    v.readCov (pair P ++ L) ⟨![c.val, r.val, 0], S1x256x128.size, ![1, 4, 1], inbt4 c r⟩
      = fun j : S1x256x128.Idx => planeAt P c ⟨r.val + 4 * (j 1).val, by have h : (j 1).val < 256 := (j 1).isLt; omega⟩ (j 2) := by
  rw [View.readCov_eq_canon']
  funext j
  rw [pair_canon]
  have h0 : (j 0).val < 1 := (j 0).isLt
  refine congr (congr (congrArg (planeAt P) (Fin.ext ?_)) (Fin.ext ?_)) (Fin.ext ?_)
  · show c.val + 1 * (j 0).val = c.val; omega
  · rfl
  · show 0 + 1 * (j 2).val = (j 2).val; omega

/-- A part of those rows, at its coordinates. -/
theorem partT4_at (v : View sig .tc .vmem S2x1024x128 .f32) (P : Fin 2 → FVec Ideal S1x1024x128 .f32)
    (L : List (View.Piece (Elt Ideal) S2x1024x128 .f32)) (c : Fin 2) (r : Fin 4) (k : Fin 256) (l : Fin 128) :
    partT4 v (pair P ++ L) c r (ix2 k l) = planeAt P c ⟨r.val + 4 * k.val, by omega⟩ l := by
  unfold partT4
  exact (cast256 _ k l).trans (congrFun (partT4_read v P L c r) (ix3 0 k l))

/-- What is read of a plane at every fourth row (within a quarter). -/
theorem part16_read (v : View sig .tc .vmem S8x1024x128 .f32) (P : Fin 8 → FVec Ideal S1x1024x128 .f32)
    (L : List (View.Piece (Elt Ideal) S8x1024x128 .f32)) (c : Fin 8) (r : Fin 16) :
    v.readCov (stack P ++ L) ⟨![c.val, r.val % 4 * 256 + r.val / 4, 0], S1x64x128.size, ![1, 4, 1], inbs16 c r⟩
      = fun j : S1x64x128.Idx => planeAt P c ⟨r.val % 4 * 256 + r.val / 4 + 4 * (j 1).val, by have h : (j 1).val < 64 := (j 1).isLt; omega⟩ (j 2) := by
  rw [View.readCov_eq_canon']
  funext j
  rw [stack_canon]
  have h0 : (j 0).val < 1 := (j 0).isLt
  refine congr (congr (congrArg (planeAt P) (Fin.ext ?_)) (Fin.ext ?_)) (Fin.ext ?_)
  · show c.val + 1 * (j 0).val = c.val; omega
  · rfl
  · show 0 + 1 * (j 2).val = (j 2).val; omega

/-- A part of those rows, at its coordinates. -/
theorem part16_at (v : View sig .tc .vmem S8x1024x128 .f32) (P : Fin 8 → FVec Ideal S1x1024x128 .f32)
    (L : List (View.Piece (Elt Ideal) S8x1024x128 .f32)) (c : Fin 8) (r : Fin 16) (k : Fin 64) (l : Fin 128) :
    part16 v (stack P ++ L) c r (ix2 k l) = planeAt P c ⟨r.val % 4 * 256 + r.val / 4 + 4 * k.val, by omega⟩ l := by
  unfold part16
  exact (cast64 _ k l).trans (congrFun (part16_read v P L c r) (ix3 0 k l))

/-- What is read of a plane at every fourth row (within a quarter). -/
theorem partT16_read (v : View sig .tc .vmem S2x1024x128 .f32) (P : Fin 2 → FVec Ideal S1x1024x128 .f32)
    (L : List (View.Piece (Elt Ideal) S2x1024x128 .f32)) (c : Fin 2) (r : Fin 16) :
    v.readCov (pair P ++ L) ⟨![c.val, r.val % 4 * 256 + r.val / 4, 0], S1x64x128.size, ![1, 4, 1], inbt16 c r⟩
      = fun j : S1x64x128.Idx => planeAt P c ⟨r.val % 4 * 256 + r.val / 4 + 4 * (j 1).val, by have h : (j 1).val < 64 := (j 1).isLt; omega⟩ (j 2) := by
  rw [View.readCov_eq_canon']
  funext j
  rw [pair_canon]
  have h0 : (j 0).val < 1 := (j 0).isLt
  refine congr (congr (congrArg (planeAt P) (Fin.ext ?_)) (Fin.ext ?_)) (Fin.ext ?_)
  · show c.val + 1 * (j 0).val = c.val; omega
  · rfl
  · show 0 + 1 * (j 2).val = (j 2).val; omega

/-- A part of those rows, at its coordinates. -/
theorem partT16_at (v : View sig .tc .vmem S2x1024x128 .f32) (P : Fin 2 → FVec Ideal S1x1024x128 .f32)
    (L : List (View.Piece (Elt Ideal) S2x1024x128 .f32)) (c : Fin 2) (r : Fin 16) (k : Fin 64) (l : Fin 128) :
    partT16 v (pair P ++ L) c r (ix2 k l) = planeAt P c ⟨r.val % 4 * 256 + r.val / 4 + 4 * k.val, by omega⟩ l := by
  unfold partT16
  exact (cast64 _ k l).trans (congrFun (partT16_read v P L c r) (ix3 0 k l))

end Cert.ProjPf
-- ==== Proof.ProjOver.lean ====
module

public import proofs.«01_k».proof.Proof.ProjRun
public import Idealize.ShloMosaic.Lib.Pipeline.ValueKit
public import Idealize.ShloMosaic.Lib.Pipeline.Value

@[expose] public section

set_option maxRecDepth 16384

noncomputable section

namespace Cert.ProjPf

open Cert.ProjIdeal Cert.ProjIdeal.Gen Idealize.ShloMosaic Idealize.ShloMosaic.TcCoe Idealize.SL.Sem

/-- Four parts one over the other. -/
theorem over4_at (K : Fin 4 → FVec Ideal S256x128 .f32) (n : Fin 1024) (l : Fin 128) :
    concatenate S1024x128 0 [⟨S256x128, K 0⟩, ⟨S256x128, K 1⟩, ⟨S256x128, K 2⟩, ⟨S256x128, K 3⟩]
      concatenates_S256x128_S256x128_S256x128_S256x128_S1024x128_d0 (ix2 n l) = K ⟨n.val / 256, by omega⟩ (ix2 ⟨n.val % 256, by omega⟩ l) := by
  refine concatenate_ofFn_apply (t := S1024x128) (s₁ := S256x128) 0 K concatenates_S256x128_S256x128_S256x128_S256x128_S1024x128_d0 rfl 256 rfl (ix2 n l) ⟨n.val / 256, by omega⟩ rfl
    (ix2 ⟨n.val % 256, by omega⟩ l) rfl fun b hb => ?_
  match b with
  | 0 => exact absurd rfl hb
  | 1 => rfl

/-- Sixteen parts one over the other. -/
theorem over16_at (K : Fin 16 → FVec Ideal S64x128 .f32) (n : Fin 1024) (l : Fin 128) :
    concatenate S1024x128 0 [⟨S64x128, K 0⟩, ⟨S64x128, K 1⟩, ⟨S64x128, K 2⟩, ⟨S64x128, K 3⟩, ⟨S64x128, K 4⟩, ⟨S64x128, K 5⟩, ⟨S64x128, K 6⟩, ⟨S64x128, K 7⟩, ⟨S64x128, K 8⟩, ⟨S64x128, K 9⟩, ⟨S64x128, K 10⟩, ⟨S64x128, K 11⟩, ⟨S64x128, K 12⟩, ⟨S64x128, K 13⟩, ⟨S64x128, K 14⟩, ⟨S64x128, K 15⟩]
      concatenates_S64x128_S64x128_S64x128_S64x128_S64x128_S64x128_S64x128_S64x128_S64x128_S64x128_S64x128_S64x128_S64x128_S64x128_S64x128_S64x128_S1024x128_d0 (ix2 n l) = K ⟨n.val / 64, by omega⟩ (ix2 ⟨n.val % 64, by omega⟩ l) := by
  refine concatenate_ofFn_apply (t := S1024x128) (s₁ := S64x128) 0 K concatenates_S64x128_S64x128_S64x128_S64x128_S64x128_S64x128_S64x128_S64x128_S64x128_S64x128_S64x128_S64x128_S64x128_S64x128_S64x128_S64x128_S1024x128_d0 rfl 64 rfl (ix2 n l) ⟨n.val / 64, by omega⟩ rfl
    (ix2 ⟨n.val % 64, by omega⟩ l) rfl fun b hb => ?_
  match b with
  | 0 => exact absurd rfl hb
  | 1 => rfl

/-- Eight chunks side by side. -/
theorem beside_at (K : Fin 8 → FVec Ideal S1024x128 .f32) (n : Fin 1024) (l : Fin 1024) :
    concatenate S1024x1024 1 [⟨S1024x128, K 0⟩, ⟨S1024x128, K 1⟩, ⟨S1024x128, K 2⟩, ⟨S1024x128, K 3⟩, ⟨S1024x128, K 4⟩, ⟨S1024x128, K 5⟩, ⟨S1024x128, K 6⟩, ⟨S1024x128, K 7⟩]
      concatenates_S1024x128_S1024x128_S1024x128_S1024x128_S1024x128_S1024x128_S1024x128_S1024x128_S1024x1024_d1 (ix2 n l) = K ⟨l.val / 128, by omega⟩ (ix2 n ⟨l.val % 128, by omega⟩) := by
  refine concatenate_ofFn_apply (t := S1024x1024) (s₁ := S1024x128) 1 K concatenates_S1024x128_S1024x128_S1024x128_S1024x128_S1024x128_S1024x128_S1024x128_S1024x128_S1024x1024_d1 rfl 128 rfl (ix2 n l) ⟨l.val / 128, by omega⟩ rfl
    (ix2 n ⟨l.val % 128, by omega⟩) rfl fun b hb => ?_
  match b with
  | 0 => rfl
  | 1 => exact absurd rfl hb

end Cert.ProjPf
-- ==== Proof.ProjVals.lean ====
module

public import proofs.«01_k».proof.Proof.ProjRun
public import Idealize.ShloMosaic.Lib.Pipeline.ValueKit

@[expose] public section

set_option maxRecDepth 16384

noncomputable section

namespace Cert.ProjPf

open Cert.ProjIdeal Cert.ProjIdeal.Gen Idealize.ShloMosaic Idealize.ShloMosaic.TcCoe Idealize.SL.Sem

/-- A product, entry by entry. -/
theorem prod_at (U : FVec Ideal S1024x1024 .f32) (W : FVec Ideal S1024x512 .f32) (n : Fin 1024) (l : Fin 512) :
    prod U W (ix2 n l) = ∑ k : Fin 1024, U (ix2 n k) * W (ix2 k l) := by
  unfold prod
  open_payloads
  pointwise

/-- The rotary lanes of a head, as the body marks them, -/
theorem mask26 (n : Fin 1024) (l : Fin 128) : k0_pay26 (ix2 n l) = if l.val % 64 < 16 then 1#1 else 0#1 := by
  open_payloads
  pointwise
  revert l
  decide +kernel

/-- and the lower half of them. -/
theorem mask27 (n : Fin 1024) (l : Fin 128) : k0_pay27 (ix2 n l) = if l.val % 64 < 8 then 1#1 else 0#1 := by
  open_payloads
  pointwise
  revert l
  decide +kernel

/-- The rotation of a chunk, lane by lane. -/
theorem rot_at (C S v : FVec Ideal S1024x128 .f32) (n : Fin 1024) (l : Fin 128) :
    rot C S v (ix2 n l) = if l.val % 64 < 16 then v (ix2 n l) * C (ix2 n l)
      + (if l.val % 64 < 8 then v (ix2 n ⟨(l.val + 8) % 128, by omega⟩) else v (ix2 n ⟨(l.val + 120) % 128, by omega⟩)) * S (ix2 n l)
      else v (ix2 n l) := by
  have e : rot C S v (ix2 n l) = Scalar.select (k0_pay26 (ix2 n l)) (v (ix2 n l) * C (ix2 n l)
      + (Scalar.select (k0_pay27 (ix2 n l)) (v (ix2 n ⟨(l.val + 128 - 120) % 128, by omega⟩)) (v (ix2 n ⟨(l.val + 128 - 8) % 128, by omega⟩)) : EReal) * S (ix2 n l) : EReal)
      (v (ix2 n l)) := by
    unfold rot
    pointwise
  rw [e, mask26, mask27]
  split_ifs <;> rfl

/-- The cosine of a sum of two angles, as the body forms it from the two tables, -/
theorem tabs0_at (x3 x4 : Vec Ideal S1024x128 .f32) (x5 x6 : Vec Ideal S1x1x128 .f32) (r l) : tabs x3 x4 x5 x6 0 (ix3 0 r l) =
   x5 (ix3 0 0 l) * x3 (ix2 r l) - x6 (ix3 0 0 l) * x4 (ix2 r l) := by
  show k0_pay22 x5 x6 x3 x4 _ = _
  open_payloads
  pointwise

/-- and the sine. -/
theorem tabs1_at (x3 x4 : Vec Ideal S1024x128 .f32) (x5 x6 : Vec Ideal S1x1x128 .f32) (r l) : tabs x3 x4 x5 x6 1 (ix3 0 r l) =
   x6 (ix3 0 0 l) * x3 (ix2 r l) + x5 (ix3 0 0 l) * x4 (ix2 r l) := by
  show k0_pay24 (k0_pay18 x5) (k0_pay20 x3) (k0_pay21 x4) (k0_pay23 x6) _ = _
  open_payloads
  pointwise

/-- The three sections, entry by entry. -/
theorem sect_at (C S v : FVec Ideal S1024x128 .f32) (s : Fin 3) (n : Fin 1024) (l : Fin 128) :
    sect C S v s (ix2 n l) = if s = 0 then rot C S v (ix2 n l) * Ideal.ofBits .f32 0x3E38AA3B#32 else if s = 1 then rot C S v (ix2 n l)
      else v (ix2 n l) := by
  match s with
  | 0 => rfl
  | 1 => rfl
  | 2 => rfl

/-- A chunk of columns, entry by entry. -/
theorem cols_at (A : FVec Ideal S1024x512 .f32) (c : Fin 4) (n : Fin 1024) (l : Fin 128) :
   cols A c (ix2 n l) = A (ix2 n ⟨128 * c.val + l.val, by omega⟩) := by
  unfold cols
  pointwise

/-- A plane of the normalized rows, entry by entry. -/
theorem planeA_at (U : FVec Ideal S1024x1024 .f32) (c : Fin 8) (n : Fin 1024) (l : Fin 128) :
   planeA U c (ix3 0 n l) = U (ix2 n ⟨128 * c.val + l.val, by omega⟩) := by
  unfold planeA
  pointwise

/-- A stored plane, entry by entry. -/
theorem planeOf_at (U : FVec Ideal S1024x128 .f32) (n : Fin 1024) (l : Fin 128) :
   planeOf U (ix3 0 n l) = U (ix2 n l) := by
  unfold planeOf
  pointwise

/-- The normalized rows, entry by entry. -/
theorem u_at (x0 : Vec Ideal S1024x1024 .f32) (x1 : Vec Ideal S1x1024 .f32) (r l : Fin 1024) :
    (k0_pay7 (F := Ideal) x0 x1 (ix2 r l) : EReal) = x0 (ix2 r l) * Ideal.rsqrt (Ideal.div (∑ x : Fin 1024, x0 (ix2 r x) * x0 (ix2 r x))
      (Ideal.ofBits .f32 1149239296#32) + Ideal.ofBits .f32 897988541#32) * x1 (ix2 0 l) := by
  open_payloads
  pointwise

/-- The read table, entry by entry. -/
theorem castT (w : FVec Ideal S1x1024x128 .f32) (k : Fin 1024) (l : Fin 128) :
    shapeCast S1024x128 w shapeCasts_S1x1024x128_S1024x128 (ix2 k l) = w (ix3 0 k l) := by
  pointwise

end Cert.ProjPf
-- ==== Proof.ProjBlocks.lean ====
module

public import proofs.«01_k».proof.Proof.ProjRun
public import Idealize.ShloMosaic.Lib.Pipeline.ValueKit
public import Idealize.ShloMosaic.Lib.Pipeline.CanonAppend

@[expose] public section

set_option maxRecDepth 16384

noncomputable section

namespace Cert.ProjPf

open Cert.ProjIdeal Cert.ProjIdeal.Gen Idealize.ShloMosaic Idealize.ShloMosaic.TcCoe Idealize.SL.Sem

/-- What a piece of the block of dilation 1 holds. -/
theorem pay1_at (w : FVec Ideal S1024x128 .bf16) (r : Fin 1) (k : Fin 1024) (l : Fin 128) :
    shapeCast S1x1x1024x128 w shapeCasts_S1024x128_S1x1x1024x128 (ix4 0 0 k l) = w (ix2 ⟨1024 * r.val + k.val, by omega⟩ l) := by
  obtain rfl : r = 0 := Subsingleton.elim _ _
  pointwise

/-- The block of dilation 1, read at its coordinates. -/
theorem pieces1_at (T : Fin 3 → Fin 4 → FVec Ideal S1024x128 .bf16) (r : Fin 1) (k : Fin 1024) (n : Fin 1536) :
    View.canon (pieces1 T) (ix4 0 r k n)
      = T ⟨n.val / 512, by omega⟩ ⟨n.val % 512 / 128, by omega⟩ (ix2 ⟨1024 * r.val + k.val, by omega⟩ ⟨n.val % 128, by omega⟩) := by
  have h := View.canon_append_of_pieces (Val := Elt Ideal) (S := S1x1x1024x1536) (e := .bf16) (fun y : S1x1x1024x1536.Idx =>
    T ⟨(y 3).val / 512, by have h : (y 3).val < 1536 := (y 3).isLt; omega⟩ ⟨(y 3).val % 512 / 128, by omega⟩
      (ix2 ⟨1024 * (y 1).val + (y 2).val, by
        have h : (y 1).val < 1 := (y 1).isLt
        have h' : (y 2).val < 1024 := (y 2).isLt
        omega⟩ ⟨(y 3).val % 128, by omega⟩)) [] (pieces1 T) ?_ (ix4 0 r k n) ?_
  · rw [List.append_nil] at h
    exact h
  · intro p hp x
    obtain ⟨s, -, hp⟩ := List.mem_flatMap.1 hp
    obtain ⟨c, -, hp⟩ := List.mem_flatMap.1 hp
    obtain ⟨r, -, rfl⟩ := List.mem_map.1 hp
    have h0 : (x 0).val < 1 := (x 0).isLt
    have h1 : (x 1).val < 1 := (x 1).isLt
    have h2 : (x 2).val < 1024 := (x 2).isLt
    have h3 : (x 3).val < 128 := (x 3).isLt
    have hx : x = ix4 (0 : Fin 1) (0 : Fin 1) (x 2) (x 3) := by
      funext a
      match a with
      | 0 => exact Fin.ext (by show (x 0).val = 0; omega)
      | 1 => exact Fin.ext (by show (x 1).val = 0; omega)
      | 2 => rfl
      | 3 => rfl
    have e := pay1_at (T s c) r (x 2) (x 3)
    refine (congrArg _ hx).trans (e.trans ?_)
    refine congr (congr (congrArg T (Fin.ext ?_)) (Fin.ext ?_)) (congr (congrArg ix2 (Fin.ext ?_)) (Fin.ext ?_))
    · show s.val = (512 * s.val + 128 * c.val + 1 * (x 3).val) / 512; omega
    · show c.val = (512 * s.val + 128 * c.val + 1 * (x 3).val) % 512 / 128; omega
    · show 1024 * r.val + (x 2).val = 1024 * (r.val + 1 * (x 1).val) + (0 + 1 * (x 2).val); omega
    · show (x 3).val = (512 * s.val + 128 * c.val + 1 * (x 3).val) % 128; omega
  · have hs : ∀ s : Fin 3, s ∈ ([2, 1, 0] : List (Fin 3)) := by decide
    have hc : ∀ c : Fin 4, c ∈ ([3, 2, 1, 0] : List (Fin 4)) := by decide
    have hr : ∀ r : Fin 1, r ∈ ([0] : List (Fin 1)) := by decide
    refine ⟨piece1 T ⟨n.val / 512, by omega⟩ ⟨n.val % 512 / 128, by omega⟩ r, List.mem_flatMap.2 ⟨_, hs _,
      List.mem_flatMap.2 ⟨_, hc _, List.mem_map.2 ⟨r, hr r, rfl⟩⟩⟩, ?_⟩
    unfold piece1
    refine (Rect.mem_set_unit (inb := inbo1 _ _ _)).2 fun a => ?_
    match a with
    | 0 => exact ⟨Nat.le_refl 0, Nat.lt_succ_self 0⟩
    | 1 => exact ⟨Nat.le_refl _, Nat.lt_succ_self _⟩
    | 2 => exact ⟨Nat.zero_le _, by show k.val < 0 + 1024; omega⟩
    | 3 => exact ⟨by show 512 * (n.val / 512) + 128 * (n.val % 512 / 128) ≤ n.val; omega,
        by show n.val < 512 * (n.val / 512) + 128 * (n.val % 512 / 128) + 128; omega⟩

/-- What a piece of the block of dilation 4 holds. -/
theorem pay4_at (w : FVec Ideal S1024x128 .bf16) (r : Fin 4) (k : Fin 256) (l : Fin 128) :
    shapeCast S1x1x256x128 (extractStridedSlice S256x128 ![256 * r.val, 0] w (slr4 r)) shapeCasts_S256x128_S1x1x256x128 (ix4 0 0 k l) = w (ix2 ⟨256 * r.val + k.val, by omega⟩ l) := by
  skip
  pointwise

/-- The block of dilation 4, read at its coordinates. -/
theorem pieces4_at (T : Fin 3 → Fin 4 → FVec Ideal S1024x128 .bf16) (r : Fin 4) (k : Fin 256) (n : Fin 1536) :
    View.canon (pieces4 T) (ix4 0 r k n)
      = T ⟨n.val / 512, by omega⟩ ⟨n.val % 512 / 128, by omega⟩ (ix2 ⟨256 * r.val + k.val, by omega⟩ ⟨n.val % 128, by omega⟩) := by
  have h := View.canon_append_of_pieces (Val := Elt Ideal) (S := S1x4x256x1536) (e := .bf16) (fun y : S1x4x256x1536.Idx =>
    T ⟨(y 3).val / 512, by have h : (y 3).val < 1536 := (y 3).isLt; omega⟩ ⟨(y 3).val % 512 / 128, by omega⟩
      (ix2 ⟨256 * (y 1).val + (y 2).val, by
        have h : (y 1).val < 4 := (y 1).isLt
        have h' : (y 2).val < 256 := (y 2).isLt
        omega⟩ ⟨(y 3).val % 128, by omega⟩)) [] (pieces4 T) ?_ (ix4 0 r k n) ?_
  · rw [List.append_nil] at h
    exact h
  · intro p hp x
    obtain ⟨s, -, hp⟩ := List.mem_flatMap.1 hp
    obtain ⟨c, -, hp⟩ := List.mem_flatMap.1 hp
    obtain ⟨r, -, rfl⟩ := List.mem_map.1 hp
    have h0 : (x 0).val < 1 := (x 0).isLt
    have h1 : (x 1).val < 1 := (x 1).isLt
    have h2 : (x 2).val < 256 := (x 2).isLt
    have h3 : (x 3).val < 128 := (x 3).isLt
    have hx : x = ix4 (0 : Fin 1) (0 : Fin 1) (x 2) (x 3) := by
      funext a
      match a with
      | 0 => exact Fin.ext (by show (x 0).val = 0; omega)
      | 1 => exact Fin.ext (by show (x 1).val = 0; omega)
      | 2 => rfl
      | 3 => rfl
    have e := pay4_at (T s c) r (x 2) (x 3)
    refine (congrArg _ hx).trans (e.trans ?_)
    refine congr (congr (congrArg T (Fin.ext ?_)) (Fin.ext ?_)) (congr (congrArg ix2 (Fin.ext ?_)) (Fin.ext ?_))
    · show s.val = (512 * s.val + 128 * c.val + 1 * (x 3).val) / 512; omega
    · show c.val = (512 * s.val + 128 * c.val + 1 * (x 3).val) % 512 / 128; omega
    · show 256 * r.val + (x 2).val = 256 * (r.val + 1 * (x 1).val) + (0 + 1 * (x 2).val); omega
    · show (x 3).val = (512 * s.val + 128 * c.val + 1 * (x 3).val) % 128; omega
  · have hs : ∀ s : Fin 3, s ∈ ([2, 1, 0] : List (Fin 3)) := by decide
    have hc : ∀ c : Fin 4, c ∈ ([3, 2, 1, 0] : List (Fin 4)) := by decide
    have hr : ∀ r : Fin 4, r ∈ ([3, 2, 1, 0] : List (Fin 4)) := by decide
    refine ⟨piece4 T ⟨n.val / 512, by omega⟩ ⟨n.val % 512 / 128, by omega⟩ r, List.mem_flatMap.2 ⟨_, hs _,
      List.mem_flatMap.2 ⟨_, hc _, List.mem_map.2 ⟨r, hr r, rfl⟩⟩⟩, ?_⟩
    unfold piece4
    refine (Rect.mem_set_unit (inb := inbo4 _ _ _)).2 fun a => ?_
    match a with
    | 0 => exact ⟨Nat.le_refl 0, Nat.lt_succ_self 0⟩
    | 1 => exact ⟨Nat.le_refl _, Nat.lt_succ_self _⟩
    | 2 => exact ⟨Nat.zero_le _, by show k.val < 0 + 256; omega⟩
    | 3 => exact ⟨by show 512 * (n.val / 512) + 128 * (n.val % 512 / 128) ≤ n.val; omega,
        by show n.val < 512 * (n.val / 512) + 128 * (n.val % 512 / 128) + 128; omega⟩

/-- What a piece of the block of dilation 16 holds. -/
theorem pay16_at (w : FVec Ideal S1024x128 .bf16) (r : Fin 16) (k : Fin 64) (l : Fin 128) :
    shapeCast S1x1x64x128 (extractStridedSlice S64x128 ![64 * r.val, 0] w (slr16 r)) shapeCasts_S64x128_S1x1x64x128 (ix4 0 0 k l) = w (ix2 ⟨64 * r.val + k.val, by omega⟩ l) := by
  skip
  pointwise

/-- The block of dilation 16, read at its coordinates. -/
theorem pieces16_at (T : Fin 3 → Fin 4 → FVec Ideal S1024x128 .bf16) (r : Fin 16) (k : Fin 64) (n : Fin 1536) :
    View.canon (pieces16 T) (ix4 0 r k n)
      = T ⟨n.val / 512, by omega⟩ ⟨n.val % 512 / 128, by omega⟩ (ix2 ⟨64 * r.val + k.val, by omega⟩ ⟨n.val % 128, by omega⟩) := by
  have h := View.canon_append_of_pieces (Val := Elt Ideal) (S := S1x16x64x1536) (e := .bf16) (fun y : S1x16x64x1536.Idx =>
    T ⟨(y 3).val / 512, by have h : (y 3).val < 1536 := (y 3).isLt; omega⟩ ⟨(y 3).val % 512 / 128, by omega⟩
      (ix2 ⟨64 * (y 1).val + (y 2).val, by
        have h : (y 1).val < 16 := (y 1).isLt
        have h' : (y 2).val < 64 := (y 2).isLt
        omega⟩ ⟨(y 3).val % 128, by omega⟩)) [] (pieces16 T) ?_ (ix4 0 r k n) ?_
  · rw [List.append_nil] at h
    exact h
  · intro p hp x
    obtain ⟨s, -, hp⟩ := List.mem_flatMap.1 hp
    obtain ⟨c, -, hp⟩ := List.mem_flatMap.1 hp
    obtain ⟨r, -, rfl⟩ := List.mem_map.1 hp
    have h0 : (x 0).val < 1 := (x 0).isLt
    have h1 : (x 1).val < 1 := (x 1).isLt
    have h2 : (x 2).val < 64 := (x 2).isLt
    have h3 : (x 3).val < 128 := (x 3).isLt
    have hx : x = ix4 (0 : Fin 1) (0 : Fin 1) (x 2) (x 3) := by
      funext a
      match a with
      | 0 => exact Fin.ext (by show (x 0).val = 0; omega)
      | 1 => exact Fin.ext (by show (x 1).val = 0; omega)
      | 2 => rfl
      | 3 => rfl
    have e := pay16_at (T s c) r (x 2) (x 3)
    refine (congrArg _ hx).trans (e.trans ?_)
    refine congr (congr (congrArg T (Fin.ext ?_)) (Fin.ext ?_)) (congr (congrArg ix2 (Fin.ext ?_)) (Fin.ext ?_))
    · show s.val = (512 * s.val + 128 * c.val + 1 * (x 3).val) / 512; omega
    · show c.val = (512 * s.val + 128 * c.val + 1 * (x 3).val) % 512 / 128; omega
    · show 64 * r.val + (x 2).val = 64 * (r.val + 1 * (x 1).val) + (0 + 1 * (x 2).val); omega
    · show (x 3).val = (512 * s.val + 128 * c.val + 1 * (x 3).val) % 128; omega
  · have hs : ∀ s : Fin 3, s ∈ ([2, 1, 0] : List (Fin 3)) := by decide
    have hc : ∀ c : Fin 4, c ∈ ([3, 2, 1, 0] : List (Fin 4)) := by decide
    have hr : ∀ r : Fin 16, r ∈ ([15, 14, 13, 12, 11, 10, 9, 8, 7, 6, 5, 4, 3, 2, 1, 0] : List (Fin 16)) := by decide
    refine ⟨piece16 T ⟨n.val / 512, by omega⟩ ⟨n.val % 512 / 128, by omega⟩ r, List.mem_flatMap.2 ⟨_, hs _,
      List.mem_flatMap.2 ⟨_, hc _, List.mem_map.2 ⟨r, hr r, rfl⟩⟩⟩, ?_⟩
    unfold piece16
    refine (Rect.mem_set_unit (inb := inbo16 _ _ _)).2 fun a => ?_
    match a with
    | 0 => exact ⟨Nat.le_refl 0, Nat.lt_succ_self 0⟩
    | 1 => exact ⟨Nat.le_refl _, Nat.lt_succ_self _⟩
    | 2 => exact ⟨Nat.zero_le _, by show k.val < 0 + 64; omega⟩
    | 3 => exact ⟨by show 512 * (n.val / 512) + 128 * (n.val % 512 / 128) ≤ n.val; omega,
        by show n.val < 512 * (n.val / 512) + 128 * (n.val % 512 / 128) + 128; omega⟩

end Cert.ProjPf
-- ==== Proof.ProjRows.lean ====
module

public import proofs.«01_k».proof.Proof.ProjStack
public import proofs.«01_k».proof.Proof.ProjOver
public import proofs.«01_k».proof.Proof.ProjVals
public import proofs.«01_k».proof.Proof.ProjBlocks

@[expose] public section

set_option maxRecDepth 16384

noncomputable section

namespace Cert.ProjPf

open Cert.ProjIdeal Cert.ProjIdeal.Gen Idealize.ShloMosaic Idealize.ShloMosaic.TcCoe Idealize.SL.Sem

/-- The rows of a plane by residue class modulo 4, as they are read. -/
theorem chunk4_at (v : View sig .tc .vmem S8x1024x128 .f32) (P : Fin 8 → FVec Ideal S1x1024x128 .f32)
    (L : List (View.Piece (Elt Ideal) S8x1024x128 .f32)) (c : Fin 8) (n : Fin 1024) (l : Fin 128) :
    chunk4 v (stack P ++ L) c (ix2 n l) = planeAt P c ⟨n.val / 256 + 4 * (n.val % 256), by omega⟩ l :=
  (over4_at (part4 v (stack P ++ L) c) n l).trans (part4_at v P L c _ _ l)

/-- The rows of a plane by residue class modulo 4, read from rows already regrouped, as they are read. -/
theorem chunk16_at (v : View sig .tc .vmem S8x1024x128 .f32) (P : Fin 8 → FVec Ideal S1x1024x128 .f32)
    (L : List (View.Piece (Elt Ideal) S8x1024x128 .f32)) (c : Fin 8) (n : Fin 1024) (l : Fin 128) :
    chunk16 v (stack P ++ L) c (ix2 n l) = planeAt P c ⟨n.val / 64 % 4 * 256 + n.val / 64 / 4 + 4 * (n.val % 64), by omega⟩ l :=
  (over16_at (part16 v (stack P ++ L) c) n l).trans (part16_at v P L c _ _ l)

/-- The rows of a plane by residue class modulo 4, as they are read. -/
theorem chunkT4_at (v : View sig .tc .vmem S2x1024x128 .f32) (P : Fin 2 → FVec Ideal S1x1024x128 .f32)
    (L : List (View.Piece (Elt Ideal) S2x1024x128 .f32)) (c : Fin 2) (n : Fin 1024) (l : Fin 128) :
    chunkT4 v (pair P ++ L) c (ix2 n l) = planeAt P c ⟨n.val / 256 + 4 * (n.val % 256), by omega⟩ l :=
  (over4_at (partT4 v (pair P ++ L) c) n l).trans (partT4_at v P L c _ _ l)

/-- The rows of a plane by residue class modulo 4, read from rows already regrouped, as they are read. -/
theorem chunkT16_at (v : View sig .tc .vmem S2x1024x128 .f32) (P : Fin 2 → FVec Ideal S1x1024x128 .f32)
    (L : List (View.Piece (Elt Ideal) S2x1024x128 .f32)) (c : Fin 2) (n : Fin 1024) (l : Fin 128) :
    chunkT16 v (pair P ++ L) c (ix2 n l) = planeAt P c ⟨n.val / 64 % 4 * 256 + n.val / 64 / 4 + 4 * (n.val % 64), by omega⟩ l :=
  (over16_at (partT16 v (pair P ++ L) c) n l).trans (partT16_at v P L c _ _ l)

/-- A table read back whole, row by row. -/
theorem tabRead_at (v : View sig .tc .vmem S2x1024x128 .f32) (P : Fin 2 → FVec Ideal S1x1024x128 .f32) (c : Fin 2) (n : Fin 1024)
    (l : Fin 128) : tabRead v (pair P) c (ix2 n l) = P c (ix3 0 n l) := by
  unfold tabRead
  refine (castT _ n l).trans ?_
  rw [View.readCov_eq_canon', ← List.append_nil (pair P)]
  refine (pair_canon P [] _).trans ?_
  refine congr (congr (congrArg (planeAt P) (Fin.ext ?_)) (Fin.ext ?_)) (Fin.ext ?_)
  · show c.val + 1 * 0 = c.val; omega
  · show 0 + 1 * n.val = n.val; omega
  · show 0 + 1 * l.val = l.val; omega

/-- The table's rows by residue class modulo 4, -/
theorem tab4_at (v : View sig .tc .vmem S2x1024x128 .f32) (P : Fin 2 → FVec Ideal S1x1024x128 .f32) (c : Fin 2) (n : Fin 1024)
    (l : Fin 128) : chunkT4 v (pair P) c (ix2 n l) = P c (ix3 0 ⟨n.val % 256 * 4 + n.val / 256, by omega⟩ l) := by
  rw [← List.append_nil (pair P)]
  refine (chunkT4_at v P [] c n l).trans ?_
  exact congrArg (fun z => P c (ix3 0 z l)) (Fin.ext (by show _ + _ = _ + _; omega))

/-- and modulo 16, in two steps. -/
theorem tab16_at (v : View sig .tc .vmem S2x1024x128 .f32) (P : Fin 2 → FVec Ideal S1x1024x128 .f32) (c : Fin 2) (n : Fin 1024)
    (l : Fin 128) : chunkT16 v (pairB v (pair P)) c (ix2 n l) = P c (ix3 0 ⟨n.val % 64 * 16 + n.val / 64, by omega⟩ l) := by
  refine (chunkT16_at v _ (pair P) c n l).trans ?_
  refine (planeOf_at _ _ l).trans ?_
  refine (tab4_at v P c _ l).trans ?_
  exact congrArg (fun z => P c (ix3 0 z l)) (Fin.ext (by show (n.val / 64 % 4 * 256 + n.val / 64 / 4 + 4 * (n.val % 64)) % 256 * 4 + (n.val / 64 % 4 * 256 + n.val / 64 / 4 + 4 * (n.val % 64)) / 256 = n.val % 64 * 16 + n.val / 64; omega))

/-- Equal coordinates name the same entry. -/
theorem entry (U : FVec Ideal S1024x1024 .f32) {a a' b b' : Fin 1024} (h : a.val = a'.val) (h' : b.val = b'.val) :
    U (ix2 a b) = U (ix2 a' b') := by
  obtain rfl := Fin.ext h
  obtain rfl := Fin.ext h'
  rfl

/-- The normalized rows by residue class modulo 4, -/
theorem rows4_at (v : View sig .tc .vmem S8x1024x128 .f32) (U : FVec Ideal S1024x1024 .f32) (n k : Fin 1024) :
    beside (chunk4 v (stack (planeA U))) (ix2 n k) = U (ix2 ⟨n.val % 256 * 4 + n.val / 256, by omega⟩ k) := by
  refine (beside_at _ n k).trans ?_
  rw [← List.append_nil (stack (planeA U))]
  refine (chunk4_at v (planeA U) [] _ n _).trans ?_
  refine (planeA_at U _ _ _).trans ?_
  refine entry U ?_ ?_
  · show n.val / 256 + 4 * (n.val % 256) = n.val % 256 * 4 + n.val / 256; omega
  · show 128 * (k.val / 128) + k.val % 128 = k.val; omega

/-- and modulo 16, in two steps. -/
theorem rows16_at (v : View sig .tc .vmem S8x1024x128 .f32) (U : FVec Ideal S1024x1024 .f32) (n k : Fin 1024) :
    beside (chunk16 v (stackB v (stack (planeA U)))) (ix2 n k) = U (ix2 ⟨n.val % 64 * 16 + n.val / 64, by omega⟩ k) := by
  refine (beside_at _ n k).trans ?_
  refine (chunk16_at v _ (stack (planeA U)) _ n _).trans ?_
  refine (planeOf_at _ _ _).trans ?_
  rw [← List.append_nil (stack (planeA U))]
  refine (chunk4_at v (planeA U) [] _ _ _).trans ?_
  refine (planeA_at U _ _ _).trans ?_
  refine entry U ?_ ?_
  · show (n.val / 64 % 4 * 256 + n.val / 64 / 4 + 4 * (n.val % 64)) / 256 + 4 * ((n.val / 64 % 4 * 256 + n.val / 64 / 4 + 4 * (n.val % 64)) % 256) = n.val % 64 * 16 + n.val / 64; omega
  · show 128 * (k.val / 128) + k.val % 128 = k.val; omega

/-- One column of a section of a row: a query rotated and scaled, a key rotated, a value as it is. -/
def qkv (A : Fin 512 → EReal) (C S : Fin 128 → EReal) (s : Fin 3) (m : Fin 512) : EReal :=
  let R := if m.val % 64 < 16 then A m * C ⟨m.val % 128, by omega⟩
      + (if m.val % 64 < 8 then A ⟨(m.val + 8) % 512, by omega⟩ else A ⟨(m.val + 504) % 512, by omega⟩) * S ⟨m.val % 128, by omega⟩
    else A m
  if s = 0 then R * Ideal.ofBits .f32 0x3E38AA3B#32 else if s = 1 then R else A m

/-- A chunk of a section, entry by entry. -/
theorem tile_at (U : FVec Ideal S1024x1024 .f32) (C S : FVec Ideal S1024x128 .f32) (W : Fin 3 → FVec Ideal S1024x512 .f32) (s : Fin 3)
    (c : Fin 4) (n : Fin 1024) (l : Fin 128) : tile U C S W s c (ix2 n l)
      = qkv (fun m => ∑ k : Fin 1024, U (ix2 n k) * W s (ix2 k m)) (fun l => C (ix2 n l)) (fun l => S (ix2 n l)) s
        ⟨128 * c.val + l.val, by omega⟩ := by
  have e : ∀ z : Fin 128, cols (prod U (W s)) c (ix2 n z) = ∑ k : Fin 1024, U (ix2 n k) * W s (ix2 k ⟨128 * c.val + z.val, by omega⟩) :=
    fun z => (cols_at _ c n z).trans (prod_at U (W s) n _)
  unfold tile
  rw [sect_at, rot_at]
  unfold qkv
  have hl : (⟨(128 * c.val + l.val) % 128, by omega⟩ : Fin 128) = l := Fin.ext (by show (128 * c.val + l.val) % 128 = l.val; omega)
  have hm : (128 * c.val + l.val) % 64 = l.val % 64 := by omega
  simp only [e, hl, hm]
  by_cases h16 : l.val % 64 < 16
  · by_cases h8 : l.val % 64 < 8
    · simp only [if_pos h16, if_pos h8]
      have h : (⟨128 * c.val + (l.val + 8) % 128, by omega⟩ : Fin 512) = ⟨(128 * c.val + l.val + 8) % 512, by omega⟩ :=
        Fin.ext (by show 128 * c.val + (l.val + 8) % 128 = (128 * c.val + l.val + 8) % 512; omega)
      rw [h]
    · simp only [if_pos h16, if_neg h8]
      have h : (⟨128 * c.val + (l.val + 120) % 128, by omega⟩ : Fin 512) = ⟨(128 * c.val + l.val + 504) % 512, by omega⟩ :=
        Fin.ext (by show 128 * c.val + (l.val + 120) % 128 = (128 * c.val + l.val + 504) % 512; omega)
      rw [h]
  · simp only [if_neg h16]

/-- A section of the weights, entry by entry. -/
theorem secW_at (W : Vec Ideal S1024x4608 .f32) (g s : Fin 3) (k : Fin 1024) (m : Fin 512) :
    secW W g s (ix2 k m) = W (ix2 k ⟨1536 * s.val + 512 * g.val + m.val, by omega⟩) := by
  refine congrArg W ?_
  funext a
  match a with
  | 0 => exact Fin.ext (by show 0 + 1 * k.val = k.val; omega)
  | 1 => exact Fin.ext (by show 1536 * s.val + 512 * g.val + 1 * m.val = 1536 * s.val + 512 * g.val + m.val; omega)

end Cert.ProjPf
-- ==== Proof.ProjTab.lean ====
module

public import proofs.«01_k».proof.Proof.ProjRows

@[expose] public section

set_option maxRecDepth 16384

noncomputable section

namespace Cert.ProjPf

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- A rotary frequency. -/
def freq (d : ℕ) : EReal := Ideal.pow (Ideal.ofBits .f32 1223959552#32)
  (Ideal.div (-(Ideal.ofBits .f32 1073741824#32 * FloatOps.sitofp (F := Ideal) FTy.f32 (BitVec.ofNat 32 d))) (Ideal.ofBits .f32 1098907648#32))

/-- The angle of a position in a lane. -/
def ang (p : BitVec 32) (d : ℕ) : EReal := FloatOps.sitofp (F := Ideal) FTy.f32 p * freq d

/-- The number of lanes of a head, guarded against zero as the remainder is. -/
def modulus : BitVec 32 := Scalar.select (IntOp.cmpi .eq (id (constantI S_ 32 64#32) ix0) 0#32) 1#32 (id (constantI S_ 32 64#32) ix0)

/-- The lanes whose sine is negated are the first eight of a head. -/
theorem lanes : ∀ l : Fin 128, IntOp.cmpi .slt (Scalar.select
      (IntOp.andi (IntOp.cmpi .ne (IntOp.cmpi .slt (IntOp.remsi .host (BitVec.ofNat 32 l.val) modulus) 0#32) (IntOp.cmpi .slt modulus 0#32))
        (IntOp.cmpi .ne (IntOp.remsi .host (BitVec.ofNat 32 l.val) modulus) 0#32))
      (IntOp.addi (IntOp.remsi .host (BitVec.ofNat 32 l.val) modulus) modulus) (IntOp.remsi .host (BitVec.ofNat 32 l.val) modulus)) 8#32
    = if l.val % 64 < 8 then 1#1 else 0#1 := by
  decide +kernel

/-- The rows the launch takes are the input's. -/
theorem V0 (c : Dev nD) (r : Fin 16384) (k : Fin 1024) : ((V m c main_v0 : S16384x1024.Idx → EReal) (ix2 r k) : EReal) = m (c.tc.loc main_arg0) (ix3 ⟨r.val / 4096, by omega⟩ ⟨r.val % 4096, by omega⟩ k) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  pointwise

/-- The gain the launch takes is the input's. -/
theorem V1 (c : Dev nD) (k : Fin 1024) : ((V m c main_v69 : S1x1024.Idx → EReal) (ix2 0 k) : EReal) = m (c.tc.loc main_arg1) (ix1 k) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  pointwise

/-- The table of cosines of a row within its block, lane by lane, -/
theorem V3 (c : Dev nD) (r : Fin 1024) (l : Fin 128) : ((V m c main_v21 : S1024x128.Idx → EReal) (ix2 r l) : EReal) = Ideal.cos (ang (BitVec.ofNat 32 r) (l.val % 8)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  pointwise
  rfl

/-- the table of its sines, negated in the first lanes of a head, -/
theorem V4 (c : Dev nD) (r : Fin 1024) (l : Fin 128) : ((V m c main_v32 : S1024x128.Idx → EReal) (ix2 r l) : EReal) = if l.val % 64 < 8 then -Ideal.sin (ang (BitVec.ofNat 32 r) (l.val % 8)) else Ideal.sin (ang (BitVec.ofNat 32 r) (l.val % 8)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  pointwise
  refine (congrArg (fun b => Scalar.select b _ _) (lanes l)).trans ?_
  by_cases h : l.val % 64 < 8
  · simp only [if_pos h]
    rfl
  · simp only [if_neg h]
    rfl

/-- the cosines of the block's first position, -/
theorem V5 (c : Dev nD) (r : Fin 4) (l : Fin 128) : ((V m c main_v67 : S4x1x128.Idx → EReal) (ix3 r 0 l) : EReal) = Ideal.cos (ang (IntOp.muli (BitVec.ofNat 32 r) 1024#32) (l.val % 8)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  pointwise
  rfl

/-- and its sines, negated likewise. -/
theorem V6 (c : Dev nD) (r : Fin 4) (l : Fin 128) : ((V m c main_v68 : S4x1x128.Idx → EReal) (ix3 r 0 l) : EReal) = if l.val % 64 < 8 then -Ideal.sin (ang (IntOp.muli (BitVec.ofNat 32 r) 1024#32) (l.val % 8)) else Ideal.sin (ang (IntOp.muli (BitVec.ofNat 32 r) 1024#32) (l.val % 8)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  pointwise
  refine (congrArg (fun b => Scalar.select b _ _) (lanes l)).trans ?_
  by_cases h : l.val % 64 < 8
  · simp only [if_pos h]
    rfl
  · simp only [if_neg h]
    rfl

/-- A rotary frequency is a real number. -/
theorem freq_real (d : ℕ) : ∃ f : ℝ, freq d = (f : EReal) := by
  have h1 : Ideal.ofBits .f32 1223959552#32 = ((500000 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  have h3 : Ideal.ofBits .f32 1098907648#32 = ((16 : ℝ) : EReal) := by
    simp [Ideal.ofBits, Ideal.ieee, -EReal.coe_mul]; norm_num
  refine ⟨Real.rpow 500000 (-(2 * ((BitVec.ofNat 32 d).toInt : ℝ)) * (1 / 16)), ?_⟩
  unfold freq
  rw [h1, h2, h3, Ideal.div_coe (by norm_num)]
  show Ideal.pow _ (-(((2 : ℝ) : EReal) * (((BitVec.ofNat 32 d).toInt : ℝ) : EReal)) * _) = _
  rw [← EReal.coe_mul, ← EReal.coe_neg, ← EReal.coe_mul]
  rfl

/-- A position as a number. -/
theorem pos_int : ∀ p : Fin 4096, (BitVec.ofNat 32 p.val).toInt = (p.val : ℤ) := by
  decide +kernel

/-- A block's first position as a number. -/
theorem base_int : ∀ b : Fin 4, (IntOp.muli (BitVec.ofNat 32 b.val) 1024#32).toInt = (b.val * 1024 : ℤ) := by
  decide +kernel

/-- The three angles of a lane: of the block's first position, of the row within the block, and of the position, their sum. -/
theorem angles (b : Fin 4) (r : Fin 1024) (d : ℕ) : ∃ u w : ℝ, ang (IntOp.muli (BitVec.ofNat 32 b) 1024#32) d = (u : EReal)
    ∧ ang (BitVec.ofNat 32 r) d = (w : EReal) ∧ ang (BitVec.ofNat 32 (b.val * 1024 + r.val)) d = ((u + w : ℝ) : EReal) := by
  obtain ⟨f, hf⟩ := freq_real d
  have key : ∀ (z : BitVec 32), ang z d = (((z.toInt : ℝ) * f : ℝ) : EReal) := fun z => by
    unfold ang
    rw [hf, EReal.coe_mul]
    rfl
  refine ⟨_, _, key _, key _, ?_⟩
  rw [key, base_int, pos_int ⟨r.val, by omega⟩, pos_int ⟨b.val * 1024 + r.val, by omega⟩]
  refine congrArg _ ?_
  push_cast
  ring

/-- The cosine of a position from the block's and the row's, whatever the common sign of the sines. -/
theorem cos_sum (b : Fin 4) (r : Fin 1024) (d : ℕ) (q : Prop) [Decidable q] :
    Ideal.cos (ang (IntOp.muli (BitVec.ofNat 32 b) 1024#32) d) * Ideal.cos (ang (BitVec.ofNat 32 r) d)
      - (if q then -Ideal.sin (ang (IntOp.muli (BitVec.ofNat 32 b) 1024#32) d) else Ideal.sin (ang (IntOp.muli (BitVec.ofNat 32 b) 1024#32) d))
        * (if q then -Ideal.sin (ang (BitVec.ofNat 32 r) d) else Ideal.sin (ang (BitVec.ofNat 32 r) d))
      = Ideal.cos (ang (BitVec.ofNat 32 (b.val * 1024 + r.val)) d) := by
  obtain ⟨u, w, h1, h2, h3⟩ := angles b r d
  rw [h1, h2, h3]
  have e : ((Real.cos u : ℝ) : EReal) * (Real.cos w : ℝ) - ((Real.sin u : ℝ) : EReal) * (Real.sin w : ℝ) = (Real.cos (u + w) : ℝ) := by
    rw [← EReal.coe_mul, ← EReal.coe_mul, ← EReal.coe_sub, Real.cos_add]
  by_cases h : q
  · simp only [if_pos h]
    rw [neg_mul_neg (α := EReal)]
    exact e
  · simp only [if_neg h]
    exact e

/-- The sine of a position from the block's and the row's, with their common sign. -/
theorem sin_sum (b : Fin 4) (r : Fin 1024) (d : ℕ) (q : Prop) [Decidable q] :
    (if q then -Ideal.sin (ang (IntOp.muli (BitVec.ofNat 32 b) 1024#32) d) else Ideal.sin (ang (IntOp.muli (BitVec.ofNat 32 b) 1024#32) d))
        * Ideal.cos (ang (BitVec.ofNat 32 r) d)
      + Ideal.cos (ang (IntOp.muli (BitVec.ofNat 32 b) 1024#32) d)
        * (if q then -Ideal.sin (ang (BitVec.ofNat 32 r) d) else Ideal.sin (ang (BitVec.ofNat 32 r) d))
      = if q then -Ideal.sin (ang (BitVec.ofNat 32 (b.val * 1024 + r.val)) d) else Ideal.sin (ang (BitVec.ofNat 32 (b.val * 1024 + r.val)) d) := by
  obtain ⟨u, w, h1, h2, h3⟩ := angles b r d
  rw [h1, h2, h3]
  by_cases h : q
  · simp only [if_pos h]
    show -((Real.sin u : ℝ) : EReal) * (Real.cos w : ℝ) + ((Real.cos u : ℝ) : EReal) * -(Real.sin w : ℝ) = -((Real.sin (u + w) : ℝ) : EReal)
    rw [← EReal.coe_neg, ← EReal.coe_neg, ← EReal.coe_neg, ← EReal.coe_mul, ← EReal.coe_mul, ← EReal.coe_add, Real.sin_add]
    refine congrArg _ ?_
    ring
  · simp only [if_neg h]
    show ((Real.sin u : ℝ) : EReal) * (Real.cos w : ℝ) + ((Real.cos u : ℝ) : EReal) * (Real.sin w : ℝ) = ((Real.sin (u + w) : ℝ) : EReal)
    rw [← EReal.coe_mul, ← EReal.coe_mul, ← EReal.coe_add, Real.sin_add]

end Cert.ProjPf
-- ==== Proof.ProjSem.lean ====
module

public import proofs.«01_k».proof.Proof.ProjTab

@[expose] public section

noncomputable section

namespace Cert.ProjPf

open Idealize.ShloMosaic Idealize.ShloMosaic.TcCoe Idealize.SL.Sem

/-- A column of the projection of one position: its row, normalized and scaled by the gain, times the column. -/
def column (x : (⟨3, ![4, 4096, 1024]⟩ : Shape).Idx → EReal) (gain : (⟨1, ![1024]⟩ : Shape).Idx → EReal) (w : (⟨2, ![1024, 7168]⟩ : Shape).Idx → EReal) (b : Fin 4)
    (p : Fin 4096) (j : Fin 7168) : EReal :=
  ∑ k : Fin 1024, x (ix3 b p k) * Ideal.rsqrt (Ideal.div (∑ k' : Fin 1024, x (ix3 b p k') * x (ix3 b p k'))
    (Ideal.ofBits .f32 1149239296#32) + Ideal.ofBits .f32 897988541#32) * gain (ix1 k) * w (ix2 k j)

/-- A lane of the queries, keys and values of one position and group, from the columns of its projection. -/
def lane (A : Fin 7168 → EReal) (grp : Fin 3) (p : Fin 4096) (n : Fin 1536) : EReal :=
  qkv (fun m => A ⟨1536 * (n.val / 512) + 512 * grp.val + m.val, by omega⟩) (fun l => Ideal.cos (ang (BitVec.ofNat 32 p) (l.val % 8)))
    (fun l => if l.val % 64 < 8 then -Ideal.sin (ang (BitVec.ofNat 32 p) (l.val % 8)) else Ideal.sin (ang (BitVec.ofNat 32 p) (l.val % 8)))
    ⟨n.val / 512, by omega⟩ ⟨n.val % 512, by omega⟩

end Cert.ProjPf
-- ==== Proof.ProjStep.lean ====
module

public import proofs.«01_k».proof.Proof.ProjSem
public import proofs.«01_k».proof.Proof.ProjRows
public import proofs.«01_k».proof.Proof.ProjBlocks
public import Idealize.ShloMosaic.Lib.Pipeline.ValueKit

@[expose] public section

set_option maxRecDepth 16384

noncomputable section

namespace Cert.ProjPf

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Which block each operand and each result takes at a grid step. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 4, 0, 0] ∧ win0_6.index t = ![t.val % 4, 0, 0]
    ∧ win0_7.index t = ![t.val / 4, 0, t.val % 4, 0] ∧ win0_8.index t = ![t.val / 4, 0, t.val % 4, 0]
    ∧ win0_9.index t = ![t.val / 4, 0, t.val % 4, 0] :=
  (by decide +kernel : ∀ t : Fin grid0.N, _)

/-- The rows of a step. -/
theorem in0 (c : Dev nD) (t : Fin cfg0.N) (ht : t.val < 16) (r k : Fin 1024) : (iblk m c 0 t (ix2 r k) : EReal)
    = m (c.tc.loc main_arg0) (ix3 ⟨t.val / 4, by omega⟩ ⟨t.val % 4 * 1024 + r.val, by omega⟩ k) := by
  have e : (win0_0.blk t).view.emb (ix2 r k) = ix2 ⟨t.val * 1024 + r.val, by omega⟩ k := by
    funext a; fin_cases a <;> apply Fin.ext <;> blk_simp [idx t] <;> rfl
  refine (show (iblk m c 0 t (ix2 r k) : EReal) = V m c main_v0 ((win0_0.blk t).view.emb (ix2 r k)) from rfl).trans ?_
  rw [e, V0]
  exact congrArg₂ (fun a z => m (c.tc.loc main_arg0) (ix3 a z k)) (Fin.ext (by simp only; omega)) (Fin.ext (by simp only; omega))

/-- The gain. -/
theorem in1 (c : Dev nD) (t : Fin cfg0.N) (k : Fin 1024) : (iblk m c 1 t (ix2 0 k) : EReal) = m (c.tc.loc main_arg1) (ix1 k) := by
  have e : (win0_1.blk t).view.emb (ix2 0 k) = ix2 0 k := by
    funext a; fin_cases a <;> apply Fin.ext <;> blk_simp [idx t] <;> rfl
  refine (show (iblk m c 1 t (ix2 0 k) : EReal) = V m c main_v69 ((win0_1.blk t).view.emb (ix2 0 k)) from rfl).trans ?_
  rw [e, V1]

/-- The weights. -/
theorem in2 (c : Dev nD) (t : Fin cfg0.N) (k : Fin 1024) (n : Fin 4608) :
    X0_2 m c t (ix2 k n) = m (c.tc.loc main_arg2) (ix2 k ⟨n.val, by omega⟩) := by
  unfold X0_2 Pipeline.Window.fill
  rw [dif_pos (moved0_2 t _)]
  blk_point [iblk, V, idx t]

/-- The cosines of the rows. -/
theorem in3 (c : Dev nD) (t : Fin cfg0.N) (r : Fin 1024) (l : Fin 128) : (iblk m c 3 t (ix2 r l) : EReal)
    = Ideal.cos (ang (BitVec.ofNat 32 r) (l.val % 8)) := by
  have e : (win0_3.blk t).view.emb (ix2 r l) = ix2 r l := by
    funext a; fin_cases a <;> apply Fin.ext <;> blk_simp [idx t] <;> rfl
  refine (show (iblk m c 3 t (ix2 r l) : EReal) = V m c main_v21 ((win0_3.blk t).view.emb (ix2 r l)) from rfl).trans ?_
  rw [e, V3]

/-- The signed sines of the rows. -/
theorem in4 (c : Dev nD) (t : Fin cfg0.N) (r : Fin 1024) (l : Fin 128) : (iblk m c 4 t (ix2 r l) : EReal)
    = if l.val % 64 < 8 then -Ideal.sin (ang (BitVec.ofNat 32 r) (l.val % 8)) else Ideal.sin (ang (BitVec.ofNat 32 r) (l.val % 8)) := by
  have e : (win0_4.blk t).view.emb (ix2 r l) = ix2 r l := by
    funext a; fin_cases a <;> apply Fin.ext <;> blk_simp [idx t] <;> rfl
  refine (show (iblk m c 4 t (ix2 r l) : EReal) = V m c main_v32 ((win0_4.blk t).view.emb (ix2 r l)) from rfl).trans ?_
  rw [e, V4]

/-- The cosines of the step. -/
theorem in5 (c : Dev nD) (t : Fin cfg0.N) (l : Fin 128) : (iblk m c 5 t (ix3 0 0 l) : EReal)
    = Ideal.cos (ang (IntOp.muli (BitVec.ofNat 32 (t.val % 4)) 1024#32) (l.val % 8)) := by
  have e : (win0_5.blk t).view.emb (ix3 0 0 l) = ix3 ⟨t.val % 4, by omega⟩ 0 l := by
    funext a; fin_cases a <;> apply Fin.ext <;> blk_simp [idx t] <;> rfl
  refine (show (iblk m c 5 t (ix3 0 0 l) : EReal) = V m c main_v67 ((win0_5.blk t).view.emb (ix3 0 0 l)) from rfl).trans ?_
  rw [e, V5]

/-- The signed sines of the step. -/
theorem in6 (c : Dev nD) (t : Fin cfg0.N) (l : Fin 128) : (iblk m c 6 t (ix3 0 0 l) : EReal)
    = if l.val % 64 < 8 then -Ideal.sin (ang (IntOp.muli (BitVec.ofNat 32 (t.val % 4)) 1024#32) (l.val % 8))
      else Ideal.sin (ang (IntOp.muli (BitVec.ofNat 32 (t.val % 4)) 1024#32) (l.val % 8)) := by
  have e : (win0_6.blk t).view.emb (ix3 0 0 l) = ix3 ⟨t.val % 4, by omega⟩ 0 l := by
    funext a; fin_cases a <;> apply Fin.ext <;> blk_simp [idx t] <;> rfl
  refine (show (iblk m c 6 t (ix3 0 0 l) : EReal) = V m c main_v68 ((win0_6.blk t).view.emb (ix3 0 0 l)) from rfl).trans ?_
  rw [e, V6]

/-- The normalized rows of a step times a column of the weights. -/
theorem col_step (c : Dev nD) (t : Fin cfg0.N) (ht : t.val < 16) (ρ : Fin 1024) (g s : Fin 3) (k : Fin 512) :
    ∑ x : Fin 1024, (k0_pay7 (F := Ideal) (iblk m c 0 t) (iblk m c 1 t) (ix2 ρ x) : EReal) * secW (X0_2 m c t) g s (ix2 x k)
      = column (m (c.tc.loc main_arg0)) (m (c.tc.loc main_arg1)) (m (c.tc.loc main_arg2)) ⟨t.val / 4, by omega⟩
        ⟨t.val % 4 * 1024 + ρ.val, by omega⟩ ⟨1536 * s.val + 512 * g.val + k.val, by omega⟩ := by
  refine Finset.sum_congr rfl fun x _ => ?_
  rw [u_at, secW_at, in2, in1]
  simp only [in0 m c t ht]

/-- The cosines of the positions of a step. -/
theorem cos_step (c : Dev nD) (t : Fin cfg0.N) (ρ : Fin 1024) (l : Fin 128) :
    tabs (iblk m c 3 t) (iblk m c 4 t) (iblk m c 5 t) (iblk m c 6 t) 0 (ix3 0 ρ l)
      = Ideal.cos (ang (BitVec.ofNat 32 (t.val % 4 * 1024 + ρ.val)) (l.val % 8)) := by
  rw [tabs0_at, in3, in4, in5, in6]
  exact cos_sum ⟨t.val % 4, by omega⟩ ρ (l.val % 8) (l.val % 64 < 8)

/-- The signed sines of the positions of a step. -/
theorem sin_step (c : Dev nD) (t : Fin cfg0.N) (ρ : Fin 1024) (l : Fin 128) :
    tabs (iblk m c 3 t) (iblk m c 4 t) (iblk m c 5 t) (iblk m c 6 t) 1 (ix3 0 ρ l)
      = if l.val % 64 < 8 then -Ideal.sin (ang (BitVec.ofNat 32 (t.val % 4 * 1024 + ρ.val)) (l.val % 8))
        else Ideal.sin (ang (BitVec.ofNat 32 (t.val % 4 * 1024 + ρ.val)) (l.val % 8)) := by
  rw [tabs1_at, in3, in4, in5, in6]
  exact sin_sum ⟨t.val % 4, by omega⟩ ρ (l.val % 8) (l.val % 64 < 8)

/-- A lane of a tile whose row `n` holds the position `ρ` of the step. -/
theorem lane_step (c : Dev nD) (t : Fin cfg0.N) (ht : t.val < 16) (U : FVec Ideal S1024x1024 .f32) (C S : FVec Ideal S1024x128 .f32)
    (n ρ : Fin 1024) (g : Fin 3) (j : Fin 1536)
    (hU : ∀ k, U (ix2 n k) = k0_pay7 (F := Ideal) (iblk m c 0 t) (iblk m c 1 t) (ix2 ρ k))
    (hC : ∀ l, C (ix2 n l) = tabs (iblk m c 3 t) (iblk m c 4 t) (iblk m c 5 t) (iblk m c 6 t) 0 (ix3 0 ρ l))
    (hS : ∀ l, S (ix2 n l) = tabs (iblk m c 3 t) (iblk m c 4 t) (iblk m c 5 t) (iblk m c 6 t) 1 (ix3 0 ρ l)) :
    tile U C S (secW (X0_2 m c t) g) ⟨j.val / 512, by omega⟩ ⟨j.val % 512 / 128, by omega⟩ (ix2 n ⟨j.val % 128, by omega⟩)
      = lane (column (m (c.tc.loc main_arg0)) (m (c.tc.loc main_arg1)) (m (c.tc.loc main_arg2)) ⟨t.val / 4, by omega⟩
        ⟨t.val % 4 * 1024 + ρ.val, by omega⟩) g ⟨t.val % 4 * 1024 + ρ.val, by omega⟩ j := by
  rw [tile_at]
  unfold lane
  simp only [hU, hC, hS, col_step m c t ht, cos_step, sin_step]
  exact congrArg (qkv _ _ _ _) (Fin.ext (by simp only; omega))

end Cert.ProjPf
-- ==== Proof.ProjV.lean ====
module

public import proofs.«01_k».proof.Proof.ProjStep

@[expose] public section

set_option maxRecDepth 16384

noncomputable section

namespace Cert.ProjPf

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- A lane depends on its position alone. -/
theorem lane_pos (x : S4x4096x1024.Idx → EReal) (gain : S1024.Idx → EReal) (w : S1024x7168.Idx → EReal) (b : Fin 4) (grp : Fin 3) (n : Fin 1536)
    {p q : Fin 4096} (h : p.val = q.val) : lane (column x gain w b p) grp p n = lane (column x gain w b q) grp q n := by
  rw [Fin.ext h]

/-- A lane of a step's block of dilation 1. -/
theorem block1 (c : Dev nD) (t : Fin cfg0.N) (ht : t.val < 16) (r : Fin 1) (i : Fin 1024) (j : Fin 1536) :
    (outsAt0 m c t).1 (ix4 0 r i j) = lane (column (m (c.tc.loc main_arg0)) (m (c.tc.loc main_arg1)) (m (c.tc.loc main_arg2))
      ⟨t.val / 4, by omega⟩ ⟨t.val % 4 * 1024 + (i.val * 1 + r.val), by omega⟩) 0 ⟨t.val % 4 * 1024 + (i.val * 1 + r.val), by omega⟩ j := by
  unfold outsAt0
  dsimp only
  rw [out1, pieces1_at]
  obtain rfl : r = 0 := Subsingleton.elim _ _
  have hz : (⟨1024 * (0 : Fin 1).val + i.val, by omega⟩ : Fin 1024) = ⟨i.val * 1 + (0 : Fin 1).val, by omega⟩ := Fin.ext (by simp)
  rw [hz]
  exact lane_step m c t ht _ _ _ _ ⟨i.val * 1 + (0 : Fin 1).val, by omega⟩ 0 j (fun k => rfl) (fun l => tabRead_at _ _ 0 _ l) (fun l => tabRead_at _ _ 1 _ l)

/-- The queries, keys and values of dilation 1 after the launch. -/
theorem final7 (c : Dev nD) : (dats m 0 c).arrAt 7 (cfgs 0).N = fun y : S4x1x4096x1536.Idx =>
    lane (column (m (c.tc.loc main_arg0)) (m (c.tc.loc main_arg1)) (m (c.tc.loc main_arg2)) (y 0)
      ⟨(y 2).val * 1 + (y 1).val, by have h2 : (y 2).val < 4096 := (y 2).isLt; have h1 : (y 1).val < 1 := (y 1).isLt; omega⟩) 0
      ⟨(y 2).val * 1 + (y 1).val, by have h2 : (y 2).val < 4096 := (y 2).isLt; have h1 : (y 1).val < 1 := (y 1).isLt; omega⟩ (y 3) := by
  refine (dats m 0 c).arrAt_eq_of_covers 7 _ (by decide +kernel) fun t _ y => ?_
  have ht : t.val < 16 := t.isLt
  blk_simp
  rw [after0_7]
  obtain ⟨a, r, i, j, rfl⟩ : ∃ (a : Fin 1) (r : Fin 1) (i : Fin 1024) (j : Fin 1536), y = ix4 a r i j :=
    ⟨y 0, y 1, y 2, y 3, eq_ix4 _⟩
  obtain rfl : a = 0 := Subsingleton.elim _ _
  refine (block1 m c t ht r i j).trans ?_
  have ht4 : t.val / 4 < 4 := by omega
  have e0 : ((cfg0.win 7).blk t).view.emb (ix4 0 r i j) 0 = (⟨t.val / 4, ht4⟩ : Fin 4) := by
    apply Fin.ext; blk_simp [idx t] <;> rfl
  have e3 : ((cfg0.win 7).blk t).view.emb (ix4 0 r i j) 3 = j := by
    apply Fin.ext; blk_simp [idx t] <;> rfl
  rw [e0, e3]
  refine lane_pos _ _ _ _ _ _ ?_
  blk_simp [idx t]

/-- A lane of a step's block of dilation 4. -/
theorem block4 (c : Dev nD) (t : Fin cfg0.N) (ht : t.val < 16) (r : Fin 4) (i : Fin 256) (j : Fin 1536) :
    (outsAt0 m c t).2.1 (ix4 0 r i j) = lane (column (m (c.tc.loc main_arg0)) (m (c.tc.loc main_arg1)) (m (c.tc.loc main_arg2))
      ⟨t.val / 4, by omega⟩ ⟨t.val % 4 * 1024 + (i.val * 4 + r.val), by omega⟩) 1 ⟨t.val % 4 * 1024 + (i.val * 4 + r.val), by omega⟩ j := by
  unfold outsAt0
  dsimp only
  rw [out4, pieces4_at]
  have hz : (⟨(256 * r.val + i.val) % 256 * 4 + (256 * r.val + i.val) / 256, by omega⟩ : Fin 1024) = ⟨i.val * 4 + r.val, by omega⟩ :=
    Fin.ext (by simp only; omega)
  exact lane_step m c t ht _ _ _ ⟨256 * r.val + i.val, by omega⟩ ⟨i.val * 4 + r.val, by omega⟩ 1 j
    (fun k => (rows4_at _ _ _ k).trans (congrArg (fun z => k0_pay7 (F := Ideal) (iblk m c 0 t) (iblk m c 1 t) (ix2 z k)) hz))
    (fun l => (tab4_at _ _ 0 _ l).trans (congrArg (fun z => tabs (iblk m c 3 t) (iblk m c 4 t) (iblk m c 5 t) (iblk m c 6 t) 0 (ix3 0 z l)) hz))
    (fun l => (tab4_at _ _ 1 _ l).trans (congrArg (fun z => tabs (iblk m c 3 t) (iblk m c 4 t) (iblk m c 5 t) (iblk m c 6 t) 1 (ix3 0 z l)) hz))

/-- The queries, keys and values of dilation 4 after the launch. -/
theorem final8 (c : Dev nD) : (dats m 0 c).arrAt 8 (cfgs 0).N = fun y : S4x4x1024x1536.Idx =>
    lane (column (m (c.tc.loc main_arg0)) (m (c.tc.loc main_arg1)) (m (c.tc.loc main_arg2)) (y 0)
      ⟨(y 2).val * 4 + (y 1).val, by have h2 : (y 2).val < 1024 := (y 2).isLt; have h1 : (y 1).val < 4 := (y 1).isLt; omega⟩) 1
      ⟨(y 2).val * 4 + (y 1).val, by have h2 : (y 2).val < 1024 := (y 2).isLt; have h1 : (y 1).val < 4 := (y 1).isLt; omega⟩ (y 3) := by
  refine (dats m 0 c).arrAt_eq_of_covers 8 _ (by decide +kernel) fun t _ y => ?_
  have ht : t.val < 16 := t.isLt
  blk_simp
  rw [after0_8]
  obtain ⟨a, r, i, j, rfl⟩ : ∃ (a : Fin 1) (r : Fin 4) (i : Fin 256) (j : Fin 1536), y = ix4 a r i j :=
    ⟨y 0, y 1, y 2, y 3, eq_ix4 _⟩
  obtain rfl : a = 0 := Subsingleton.elim _ _
  refine (block4 m c t ht r i j).trans ?_
  have ht4 : t.val / 4 < 4 := by omega
  have e0 : ((cfg0.win 8).blk t).view.emb (ix4 0 r i j) 0 = (⟨t.val / 4, ht4⟩ : Fin 4) := by
    apply Fin.ext; blk_simp [idx t] <;> rfl
  have e3 : ((cfg0.win 8).blk t).view.emb (ix4 0 r i j) 3 = j := by
    apply Fin.ext; blk_simp [idx t] <;> rfl
  rw [e0, e3]
  refine lane_pos _ _ _ _ _ _ ?_
  blk_simp [idx t]
  show t.val % 4 * 1024 + (i.val * 4 + r.val) = (t.val % 4 * 256 + i.val) * 4 + r.val
  omega

/-- A lane of a step's block of dilation 16. -/
theorem block16 (c : Dev nD) (t : Fin cfg0.N) (ht : t.val < 16) (r : Fin 16) (i : Fin 64) (j : Fin 1536) :
    (outsAt0 m c t).2.2 (ix4 0 r i j) = lane (column (m (c.tc.loc main_arg0)) (m (c.tc.loc main_arg1)) (m (c.tc.loc main_arg2))
      ⟨t.val / 4, by omega⟩ ⟨t.val % 4 * 1024 + (i.val * 16 + r.val), by omega⟩) 2 ⟨t.val % 4 * 1024 + (i.val * 16 + r.val), by omega⟩ j := by
  unfold outsAt0
  dsimp only
  rw [out16, pieces16_at]
  have hz : (⟨(64 * r.val + i.val) % 64 * 16 + (64 * r.val + i.val) / 64, by omega⟩ : Fin 1024) = ⟨i.val * 16 + r.val, by omega⟩ :=
    Fin.ext (by simp only; omega)
  exact lane_step m c t ht _ _ _ ⟨64 * r.val + i.val, by omega⟩ ⟨i.val * 16 + r.val, by omega⟩ 2 j
    (fun k => (rows16_at _ _ _ k).trans (congrArg (fun z => k0_pay7 (F := Ideal) (iblk m c 0 t) (iblk m c 1 t) (ix2 z k)) hz))
    (fun l => (tab16_at _ _ 0 _ l).trans (congrArg (fun z => tabs (iblk m c 3 t) (iblk m c 4 t) (iblk m c 5 t) (iblk m c 6 t) 0 (ix3 0 z l)) hz))
    (fun l => (tab16_at _ _ 1 _ l).trans (congrArg (fun z => tabs (iblk m c 3 t) (iblk m c 4 t) (iblk m c 5 t) (iblk m c 6 t) 1 (ix3 0 z l)) hz))

/-- The queries, keys and values of dilation 16 after the launch. -/
theorem final9 (c : Dev nD) : (dats m 0 c).arrAt 9 (cfgs 0).N = fun y : S4x16x256x1536.Idx =>
    lane (column (m (c.tc.loc main_arg0)) (m (c.tc.loc main_arg1)) (m (c.tc.loc main_arg2)) (y 0)
      ⟨(y 2).val * 16 + (y 1).val, by have h2 : (y 2).val < 256 := (y 2).isLt; have h1 : (y 1).val < 16 := (y 1).isLt; omega⟩) 2
      ⟨(y 2).val * 16 + (y 1).val, by have h2 : (y 2).val < 256 := (y 2).isLt; have h1 : (y 1).val < 16 := (y 1).isLt; omega⟩ (y 3) := by
  refine (dats m 0 c).arrAt_eq_of_covers 9 _ (by decide +kernel) fun t _ y => ?_
  have ht : t.val < 16 := t.isLt
  blk_simp
  rw [after0_9]
  obtain ⟨a, r, i, j, rfl⟩ : ∃ (a : Fin 1) (r : Fin 16) (i : Fin 64) (j : Fin 1536), y = ix4 a r i j :=
    ⟨y 0, y 1, y 2, y 3, eq_ix4 _⟩
  obtain rfl : a = 0 := Subsingleton.elim _ _
  refine (block16 m c t ht r i j).trans ?_
  have ht4 : t.val / 4 < 4 := by omega
  have e0 : ((cfg0.win 9).blk t).view.emb (ix4 0 r i j) 0 = (⟨t.val / 4, ht4⟩ : Fin 4) := by
    apply Fin.ext; blk_simp [idx t] <;> rfl
  have e3 : ((cfg0.win 9).blk t).view.emb (ix4 0 r i j) 3 = j := by
    apply Fin.ext; blk_simp [idx t] <;> rfl
  rw [e0, e3]
  refine lane_pos _ _ _ _ _ _ ?_
  blk_simp [idx t]
  show t.val % 4 * 1024 + (i.val * 16 + r.val) = (t.val % 4 * 64 + i.val) * 16 + r.val
  omega

end Cert.ProjPf
-- ==== Proof.ProjRef.lean ====
module

public import proofs.«01_k».proof.Proof.Gen.ProjRefIdeal.Run
public import Idealize.ShloMosaic.Lib.Pipeline.ValueKit
public import proofs.«01_k».proof.Proof.ProjSem

@[expose] public section

set_option maxRecDepth 16384

noncomputable section

namespace Cert.ProjPf

open Cert.ProjRefIdeal Cert.ProjRefIdeal.Gen Cert.ProjRefIdeal.Value Idealize.ShloMosaic Idealize.ShloMosaic.TcCoe Idealize.SL.Sem

/-- The reference's projection. -/
def refProj (x : FVec Ideal S4x4096x1024 .f32) (gain : FVec Ideal S1024 .f32) (w : FVec Ideal S1024x7168 .f32) : FVec Ideal S4x4096x7168 .f32 :=
  (Host.dotGeneral dot_S4x4096x1024_S1024x7168_S4x4096x7168_2_0_01_1_n_n none (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 gain))) w)

/-- A column of it. -/
theorem refProj_at (x : FVec Ideal S4x4096x1024 .f32) (gain : FVec Ideal S1024 .f32) (w : FVec Ideal S1024x7168 .f32) (b : Fin 4)
    (p : Fin 4096) (j : Fin 7168) : refProj x gain w (ix3 b p j) = column x gain w b p j := by
  unfold refProj column
  pointwise

/-- The angles of the reference. -/
def refAng : FVec Ideal S4096x8 .f32 :=
  (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))))

/-- One of them. -/
theorem refAng_at (p : Fin 4096) (d : Fin 8) : refAng (ix2 p d) = ang (BitVec.ofNat 32 p) d := by
  unfold refAng ang freq
  pointwise

/-- The reference's rotation of the heads. -/
def refRot (h : FVec Ideal S4x4096x24x64 .f32) : FVec Ideal S4x4096x24x64 .f32 :=
  (concatenate S4x4096x24x64 3 [⟨S4x4096x24x16, (concatenate S4x4096x24x16 3 [⟨S4x4096x24x8, (subf (mulf (extractStridedSlice S4x4096x24x8 ![0, 0, 0, 0] h slices_S4x4096x24x64_S4x4096x24x8_0_0_0_0) (broadcastInDim S4x4096x24x8 ![0, 1, 2, 3] bcast_S1x4096x1x8_S4x4096x24x8_0_1_2_3 (broadcastInDim S1x4096x1x8 ![1, 3] bcast_S4096x8_S1x4096x1x8_1_3 (Host.cos refAng)))) (mulf (extractStridedSlice S4x4096x24x8 ![0, 0, 0, 8] h slices_S4x4096x24x64_S4x4096x24x8_0_0_0_8) (broadcastInDim S4x4096x24x8 ![0, 1, 2, 3] bcast_S1x4096x1x8_S4x4096x24x8_0_1_2_3 (broadcastInDim S1x4096x1x8 ![1, 3] bcast_S4096x8_S1x4096x1x8_1_3 (Host.sin refAng)))))⟩, ⟨S4x4096x24x8, (addf (mulf (extractStridedSlice S4x4096x24x8 ![0, 0, 0, 8] h slices_S4x4096x24x64_S4x4096x24x8_0_0_0_8) (broadcastInDim S4x4096x24x8 ![0, 1, 2, 3] bcast_S1x4096x1x8_S4x4096x24x8_0_1_2_3 (broadcastInDim S1x4096x1x8 ![1, 3] bcast_S4096x8_S1x4096x1x8_1_3 (Host.cos refAng)))) (mulf (extractStridedSlice S4x4096x24x8 ![0, 0, 0, 0] h slices_S4x4096x24x64_S4x4096x24x8_0_0_0_0) (broadcastInDim S4x4096x24x8 ![0, 1, 2, 3] bcast_S1x4096x1x8_S4x4096x24x8_0_1_2_3 (broadcastInDim S1x4096x1x8 ![1, 3] bcast_S4096x8_S1x4096x1x8_1_3 (Host.sin refAng)))))⟩] concatenates_S4x4096x24x8_S4x4096x24x8_S4x4096x24x16_d3)⟩, ⟨S4x4096x24x48, (extractStridedSlice S4x4096x24x48 ![0, 0, 0, 16] h slices_S4x4096x24x64_S4x4096x24x48_0_0_0_16)⟩] concatenates_S4x4096x24x16_S4x4096x24x48_S4x4096x24x64_d3)

/-- A lane of it. -/
theorem refRot_at (h : FVec Ideal S4x4096x24x64 .f32) (b : Fin 4) (p : Fin 4096) (i : Fin 24) (e : Fin 64) :
    refRot h (ix4 b p i e) = if h1 : e.val < 16 then
      (if h2 : e.val < 8 then h (ix4 b p i ⟨e.val, by omega⟩) * Ideal.cos (refAng (ix2 p ⟨e.val, by omega⟩))
          - h (ix4 b p i ⟨8 + e.val, by omega⟩) * Ideal.sin (refAng (ix2 p ⟨e.val, by omega⟩))
        else h (ix4 b p i ⟨8 + (e.val - 8), by omega⟩) * Ideal.cos (refAng (ix2 p ⟨e.val - 8, by omega⟩))
          + h (ix4 b p i ⟨e.val - 8, by omega⟩) * Ideal.sin (refAng (ix2 p ⟨e.val - 8, by omega⟩)))
      else h (ix4 b p i ⟨16 + (e.val - 16), by omega⟩) := by
  unfold refRot
  pointwise

/-- The heads of section 0 of the projection. -/
def refHead0 (P : FVec Ideal S4x4096x7168 .f32) : FVec Ideal S4x4096x24x64 .f32 :=
  shapeCast S4x4096x24x64 (extractStridedSlice S4x4096x1536 ![0, 0, 0] P slices_S4x4096x7168_S4x4096x1536_0_0_0) shapeCasts_S4x4096x1536_S4x4096x24x64

/-- A lane of them. -/
theorem refHead0_at (P : FVec Ideal S4x4096x7168 .f32) (b : Fin 4) (p : Fin 4096) (i : Fin 24) (e : Fin 64) :
    refHead0 P (ix4 b p i e) = P (ix3 b p ⟨0 + (i.val * 64 + e.val), by omega⟩) := by
  unfold refHead0
  pointwise

/-- The heads of section 1 of the projection. -/
def refHead1 (P : FVec Ideal S4x4096x7168 .f32) : FVec Ideal S4x4096x24x64 .f32 :=
  shapeCast S4x4096x24x64 (extractStridedSlice S4x4096x1536 ![0, 0, 1536] P slices_S4x4096x7168_S4x4096x1536_0_0_1536) shapeCasts_S4x4096x1536_S4x4096x24x64

/-- A lane of them. -/
theorem refHead1_at (P : FVec Ideal S4x4096x7168 .f32) (b : Fin 4) (p : Fin 4096) (i : Fin 24) (e : Fin 64) :
    refHead1 P (ix4 b p i e) = P (ix3 b p ⟨1536 + (i.val * 64 + e.val), by omega⟩) := by
  unfold refHead1
  pointwise

/-- The heads of section 2 of the projection. -/
def refHead2 (P : FVec Ideal S4x4096x7168 .f32) : FVec Ideal S4x4096x24x64 .f32 :=
  shapeCast S4x4096x24x64 (extractStridedSlice S4x4096x1536 ![0, 0, 3072] P slices_S4x4096x7168_S4x4096x1536_0_0_3072) shapeCasts_S4x4096x1536_S4x4096x24x64

/-- A lane of them. -/
theorem refHead2_at (P : FVec Ideal S4x4096x7168 .f32) (b : Fin 4) (p : Fin 4096) (i : Fin 24) (e : Fin 64) :
    refHead2 P (ix4 b p i e) = P (ix3 b p ⟨3072 + (i.val * 64 + e.val), by omega⟩) := by
  unfold refHead2
  pointwise

/-- The scaled queries. -/
def refQ (h : FVec Ideal S4x4096x24x64 .f32) : FVec Ideal S4x4096x24x64 .f32 :=
  (mulf h (broadcastInDim S4x4096x24x64 ![] bcast_S_S4x4096x24x64 (constant S_ .f32 0x3E38AA3B#32)))

/-- A lane of them. -/
theorem refQ_at (h : FVec Ideal S4x4096x24x64 .f32) (b : Fin 4) (p : Fin 4096) (i : Fin 24) (e : Fin 64) :
    refQ h (ix4 b p i e) = h (ix4 b p i e) * Ideal.ofBits .f32 0x3E38AA3B#32 := by
  unfold refQ
  pointwise

end Cert.ProjPf
-- ==== Proof.ProjRefSort.lean ====
module

public import proofs.«01_k».proof.Proof.Gen.ProjRefIdeal.Run
public import Idealize.ShloMosaic.Lib.Pipeline.ValueKit
public import proofs.«01_k».proof.Proof.ProjRef

@[expose] public section

set_option maxRecDepth 16384

noncomputable section

namespace Cert.ProjPf

open Cert.ProjRefIdeal Cert.ProjRefIdeal.Gen Cert.ProjRefIdeal.Value Idealize.ShloMosaic Idealize.ShloMosaic.TcCoe Idealize.SL.Sem

/-- The heads of group 0, queries, keys and values side by side. -/
def refGroup1 (q k v : FVec Ideal S4x4096x24x64 .f32) : FVec Ideal S4x4096x3x8x64 .f32 :=
  (concatenate S4x4096x3x8x64 2 [⟨S4x4096x1x8x64, ((broadcastInDim S4x4096x1x8x64 ![0, 1, 3, 4] bcast_S4x4096x8x64_S4x4096x1x8x64_0_1_3_4 (extractStridedSlice S4x4096x8x64 ![0, 0, 0, 0] q slices_S4x4096x24x64_S4x4096x8x64_0_0_0_0)) : (⟨S4x4096x1x8x64, .f32⟩ : BufTy).Contents (Elt Ideal))⟩, ⟨S4x4096x1x8x64, ((broadcastInDim S4x4096x1x8x64 ![0, 1, 3, 4] bcast_S4x4096x8x64_S4x4096x1x8x64_0_1_3_4 (extractStridedSlice S4x4096x8x64 ![0, 0, 0, 0] k slices_S4x4096x24x64_S4x4096x8x64_0_0_0_0)) : (⟨S4x4096x1x8x64, .f32⟩ : BufTy).Contents (Elt Ideal))⟩, ⟨S4x4096x1x8x64, ((broadcastInDim S4x4096x1x8x64 ![0, 1, 3, 4] bcast_S4x4096x8x64_S4x4096x1x8x64_0_1_3_4 (extractStridedSlice S4x4096x8x64 ![0, 0, 0, 0] v slices_S4x4096x24x64_S4x4096x8x64_0_0_0_0)) : (⟨S4x4096x1x8x64, .f32⟩ : BufTy).Contents (Elt Ideal))⟩] concatenates_S4x4096x1x8x64_S4x4096x1x8x64_S4x4096x1x8x64_S4x4096x3x8x64_d2 : (⟨S4x4096x3x8x64, .f32⟩ : BufTy).Contents (Elt Ideal))

/-- A lane of them. -/
theorem refGroup1_at (q k v : FVec Ideal S4x4096x24x64 .f32) (b : Fin 4) (p : Fin 4096) (s : Fin 3) (h : Fin 8) (e : Fin 64) :
    refGroup1 q k v (ix5 b p s h e) = if s.val < 1 then q (ix4 b p ⟨h.val, by omega⟩ e)
      else if s.val - 1 < 1 then k (ix4 b p ⟨h.val, by omega⟩ e)
      else v (ix4 b p ⟨h.val, by omega⟩ e) := by
  unfold refGroup1
  pointwise
  rfl

/-- The queries, keys and values of dilation 1, positions sorted by residue class. -/
def refSort1 (z : FVec Ideal S4x4096x3x8x64 .f32) : FVec Ideal S4x1x4096x1536 .bf16 :=
  truncf .bf16 (transpose S4x1x4096x1536 [0, 2, 1, 3] (shapeCast _ (z) shapeCasts_S4x4096x3x8x64_S4x4096x1x1536) transposes_S4x4096x1x1536_S4x1x4096x1536_0_2_1_3) bitsLt_bf16_f32

/-- A lane of them. -/
theorem refSort1_at (z : FVec Ideal S4x4096x3x8x64 .f32) (b : Fin 4) (r : Fin 1) (i : Fin 4096) (n : Fin 1536) :
    refSort1 z (ix4 b r i n) = z (ix5 b ⟨i.val * 1 + r.val, by omega⟩ ⟨n.val / 512, by omega⟩ ⟨n.val / 64 % 8, by omega⟩ ⟨n.val % 64, by omega⟩) := by
  obtain rfl : r = 0 := Subsingleton.elim _ _
  unfold refSort1
  pointwise

/-- The heads of group 1, queries, keys and values side by side. -/
def refGroup4 (q k v : FVec Ideal S4x4096x24x64 .f32) : FVec Ideal S4x4096x3x8x64 .f32 :=
  (concatenate S4x4096x3x8x64 2 [⟨S4x4096x1x8x64, ((broadcastInDim S4x4096x1x8x64 ![0, 1, 3, 4] bcast_S4x4096x8x64_S4x4096x1x8x64_0_1_3_4 (extractStridedSlice S4x4096x8x64 ![0, 0, 8, 0] q slices_S4x4096x24x64_S4x4096x8x64_0_0_8_0)) : (⟨S4x4096x1x8x64, .f32⟩ : BufTy).Contents (Elt Ideal))⟩, ⟨S4x4096x1x8x64, ((broadcastInDim S4x4096x1x8x64 ![0, 1, 3, 4] bcast_S4x4096x8x64_S4x4096x1x8x64_0_1_3_4 (extractStridedSlice S4x4096x8x64 ![0, 0, 8, 0] k slices_S4x4096x24x64_S4x4096x8x64_0_0_8_0)) : (⟨S4x4096x1x8x64, .f32⟩ : BufTy).Contents (Elt Ideal))⟩, ⟨S4x4096x1x8x64, ((broadcastInDim S4x4096x1x8x64 ![0, 1, 3, 4] bcast_S4x4096x8x64_S4x4096x1x8x64_0_1_3_4 (extractStridedSlice S4x4096x8x64 ![0, 0, 8, 0] v slices_S4x4096x24x64_S4x4096x8x64_0_0_8_0)) : (⟨S4x4096x1x8x64, .f32⟩ : BufTy).Contents (Elt Ideal))⟩] concatenates_S4x4096x1x8x64_S4x4096x1x8x64_S4x4096x1x8x64_S4x4096x3x8x64_d2 : (⟨S4x4096x3x8x64, .f32⟩ : BufTy).Contents (Elt Ideal))

/-- A lane of them. -/
theorem refGroup4_at (q k v : FVec Ideal S4x4096x24x64 .f32) (b : Fin 4) (p : Fin 4096) (s : Fin 3) (h : Fin 8) (e : Fin 64) :
    refGroup4 q k v (ix5 b p s h e) = if s.val < 1 then q (ix4 b p ⟨8 * 1 + h.val, by omega⟩ e)
      else if s.val - 1 < 1 then k (ix4 b p ⟨8 * 1 + h.val, by omega⟩ e)
      else v (ix4 b p ⟨8 * 1 + h.val, by omega⟩ e) := by
  unfold refGroup4
  pointwise
  rfl

/-- The queries, keys and values of dilation 4, positions sorted by residue class. -/
def refSort4 (z : FVec Ideal S4x4096x3x8x64 .f32) : FVec Ideal S4x4x1024x1536 .bf16 :=
  truncf .bf16 (transpose S4x4x1024x1536 [0, 2, 1, 3] (shapeCast _ (z) shapeCasts_S4x4096x3x8x64_S4x1024x4x1536) transposes_S4x1024x4x1536_S4x4x1024x1536_0_2_1_3) bitsLt_bf16_f32

/-- A lane of them. -/
theorem refSort4_at (z : FVec Ideal S4x4096x3x8x64 .f32) (b : Fin 4) (r : Fin 4) (i : Fin 1024) (n : Fin 1536) :
    refSort4 z (ix4 b r i n) = z (ix5 b ⟨i.val * 4 + r.val, by omega⟩ ⟨n.val / 512, by omega⟩ ⟨n.val / 64 % 8, by omega⟩ ⟨n.val % 64, by omega⟩) := by
  skip
  unfold refSort4
  pointwise

/-- The heads of group 2, queries, keys and values side by side. -/
def refGroup16 (q k v : FVec Ideal S4x4096x24x64 .f32) : FVec Ideal S4x4096x3x8x64 .f32 :=
  (concatenate S4x4096x3x8x64 2 [⟨S4x4096x1x8x64, ((broadcastInDim S4x4096x1x8x64 ![0, 1, 3, 4] bcast_S4x4096x8x64_S4x4096x1x8x64_0_1_3_4 (extractStridedSlice S4x4096x8x64 ![0, 0, 16, 0] q slices_S4x4096x24x64_S4x4096x8x64_0_0_16_0)) : (⟨S4x4096x1x8x64, .f32⟩ : BufTy).Contents (Elt Ideal))⟩, ⟨S4x4096x1x8x64, ((broadcastInDim S4x4096x1x8x64 ![0, 1, 3, 4] bcast_S4x4096x8x64_S4x4096x1x8x64_0_1_3_4 (extractStridedSlice S4x4096x8x64 ![0, 0, 16, 0] k slices_S4x4096x24x64_S4x4096x8x64_0_0_16_0)) : (⟨S4x4096x1x8x64, .f32⟩ : BufTy).Contents (Elt Ideal))⟩, ⟨S4x4096x1x8x64, ((broadcastInDim S4x4096x1x8x64 ![0, 1, 3, 4] bcast_S4x4096x8x64_S4x4096x1x8x64_0_1_3_4 (extractStridedSlice S4x4096x8x64 ![0, 0, 16, 0] v slices_S4x4096x24x64_S4x4096x8x64_0_0_16_0)) : (⟨S4x4096x1x8x64, .f32⟩ : BufTy).Contents (Elt Ideal))⟩] concatenates_S4x4096x1x8x64_S4x4096x1x8x64_S4x4096x1x8x64_S4x4096x3x8x64_d2 : (⟨S4x4096x3x8x64, .f32⟩ : BufTy).Contents (Elt Ideal))

/-- A lane of them. -/
theorem refGroup16_at (q k v : FVec Ideal S4x4096x24x64 .f32) (b : Fin 4) (p : Fin 4096) (s : Fin 3) (h : Fin 8) (e : Fin 64) :
    refGroup16 q k v (ix5 b p s h e) = if s.val < 1 then q (ix4 b p ⟨8 * 2 + h.val, by omega⟩ e)
      else if s.val - 1 < 1 then k (ix4 b p ⟨8 * 2 + h.val, by omega⟩ e)
      else v (ix4 b p ⟨8 * 2 + h.val, by omega⟩ e) := by
  unfold refGroup16
  pointwise
  rfl

/-- The queries, keys and values of dilation 16, positions sorted by residue class. -/
def refSort16 (z : FVec Ideal S4x4096x3x8x64 .f32) : FVec Ideal S4x16x256x1536 .bf16 :=
  truncf .bf16 (transpose S4x16x256x1536 [0, 2, 1, 3] (shapeCast _ (z) shapeCasts_S4x4096x3x8x64_S4x256x16x1536) transposes_S4x256x16x1536_S4x16x256x1536_0_2_1_3) bitsLt_bf16_f32

/-- A lane of them. -/
theorem refSort16_at (z : FVec Ideal S4x4096x3x8x64 .f32) (b : Fin 4) (r : Fin 16) (i : Fin 256) (n : Fin 1536) :
    refSort16 z (ix4 b r i n) = z (ix5 b ⟨i.val * 16 + r.val, by omega⟩ ⟨n.val / 512, by omega⟩ ⟨n.val / 64 % 8, by omega⟩ ⟨n.val % 64, by omega⟩) := by
  skip
  unfold refSort16
  pointwise

end Cert.ProjPf
-- ==== Proof.ProjRefLane.lean ====
module

public import proofs.«01_k».proof.Proof.Gen.ProjRefIdeal.Run
public import Idealize.ShloMosaic.Lib.Pipeline.ValueKit
public import proofs.«01_k».proof.Proof.ProjRef

@[expose] public section

set_option maxRecDepth 16384

noncomputable section

namespace Cert.ProjPf

open Cert.ProjRefIdeal Cert.ProjRefIdeal.Gen Cert.ProjRefIdeal.Value Idealize.ShloMosaic Idealize.ShloMosaic.TcCoe Idealize.SL.Sem

/-- A lane of the rotated heads, when the head's lanes are those of one group of 512. -/
theorem refRot_lane (h : FVec Ideal S4x4096x24x64 .f32) (A : Fin 512 → EReal) (b : Fin 4) (p : Fin 4096) (i : Fin 24) (m : Fin 512)
    (hA : ∀ e : Fin 64, h (ix4 b p i e) = A ⟨m.val / 64 * 64 + e.val, by omega⟩) :
    refRot h (ix4 b p i ⟨m.val % 64, by omega⟩) = if m.val % 64 < 16 then A m * Ideal.cos (ang (BitVec.ofNat 32 p) (m.val % 128 % 8))
      + (if m.val % 64 < 8 then A ⟨(m.val + 8) % 512, by omega⟩ else A ⟨(m.val + 504) % 512, by omega⟩)
        * (if m.val % 128 % 64 < 8 then -Ideal.sin (ang (BitVec.ofNat 32 p) (m.val % 128 % 8)) else Ideal.sin (ang (BitVec.ofNat 32 p) (m.val % 128 % 8)))
      else A m := by
  rw [refRot_at]
  simp only [hA, refAng_at]
  by_cases h1 : m.val % 64 < 16
  · rw [dif_pos h1, if_pos h1]
    by_cases h2 : m.val % 64 < 8
    · have a1 : (⟨m.val / 64 * 64 + m.val % 64, by omega⟩ : Fin 512) = m := Fin.ext (by simp only; omega)
      have a2 : (⟨m.val / 64 * 64 + (8 + m.val % 64), by omega⟩ : Fin 512) = ⟨(m.val + 8) % 512, by omega⟩ := Fin.ext (by simp only; omega)
      have a3 : m.val % 128 % 8 = m.val % 64 := by omega
      rw [dif_pos h2, if_pos h2, if_pos (by omega), a1, a2, a3, sub_eq_add_neg, mul_neg]
    · have a1 : (⟨m.val / 64 * 64 + (8 + (m.val % 64 - 8)), by omega⟩ : Fin 512) = m := Fin.ext (by simp only; omega)
      have a2 : (⟨m.val / 64 * 64 + (m.val % 64 - 8), by omega⟩ : Fin 512) = ⟨(m.val + 504) % 512, by omega⟩ := Fin.ext (by simp only; omega)
      have a3 : m.val % 128 % 8 = m.val % 64 - 8 := by omega
      rw [dif_neg h2, if_neg h2, if_neg (by omega), a1, a2, a3]
  · have a1 : (⟨m.val / 64 * 64 + (16 + (m.val % 64 - 16)), by omega⟩ : Fin 512) = m := Fin.ext (by simp only; omega)
    rw [dif_neg h1, if_neg h1, a1]

/-- The lanes of one position and group, from the rotated heads and the values. -/
theorem sorted_at (P : FVec Ideal S4x4096x7168 .f32) (b : Fin 4) (p : Fin 4096) (grp : Fin 3) (n : Fin 1536) (i : Fin 24)
    (hi : i.val = 8 * grp.val + n.val / 64 % 8) :
    (if n.val / 512 < 1 then refQ (refRot (refHead0 P)) (ix4 b p i ⟨n.val % 64, by omega⟩)
      else if n.val / 512 - 1 < 1 then refRot (refHead1 P) (ix4 b p i ⟨n.val % 64, by omega⟩)
      else refHead2 P (ix4 b p i ⟨n.val % 64, by omega⟩) : EReal) = lane (fun j => P (ix3 b p j)) grp p n := by
  have hq : (⟨n.val % 64, by omega⟩ : Fin 64) = ⟨n.val % 512 % 64, by omega⟩ := Fin.ext (by simp only; omega)
  rw [hq, refQ_at]
  unfold lane qkv
  by_cases h0 : n.val / 512 < 1
  · have s0 : (⟨n.val / 512, by omega⟩ : Fin 3) = 0 := Fin.ext (by simp only; omega)
    rw [if_pos h0, refRot_lane _ (fun m => P (ix3 b p ⟨1536 * (n.val / 512) + 512 * grp.val + m.val, by omega⟩)) b p i
      ⟨n.val % 512, by omega⟩ fun e => (refHead0_at P b p i e).trans (congrArg (fun z => P (ix3 b p z)) (Fin.ext (by simp only; omega)))]
    simp only [s0, if_true]
  · rw [if_neg h0]
    by_cases h1 : n.val / 512 - 1 < 1
    · have s1 : (⟨n.val / 512, by omega⟩ : Fin 3) = 1 := Fin.ext (by simp only; omega)
      rw [if_pos h1, refRot_lane _ (fun m => P (ix3 b p ⟨1536 * (n.val / 512) + 512 * grp.val + m.val, by omega⟩)) b p i
        ⟨n.val % 512, by omega⟩ fun e => (refHead1_at P b p i e).trans (congrArg (fun z => P (ix3 b p z)) (Fin.ext (by simp only; omega)))]
      simp only [s1, if_true, if_neg (show ¬((1 : Fin 3) = 0) by decide)]
    · have s2 : (⟨n.val / 512, by omega⟩ : Fin 3) = 2 := Fin.ext (by simp only; omega)
      rw [if_neg h1]
      simp only [s2, if_neg (show ¬((2 : Fin 3) = 0) by decide), if_neg (show ¬((2 : Fin 3) = 1) by decide)]
      exact (refHead2_at P b p i _).trans (congrArg (fun z => P (ix3 b p z)) (Fin.ext (by simp only; omega)))

end Cert.ProjPf
-- ==== Proof.ProjRefAt.lean ====
module

public import proofs.«01_k».proof.Proof.Gen.ProjRefIdeal.Run
public import Idealize.ShloMosaic.Lib.Pipeline.ValueKit
public import proofs.«01_k».proof.Proof.ProjRefSort
public import proofs.«01_k».proof.Proof.ProjRefLane

@[expose] public section

set_option maxRecDepth 16384

noncomputable section

namespace Cert.ProjPf

open Cert.ProjRefIdeal Cert.ProjRefIdeal.Gen Cert.ProjRefIdeal.Value Idealize.ShloMosaic Idealize.ShloMosaic.TcCoe Idealize.SL.Sem

/-- A lane of the reference's queries, keys and values of dilation 1. -/
theorem ref1 (m : (ℓ : Loc nD τ sig) → Buf (Elt Ideal) ℓ) (c : Dev nD) (b : Fin 4) (r : Fin 1) (i : Fin 4096) (n : Fin 1536) :
    res_main_v102 m c (ix4 b r i n) = lane (column (m (c.tc.loc main_arg0)) (m (c.tc.loc main_arg1)) (m (c.tc.loc main_arg2)) b
      ⟨i.val * 1 + r.val, by omega⟩) 0 ⟨i.val * 1 + r.val, by omega⟩ n := by
  have e : res_main_v102 m c = refSort1 (refGroup1 (refQ (refRot (refHead0 (refProj (m (c.tc.loc main_arg0)) (m (c.tc.loc main_arg1)) (m (c.tc.loc main_arg2))))))
      (refRot (refHead1 (refProj (m (c.tc.loc main_arg0)) (m (c.tc.loc main_arg1)) (m (c.tc.loc main_arg2)))))
      (refHead2 (refProj (m (c.tc.loc main_arg0)) (m (c.tc.loc main_arg1)) (m (c.tc.loc main_arg2))))) := rfl
  rw [e, refSort1_at, refGroup1_at]
  exact (sorted_at _ b _ 0 n _ (by simp)).trans (congrArg (fun A => lane A 0 _ n) (funext fun j => refProj_at _ _ _ b _ j))

/-- A lane of the reference's queries, keys and values of dilation 4. -/
theorem ref4 (m : (ℓ : Loc nD τ sig) → Buf (Elt Ideal) ℓ) (c : Dev nD) (b : Fin 4) (r : Fin 4) (i : Fin 1024) (n : Fin 1536) :
    res_main_v112 m c (ix4 b r i n) = lane (column (m (c.tc.loc main_arg0)) (m (c.tc.loc main_arg1)) (m (c.tc.loc main_arg2)) b
      ⟨i.val * 4 + r.val, by omega⟩) 1 ⟨i.val * 4 + r.val, by omega⟩ n := by
  have e : res_main_v112 m c = refSort4 (refGroup4 (refQ (refRot (refHead0 (refProj (m (c.tc.loc main_arg0)) (m (c.tc.loc main_arg1)) (m (c.tc.loc main_arg2))))))
      (refRot (refHead1 (refProj (m (c.tc.loc main_arg0)) (m (c.tc.loc main_arg1)) (m (c.tc.loc main_arg2)))))
      (refHead2 (refProj (m (c.tc.loc main_arg0)) (m (c.tc.loc main_arg1)) (m (c.tc.loc main_arg2))))) := rfl
  rw [e, refSort4_at, refGroup4_at]
  exact (sorted_at _ b _ 1 n _ (by rfl)).trans (congrArg (fun A => lane A 1 _ n) (funext fun j => refProj_at _ _ _ b _ j))

/-- A lane of the reference's queries, keys and values of dilation 16. -/
theorem ref16 (m : (ℓ : Loc nD τ sig) → Buf (Elt Ideal) ℓ) (c : Dev nD) (b : Fin 4) (r : Fin 16) (i : Fin 256) (n : Fin 1536) :
    res_main_v122 m c (ix4 b r i n) = lane (column (m (c.tc.loc main_arg0)) (m (c.tc.loc main_arg1)) (m (c.tc.loc main_arg2)) b
      ⟨i.val * 16 + r.val, by omega⟩) 2 ⟨i.val * 16 + r.val, by omega⟩ n := by
  have e : res_main_v122 m c = refSort16 (refGroup16 (refQ (refRot (refHead0 (refProj (m (c.tc.loc main_arg0)) (m (c.tc.loc main_arg1)) (m (c.tc.loc main_arg2))))))
      (refRot (refHead1 (refProj (m (c.tc.loc main_arg0)) (m (c.tc.loc main_arg1)) (m (c.tc.loc main_arg2)))))
      (refHead2 (refProj (m (c.tc.loc main_arg0)) (m (c.tc.loc main_arg1)) (m (c.tc.loc main_arg2))))) := rfl
  rw [e, refSort16_at, refGroup16_at]
  exact (sorted_at _ b _ 2 n _ (by rfl)).trans (congrArg (fun A => lane A 2 _ n) (funext fun j => refProj_at _ _ _ b _ j))

end Cert.ProjPf
-- ==== Proof.ProjClaim.lean ====
module

public import proofs.«01_k».proof.Defs
public import proofs.«01_k».proof.Proof.ProjV
public import proofs.«01_k».proof.Proof.ProjRefAt
public import Idealize.ShloMosaic.Adequacy

@[expose] public section

noncomputable section

namespace Cert.ProjPf

open Idealize.ShloMosaic Idealize.ShloMosaic.TcCoe Idealize.SL.Sem

section Kernel

open Cert.ProjIdeal Cert.ProjIdeal.Gen

/-- The projection call ends with its three results at these arrays, its arguments unchanged. -/
theorem run_vals (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v70_0) = (dats m 0 c).arrAt 7 (cfgs 0).N
      ∧ r.2.mem ((c.tc : Thread nD τ).loc main_v70_1) = (dats m 0 c).arrAt 8 (cfgs 0).N
      ∧ r.2.mem ((c.tc : Thread nD τ).loc main_v70_2) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m g) (frame m g)) fun _ h c =>
    ⟨(h.1 c).1 7, (h.1 c).1 8, (h.1 c).1 9, h.2.1 c⟩

end Kernel

/-- The result of dilation 1 is the reference's. -/
theorem same1 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Value.res_main_v102 m' c = (Cert.ProjIdeal.Gen.dats m 0 c).arrAt 7 (Cert.ProjIdeal.cfgs 0).N := by
  rw [final7]
  funext y
  obtain ⟨b, r, i, n, rfl⟩ : ∃ (b : Fin 4) (r : Fin 1) (i : Fin 4096) (n : Fin 1536), y = ix4 b r i n :=
    ⟨y 0, y 1, y 2, y 3, eq_ix4 _⟩
  refine (ref1 m' c b r i n).trans ?_
  rw [h0, h1, h2]
  rfl

/-- The result of dilation 4 is the reference's. -/
theorem same4 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Value.res_main_v112 m' c = (Cert.ProjIdeal.Gen.dats m 0 c).arrAt 8 (Cert.ProjIdeal.cfgs 0).N := by
  rw [final8]
  funext y
  obtain ⟨b, r, i, n, rfl⟩ : ∃ (b : Fin 4) (r : Fin 4) (i : Fin 1024) (n : Fin 1536), y = ix4 b r i n :=
    ⟨y 0, y 1, y 2, y 3, eq_ix4 _⟩
  refine (ref4 m' c b r i n).trans ?_
  rw [h0, h1, h2]
  rfl

/-- The result of dilation 16 is the reference's. -/
theorem same16 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Value.res_main_v122 m' c = (Cert.ProjIdeal.Gen.dats m 0 c).arrAt 9 (Cert.ProjIdeal.cfgs 0).N := by
  rw [final9]
  funext y
  obtain ⟨b, r, i, n, rfl⟩ : ∃ (b : Fin 4) (r : Fin 16) (i : Fin 256) (n : Fin 1536), y = ix4 b r i n :=
    ⟨y 0, y 1, y 2, y 3, eq_ix4 _⟩
  refine (ref16 m' c b r i n).trans ?_
  rw [h0, h1, h2]
  rfl

/-- The projection call computes its reference, all three results. -/
theorem algebraic : algebraic_ProjIdeal_ProjRefIdeal := by
  intro m g m' g' _ hagree
  refine ⟨_, _, _, run_vals m g, θ_run_mono (Cert.ProjRefIdeal.Value.run m' g') fun r h c => ?_⟩
  obtain ⟨h0, h1, h2⟩ := hagree c
  exact ⟨(h c).1.trans (same1 m m' c h0 h1 h2), (h c).2.1.trans (same4 m m' c h0 h1 h2), (h c).2.2.1.trans (same16 m m' c h0 h1 h2), (h c).2.2.2⟩

end Cert.ProjPf

end
-- ==== Proof.lean ====
/- The claims of the calls of v16: the frames are generated, the value claims are in the modules imported here. -/
module

public import proofs.«01_k».proof.Defs
public import proofs.«01_k».proof.Proof.Gen.Attn16.Frame
public import proofs.«01_k».proof.Proof.Gen.Attn16Ideal.Frame
public import proofs.«01_k».proof.Proof.Gen.Ffn.Frame
public import proofs.«01_k».proof.Proof.FfnClaim
public import proofs.«01_k».proof.Proof.Attn16Claim
public import proofs.«01_k».proof.Proof.Gen.Attn1.Frame
public import proofs.«01_k».proof.Proof.Attn1Claim
public import proofs.«01_k».proof.Proof.Gen.Attn4.Frame
public import proofs.«01_k».proof.Proof.Attn4Claim
public import proofs.«01_k».proof.Proof.Gen.Proj.Frame
public import proofs.«01_k».proof.Proof.Gen.ProjIdeal.Frame
public import proofs.«01_k».proof.Proof.ProjClaim
public import proofs.«01_k».proof.Proof.Gen.ProjRefIdeal.Run
public import Idealize.ShloMosaic.Adequacy
public import Idealize.ShloMosaic.Init

@[expose] public section

noncomputable section

namespace Cert.Proof

open Idealize.ShloMosaic Idealize.SL.Sem

/-- The feed-forward reference is host operations only: it leaves its arguments as they were, and it has no
    semaphore whose counter could end elsewhere than at zero. -/
theorem frame_ffn_ref : quiescent_FfnRefIdeal := fun m ρ _ =>
  θ_run_mono (Cert.FfnRefIdeal.Value.run m ρ) fun r h => ⟨fun c => (h c).2, sem_eq_zero_of_no_sems (by decide) r.2⟩

/-- The attention reference, likewise host operations only, leaves its argument as it was. -/
theorem frame_attn16_ref : quiescent_Attn16RefIdeal := fun m ρ _ =>
  θ_run_mono (Cert.Attn16RefIdeal.Value.run m ρ) fun r h => ⟨fun c => (h c).2.2, sem_eq_zero_of_no_sems (by decide) r.2⟩

/-- So does the reference of dilation 1. -/
theorem frame_attn1_ref : quiescent_Attn1RefIdeal := fun m ρ _ =>
  θ_run_mono (Cert.Attn1RefIdeal.Value.run m ρ) fun r h => ⟨fun c => (h c).2.2, sem_eq_zero_of_no_sems (by decide) r.2⟩

/-- So does the reference of dilation 4. -/
theorem frame_attn4_ref : quiescent_Attn4RefIdeal := fun m ρ _ =>
  θ_run_mono (Cert.Attn4RefIdeal.Value.run m ρ) fun r h => ⟨fun c => (h c).2.2, sem_eq_zero_of_no_sems (by decide) r.2⟩

/-- The projections' reference leaves its three arguments as they were. -/
theorem frame_proj_ref : quiescent_ProjRefIdeal := fun m ρ _ =>
  θ_run_mono (Cert.ProjRefIdeal.Value.run m ρ) fun r h => ⟨fun c => (h c).2.2.2, sem_eq_zero_of_no_sems (by decide) r.2⟩

/-- The claims of the five calls. -/
theorem claim : Cert.Claim :=
  ⟨Cert.Proj.Gen.facts, Cert.ProjIdeal.Gen.facts, Cert.ProjRefIdeal.Gen.facts,
    Cert.Attn1.Gen.facts, Cert.Attn1Ideal.Gen.facts, Cert.Attn1RefIdeal.Gen.facts,
    Cert.Attn4.Gen.facts, Cert.Attn4Ideal.Gen.facts, Cert.Attn4RefIdeal.Gen.facts,
    Cert.Attn16.Gen.facts, Cert.Attn16Ideal.Gen.facts, Cert.Attn16RefIdeal.Gen.facts,
    Cert.Ffn.Gen.facts, Cert.FfnIdeal.Gen.facts, Cert.FfnRefIdeal.Gen.facts,
    fun m ρ _ => Cert.Proj.Gen.frame m ρ, fun m ρ _ => Cert.ProjIdeal.Gen.frame m ρ, frame_proj_ref,
    fun m ρ _ => Cert.Attn1.Gen.frame m ρ, fun m ρ _ => Cert.Attn1Ideal.Gen.frame m ρ, frame_attn1_ref,
    fun m ρ _ => Cert.Attn4.Gen.frame m ρ, fun m ρ _ => Cert.Attn4Ideal.Gen.frame m ρ, frame_attn4_ref,
    fun m ρ _ => Cert.Attn16.Gen.frame m ρ, fun m ρ _ => Cert.Attn16Ideal.Gen.frame m ρ, frame_attn16_ref,
    fun m ρ _ => Cert.Ffn.Gen.frame m ρ, fun m ρ _ => Cert.FfnIdeal.Gen.frame m ρ, frame_ffn_ref,
    trivial, Cert.ProjPf.algebraic, trivial, Cert.Attn1Pf.algebraic1, trivial, Cert.Attn4Pf.algebraic4, trivial, Cert.AttnPf.algebraic16,
    trivial, Cert.FfnPf.algebraic⟩

end Cert.Proof

end
